-- ==== Defs.lean ====
def Pre_Kernel [hPre_in_pool : Cert.Pre_in_pool.Facts] (m : (ℓ : Loc Cert.Kernel.nD Cert.Kernel.τ Cert.Kernel.sig) → Buf (Elt Bits) ℓ) : Prop :=
  ∀ c : Dev Cert.Kernel.nD,
    (Cert.Pre_in_pool.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_in_pool : Cert.Pre_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_finite_in_pool [hPre_finite_in_pool : Cert.Pre_finite_in_pool.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_pool.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_pool [hPre_finite_in_pool : Cert.Pre_finite_in_pool.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_pool.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_in_pool : Cert.Pre_in_pool.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_in_pool : Cert.Pre_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_in_pool [hKernelIdeal : Cert.KernelIdeal.Facts] [hPre_finite_in_pool : Cert.Pre_finite_in_pool.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_pool m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_in_pool [hReferenceIdeal : Cert.ReferenceIdeal.Facts] [hPre_finite_in_pool : Cert.Pre_finite_in_pool.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_pool m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_in_pool [hKernelIdeal : Cert.KernelIdeal.Facts] [hReferenceIdeal : Cert.ReferenceIdeal.Facts] [hPre_finite_in_pool : Cert.Pre_finite_in_pool.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_pool m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v8_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "log2e_8" .f32 0x3E38AA3B#32 (((8 * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v29_0)) (v1 : (c : Dev Cert.Kernel4Ideal.nD) → Buf (Elt Ideal) ((c.tc : Thread Cert.Kernel4Ideal.nD Cert.Kernel4Ideal.τ).loc Cert.Kernel4Ideal.main_v29_1)) (v2 : (c : Dev Cert.Kernel4Ideal.nD) → Buf (Elt Ideal) ((c.tc : Thread Cert.Kernel4Ideal.nD Cert.Kernel4Ideal.τ).loc Cert.Kernel4Ideal.main_v29_2)) (v3 : (c : Dev Cert.Kernel4Ideal.nD) → Buf (Elt Ideal) ((c.tc : Thread Cert.Kernel4Ideal.nD Cert.Kernel4Ideal.τ).loc Cert.Kernel4Ideal.main_v29_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v29_0) = v0 c
          ∧ r.2.mem ((c.tc : Thread Cert.Kernel4Ideal.nD Cert.Kernel4Ideal.τ).loc Cert.Kernel4Ideal.main_v29_1) = v1 c
          ∧ r.2.mem ((c.tc : Thread Cert.Kernel4Ideal.nD Cert.Kernel4Ideal.τ).loc Cert.Kernel4Ideal.main_v29_2) = v2 c
          ∧ r.2.mem ((c.tc : Thread Cert.Kernel4Ideal.nD Cert.Kernel4Ideal.τ).loc Cert.Kernel4Ideal.main_v29_5) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_v103) = v1 c
          ∧ r.2.mem ((c.tc : Thread Cert.Reference4Ideal.nD Cert.Reference4Ideal.τ).loc Cert.Reference4Ideal.main_v104) = v2 c
          ∧ r.2.mem ((c.tc : Thread Cert.Reference4Ideal.nD Cert.Reference4Ideal.τ).loc Cert.Reference4Ideal.main_v108) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  IdealRules.named_const.Statement Cert.Kernel5Ideal.κ "log2e_8" .f32 0x3E38AA3B#32 (((8 * (Real.log 2))⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v25_0)) (v1 : (c : Dev Cert.Kernel5Ideal.nD) → Buf (Elt Ideal) ((c.tc : Thread Cert.Kernel5Ideal.nD Cert.Kernel5Ideal.τ).loc Cert.Kernel5Ideal.main_v25_2)) (v2 : (c : Dev Cert.Kernel5Ideal.nD) → Buf (Elt Ideal) ((c.tc : Thread Cert.Kernel5Ideal.nD Cert.Kernel5Ideal.τ).loc Cert.Kernel5Ideal.main_v25_3)) (v3 : (c : Dev Cert.Kernel5Ideal.nD) → Buf (Elt Ideal) ((c.tc : Thread Cert.Kernel5Ideal.nD Cert.Kernel5Ideal.τ).loc Cert.Kernel5Ideal.main_v25_5)) (v4 : (c : Dev Cert.Kernel5Ideal.nD) → Buf (Elt Ideal) ((c.tc : Thread Cert.Kernel5Ideal.nD Cert.Kernel5Ideal.τ).loc Cert.Kernel5Ideal.main_v25_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_v25_2) = v1 c
          ∧ r.2.mem ((c.tc : Thread Cert.Kernel5Ideal.nD Cert.Kernel5Ideal.τ).loc Cert.Kernel5Ideal.main_v25_3) = v2 c
          ∧ r.2.mem ((c.tc : Thread Cert.Kernel5Ideal.nD Cert.Kernel5Ideal.τ).loc Cert.Kernel5Ideal.main_v25_5) = v3 c
          ∧ r.2.mem ((c.tc : Thread Cert.Kernel5Ideal.nD Cert.Kernel5Ideal.τ).loc Cert.Kernel5Ideal.main_v25_6) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_v38) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_in_pool : Cert.Pre_in_pool.Facts) (hPre_finite_in_pool : Cert.Pre_finite_in_pool.Facts),
    quiescent_Kernel (hKernel := hKernel) (hPre_in_pool := hPre_in_pool)
    ∧ quiescent_KernelIdeal (hKernelIdeal := hKernelIdeal) (hPre_in_pool := hPre_in_pool)
    ∧ quiescent_KernelIdeal_pre_finite_in_pool (hKernelIdeal := hKernelIdeal) (hPre_finite_in_pool := hPre_finite_in_pool)
    ∧ quiescent_ReferenceIdeal (hReferenceIdeal := hReferenceIdeal)
    ∧ quiescent_ReferenceIdeal_pre_finite_in_pool (hReferenceIdeal := hReferenceIdeal) (hPre_finite_in_pool := hPre_finite_in_pool)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_in_pool (hKernelIdeal := hKernelIdeal) (hReferenceIdeal := hReferenceIdeal) (hPre_finite_in_pool := hPre_finite_in_pool)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_in_pool.lean ====
abbrev S4x4096x768 : Shape := ⟨3, ![4, 4096, 768]⟩
abbrev S4x6x4096x128 : Shape := ⟨4, ![4, 6, 4096, 128]⟩
abbrev S8x128 : Shape := ⟨2, ![8, 128]⟩
abbrev S1x128 : Shape := ⟨2, ![1, 128]⟩
abbrev S32x64 : Shape := ⟨2, ![32, 64]⟩
abbrev S32x1x768 : Shape := ⟨3, ![32, 1, 768]⟩
abbrev S32x1x256 : Shape := ⟨3, ![32, 1, 256]⟩
abbrev S2x32x256x256 : Shape := ⟨4, ![2, 32, 256, 256]⟩
abbrev S2560x6x128x128 : Shape := ⟨4, ![2560, 6, 128, 128]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S4x4096x768 : S_.BroadcastsInDim S4x4096x768 (![] : Fin 0 → Fin S4x4096x768.rank)
  reducesTo_S4x4096x768_S_d0_1_2 : S4x4096x768.ReducesTo [0, 1, 2] S_
  bcast_S_S4x6x4096x128 : S_.BroadcastsInDim S4x6x4096x128 (![] : Fin 0 → Fin S4x6x4096x128.rank)
  reducesTo_S4x6x4096x128_S_d0_1_2_3 : S4x6x4096x128.ReducesTo [0, 1, 2, 3] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg3 : FVec F S8x128 .f32) (main_v15 : IVec S_ 1) (main_v16 : FVec F S4x6x4096x128 .f32) : IVec S_ 1 :=
  let main_cst_5 : FVec F S_ .f32 := constant S_ .f32 0x7F800000#32
  let main_v17 : FVec F S4x6x4096x128 .f32 := broadcastInDim S4x6x4096x128 ![] bcast_S_S4x6x4096x128 main_cst_5
  let main_v18 : IVec S4x6x4096x128 1 := cmpf .olt main_v16 main_v17
  let main_c_6 : IVec S_ 1 := constantI S_ 1 1#1
  let main_v19 : IVec S_ 1 := (fun x v => Host.reduce IntOp.andi x v reducesTo_S4x6x4096x128_S_d0_1_2_3 h_S_) main_v18 main_c_6
  let main_v20 : IVec S_ 1 := andi main_v15 main_v19
  let main_v21 : FVec F S8x128 .f32 := Host.absf main_arg3
  let main_cst_7 : FVec F S_ .f32 := constant S_ .f32 0x7F800000#32
  let main_v22 : FVec F S8x128 .f32 := broadcastInDim S8x128 ![] bcast_S_S8x128 main_cst_7
  let main_v23 : IVec S8x128 1 := cmpf .olt main_v21 main_v22
  let main_c_8 : IVec S_ 1 := constantI S_ 1 1#1
  let main_v24 : IVec S_ 1 := (fun x v => Host.reduce IntOp.andi x v reducesTo_S8x128_S_d0_1 h_S_) main_v23 main_c_8
  let main_v25 : IVec S_ 1 := andi main_v20 main_v24
  main_v25

def fn {F : FTy → Type} [FloatOps F] (main_arg0 : FVec F S4x4096x768 .f32) (main_arg1 : FVec F S4x6x4096x128 .f32) (main_arg2 : FVec F S4x6x4096x128 .f32) (main_arg3 : FVec F S8x128 .f32) (main_arg4 : FVec F S1x128 .f32) (main_arg5 : IVec S32x64 32) (main_arg6 : FVec F S32x1x768 .f32) (main_arg7 : FVec F S32x1x768 .f32) (main_arg8 : FVec F S32x1x768 .f32) (main_arg9 : FVec F S32x1x256 .f32) (main_arg10 : FVec F S2x32x256x256 .f32) (main_arg11 : FVec F S2x32x256x256 .f32) (main_arg12 : FVec F S2560x6x128x128 .f32) (main_arg13 : FVec F S2560x6x128x128 .f32) : IVec S_ 1 :=
  let main_c : IVec S_ 32 := constantI S_ 32 0#32
  let main_v0 : IVec S32x64 32 := broadcastInDim S32x64 ![] bcast_S_S32x64 main_c
  let main_v1 : IVec S32x64 1 := cmpi .sge main_arg5 main_v0
  let main_c_0 : IVec S_ 32 := constantI S_ 32 2560#32
  let main_v2 : IVec S32x64 32 := broadcastInDim S32x64 ![] bcast_S_S32x64 main_c_0
  let main_v3 : IVec S32x64 1 := cmpi .slt main_arg5 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  let main_v6 : FVec F S4x4096x768 .f32 := Host.absf main_arg0
  let main_cst : FVec F S_ .f32 := constant S_ .f32 0x7F800000#32
  let main_v7 : FVec F S4x4096x768 .f32 := broadcastInDim S4x4096x768 ![] bcast_S_S4x4096x768 main_cst
  let main_v8 : IVec S4x4096x768 1 := cmpf .olt main_v6 main_v7
  let main_c_2 : IVec S_ 1 := constantI S_ 1 1#1
  let main_v9 : IVec S_ 1 := (fun x v => Host.reduce IntOp.andi x v reducesTo_S4x4096x768_S_d0_1_2 h_S_) main_v8 main_c_2
  let main_v10 : IVec S_ 1 := andi main_v5 main_v9
  let main_v11 : FVec F S4x6x4096x128 .f32 := Host.absf main_arg1
  let main_cst_3 : FVec F S_ .f32 := constant S_ .f32 0x7F800000#32
  let main_v12 : FVec F S4x6x4096x128 .f32 := broadcastInDim S4x6x4096x128 ![] bcast_S_S4x6x4096x128 main_cst_3
  let main_v13 : IVec S4x6x4096x128 1 := cmpf .olt main_v11 main_v12
  let main_c_4 : IVec S_ 1 := constantI S_ 1 1#1
  let main_v14 : IVec S_ 1 := (fun x v => Host.reduce IntOp.andi x v reducesTo_S4x6x4096x128_S_d0_1_2_3 h_S_) main_v13 main_c_4
  let main_v15 : IVec S_ 1 := andi main_v10 main_v14
  let main_v16 : FVec F S4x6x4096x128 .f32 := Host.absf main_arg2
  fn_part1 (F := F) main_arg3 main_v15 main_v16
-- ==== Pre_in_pool.lean ====
abbrev S4x4096x768 : Shape := ⟨3, ![4, 4096, 768]⟩
abbrev S4x6x4096x128 : Shape := ⟨4, ![4, 6, 4096, 128]⟩
abbrev S8x128 : Shape := ⟨2, ![8, 128]⟩
abbrev S1x128 : Shape := ⟨2, ![1, 128]⟩
abbrev S32x64 : Shape := ⟨2, ![32, 64]⟩
abbrev S32x1x768 : Shape := ⟨3, ![32, 1, 768]⟩
abbrev S32x1x256 : Shape := ⟨3, ![32, 1, 256]⟩
abbrev S2x32x256x256 : Shape := ⟨4, ![2, 32, 256, 256]⟩
abbrev S2560x6x128x128 : Shape := ⟨4, ![2560, 6, 128, 128]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel

variable [Facts]

def fn {F : FTy → Type} [FloatOps F] (main_arg0 : FVec F S4x4096x768 .f32) (main_arg1 : FVec F S4x6x4096x128 .f32) (main_arg2 : FVec F S4x6x4096x128 .f32) (main_arg3 : FVec F S8x128 .f32) (main_arg4 : FVec F S1x128 .f32) (main_arg5 : IVec S32x64 32) (main_arg6 : FVec F S32x1x768 .f32) (main_arg7 : FVec F S32x1x768 .f32) (main_arg8 : FVec F S32x1x768 .f32) (main_arg9 : FVec F S32x1x256 .f32) (main_arg10 : FVec F S2x32x256x256 .f32) (main_arg11 : FVec F S2x32x256x256 .f32) (main_arg12 : FVec F S2560x6x128x128 .f32) (main_arg13 : FVec F S2560x6x128x128 .f32) : IVec S_ 1 :=
  let main_c : IVec S_ 32 := constantI S_ 32 0#32
  let main_v0 : IVec S32x64 32 := broadcastInDim S32x64 ![] bcast_S_S32x64 main_c
  let main_v1 : IVec S32x64 1 := cmpi .sge main_arg5 main_v0
  let main_c_0 : IVec S_ 32 := constantI S_ 32 2560#32
  let main_v2 : IVec S32x64 32 := broadcastInDim S32x64 ![] bcast_S_S32x64 main_c_0
  let main_v3 : IVec S32x64 1 := cmpi .slt main_arg5 main_v2
  let main_v4 : IVec S32x64 1 := andi main_v1 main_v3
  let main_c_1 : IVec S_ 1 := constantI S_ 1 1#1
  let main_v5 : IVec S_ 1 := (fun x v => Host.reduce IntOp.andi x v reducesTo_S32x64_S_d0_1 h_S_) main_v4 main_c_1
  main_v5
-- ==== Kernel.lean ====
abbrev S4x4096x768 : Shape := ⟨3, ![4, 4096, 768]⟩
abbrev S4x6x4096x128 : Shape := ⟨4, ![4, 6, 4096, 128]⟩
abbrev S8x128 : Shape := ⟨2, ![8, 128]⟩
abbrev S1x128 : Shape := ⟨2, ![1, 128]⟩
abbrev S32x64 : Shape := ⟨2, ![32, 64]⟩
abbrev S32x1x768 : Shape := ⟨3, ![32, 1, 768]⟩
abbrev S32x1x256 : Shape := ⟨3, ![32, 1, 256]⟩
abbrev S2x32x256x256 : Shape := ⟨4, ![2, 32, 256, 256]⟩
abbrev S2560x6x128x128 : Shape := ⟨4, ![2560, 6, 128, 128]⟩
abbrev S_ : Shape := ⟨0, ![]⟩
abbrev S1x512x128 : Shape := ⟨3, ![1, 512, 128]⟩
abbrev S1x1x4096x128 : Shape := ⟨4, ![1, 1, 4096, 128]⟩
abbrev S1x1x768 : Shape := ⟨3, ![1, 1, 768]⟩
abbrev S1x1x256 : Shape := ⟨3, ![1, 1, 256]⟩
abbrev S1x1x256x256 : Shape := ⟨4, ![1, 1, 256, 256]⟩
abbrev S1x6x128x128 : Shape := ⟨4, ![1, 6, 128, 128]⟩
abbrev S1x1 : Shape := ⟨2, ![1, 1]⟩
abbrev S16x128 : Shape := ⟨2, ![16, 128]⟩
abbrev S16x768 : Shape := ⟨2, ![16, 768]⟩
abbrev S512x128 : Shape := ⟨2, ![512, 128]⟩
abbrev S512x1 : Shape := ⟨2, ![512, 1]⟩
abbrev S1x1x512x128 : Shape := ⟨4, ![1, 1, 512, 128]⟩
abbrev S512x512 : Shape := ⟨2, ![512, 512]⟩
abbrev S512 : Shape := ⟨1, ![512]⟩
abbrev S1x768 : Shape := ⟨2, ![1, 768]⟩
abbrev S1x1408 : Shape := ⟨2, ![1, 1408]⟩
abbrev S1x1x128x128 : Shape := ⟨4, ![1, 1, 128, 128]⟩
abbrev S128x128 : Shape := ⟨2, ![128, 128]⟩
abbrev S128x256 : Shape := ⟨2, ![128, 256]⟩
abbrev S1408x256 : Shape := ⟨2, ![1408, 256]⟩
abbrev S16x256 : Shape := ⟨2, ![16, 256]⟩
abbrev S16x1408 : Shape := ⟨2, ![16, 1408]⟩
abbrev S16x1 : Shape := ⟨2, ![16, 1]⟩
abbrev S16 : Shape := ⟨1, ![16]⟩
abbrev S128x768 : Shape := ⟨2, ![128, 768]⟩
abbrev S1408x768 : Shape := ⟨2, ![1408, 768]⟩
abbrev S1 : Shape := ⟨1, ![1]⟩
abbrev S768 : Shape := ⟨1, ![768]⟩
abbrev S1x1x128 : Shape := ⟨3, ![1, 1, 128]⟩
abbrev S1x256 : Shape := ⟨2, ![1, 256]⟩
abbrev S256x256 : Shape := ⟨2, ![256, 256]⟩
abbrev S256 : Shape := ⟨1, ![256]⟩

abbrev nBuf : Space → Nat
  | .hbm => 26
  | .vmem => 73
  | .smem => 1
  | _ => 0

abbrev bufTy : (tb : Table) → Fin (tcTables nBuf tb) → BufTy
  | .hbm, ⟨0, _⟩ => ⟨S4x4096x768, .f32⟩
  | .hbm, ⟨1, _⟩ => ⟨S4x6x4096x128, .f32⟩
  | .hbm, ⟨2, _⟩ => ⟨S4x6x4096x128, .f32⟩
  | .hbm, ⟨3, _⟩ => ⟨S8x128, .f32⟩
  | .hbm, ⟨4, _⟩ => ⟨S1x128, .f32⟩
  | .hbm, ⟨5, _⟩ => ⟨S32x1x768, .f32⟩
  | .hbm, ⟨6, _⟩ => ⟨S32x1x768, .f32⟩
  | .hbm, ⟨7, _⟩ => ⟨S32x1x768, .f32⟩
  | .hbm, ⟨8, _⟩ => ⟨S32x1x256, .f32⟩
  | .hbm, ⟨9, _⟩ => ⟨S2x32x256x256, .f32⟩
  | .hbm, ⟨10, _⟩ => ⟨S2x32x256x256, .f32⟩
  | .hbm, ⟨11, _⟩ => ⟨S2560x6x128x128, .f32⟩
  | .hbm, ⟨12, _⟩ => ⟨S2560x6x128x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x4096x768, .f32⟩
  | .hbm, ⟨19, _⟩ => ⟨S4x4096x768, .f32⟩
  | .hbm, ⟨20, _⟩ => ⟨S4x4096x768, .bf16⟩
  | .hbm, ⟨21, _⟩ => ⟨S4x6x4096x128, .bf16⟩
  | .hbm, ⟨22, _⟩ => ⟨S4x6x4096x128, .bf16⟩
  | .hbm, ⟨23, _⟩ => ⟨S4x4096x768, .bf16⟩
  | .hbm, ⟨24, _⟩ => ⟨S32x1x768, .f32⟩
  | .hbm, ⟨25, _⟩ => ⟨S32x1x256, .f32⟩
  | .local _ .vmem, ⟨0, _⟩ => ⟨S1x512x128, .bf16⟩
  | .local _ .vmem, ⟨1, _⟩ => ⟨S1x512x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S8x128, .f32⟩
  | .local _ .vmem, ⟨7, _⟩ => ⟨S1x128, .f32⟩
  | .local _ .vmem, ⟨8, _⟩ => ⟨S1x1x768, .f32⟩
  | .local _ .vmem, ⟨9, _⟩ => ⟨S1x1x768, .f32⟩
  | .local _ .vmem, ⟨10, _⟩ => ⟨S1x1x768, .f32⟩
  | .local _ .vmem, ⟨11, _⟩ => ⟨S1x1x768, .f32⟩
  | .local _ .vmem, ⟨12, _⟩ => ⟨S1x1x768, .f32⟩
  | .local _ .vmem, ⟨13, _⟩ => ⟨S1x1x768, .f32⟩
  | .local _ .vmem, ⟨14, _⟩ => ⟨S1x1x256, .f32⟩
  | .local _ .vmem, ⟨15, _⟩ => ⟨S1x1x256, .f32⟩
  | .local _ .vmem, ⟨16, _⟩ => ⟨S1x1x256x256, .f32⟩
  | .local _ .vmem, ⟨17, _⟩ => ⟨S1x1x256x256, .f32⟩
  | .local _ .vmem, ⟨18, _⟩ => ⟨S1x1x256x256, .f32⟩
  | .local _ .vmem, ⟨19, _⟩ => ⟨S1x1x256x256, .f32⟩
  | .local _ .vmem, ⟨20, _⟩ => ⟨S1x6x128x128, .f32⟩
  | .local _ .vmem, ⟨21, _⟩ => ⟨S1x6x128x128, .f32⟩
  | .local _ .vmem, ⟨22, _⟩ => ⟨S1x6x128x128, .f32⟩
  | .local _ .vmem, ⟨23, _⟩ => ⟨S1x6x128x128, .f32⟩
  | .local _ .vmem, ⟨24, _⟩ => ⟨S1x6x128x128, .f32⟩
  | .local _ .vmem, ⟨25, _⟩ => ⟨S1x6x128x128, .f32⟩
  | .local _ .vmem, ⟨26, _⟩ => ⟨S1x6x128x128, .f32⟩
  | .local _ .vmem, ⟨27, _⟩ => ⟨S1x6x128x128, .f32⟩
  | .local _ .vmem, ⟨28, _⟩ => ⟨S1x6x128x128, .f32⟩
  | .local _ .vmem, ⟨29, _⟩ => ⟨S1x6x128x128, .f32⟩
  | .local _ .vmem, ⟨30, _⟩ => ⟨S1x6x128x128, .f32⟩
  | .local _ .vmem, ⟨31, _⟩ => ⟨S1x6x128x128, .f32⟩
  | .local _ .vmem, ⟨32, _⟩ => ⟨S1x6x128x128, .f32⟩
  | .local _ .vmem, ⟨33, _⟩ => ⟨S1x6x128x128, .f32⟩
  | .local _ .vmem, ⟨34, _⟩ => ⟨S1x6x128x128, .f32⟩
  | .local _ .vmem, ⟨35, _⟩ => ⟨S1x6x128x128, .f32⟩
  | .local _ .vmem, ⟨36, _⟩ => ⟨S1x6x128x128, .f32⟩
  | .local _ .vmem, ⟨37, _⟩ => ⟨S1x6x128x128, .f32⟩
  | .local _ .vmem, ⟨38, _⟩ => ⟨S1x6x128x128, .f32⟩
  | .local _ .vmem, ⟨39, _⟩ => ⟨S1x6x128x128, .f32⟩
  | .local _ .vmem, ⟨40, _⟩ => ⟨S1x6x128x128, .f32⟩
  | .local _ .vmem, ⟨41, _⟩ => ⟨S1x6x128x128, .f32⟩
  | .local _ .vmem, ⟨42, _⟩ => ⟨S1x6x128x128, .f32⟩
  | .local _ .vmem, ⟨43, _⟩ => ⟨S1x6x128x128, .f32⟩
  | .local _ .vmem, ⟨44, _⟩ => ⟨S1x6x128x128, .f32⟩
  | .local _ .vmem, ⟨45, _⟩ => ⟨S1x6x128x128, .f32⟩
  | .local _ .vmem, ⟨46, _⟩ => ⟨S1x6x128x128, .f32⟩
  | .local _ .vmem, ⟨47, _⟩ => ⟨S1x6x128x128, .f32⟩
  | .local _ .vmem, ⟨48, _⟩ => ⟨S1x6x128x128, .f32⟩
  | .local _ .vmem, ⟨49, _⟩ => ⟨S1x6x128x128, .f32⟩
  | .local _ .vmem, ⟨50, _⟩ => ⟨S1x6x128x128, .f32⟩
  | .local _ .vmem, ⟨51, _⟩ => ⟨S1x6x128x128, .f32⟩
  | .local _ .vmem, ⟨52, _⟩ => ⟨S1x6x128x128, .f32⟩
  | .local _ .vmem, ⟨53, _⟩ => ⟨S1x6x128x128, .f32⟩
  | .local _ .vmem, ⟨54, _⟩ => ⟨S1x6x128x128, .f32⟩
  | .local _ .vmem, ⟨55, _⟩ => ⟨S1x6x128x128, .f32⟩
  | .local _ .vmem, ⟨56, _⟩ => ⟨S1x6x128x128, .f32⟩
  | .local _ .vmem, ⟨57, _⟩ => ⟨S1x6x128x128, .f32⟩
  | .local _ .vmem, ⟨58, _⟩ => ⟨S1x6x128x128, .f32⟩
  | .local _ .vmem, ⟨59, _⟩ => ⟨S1x6x128x128, .f32⟩
  | .local _ .vmem, ⟨60, _⟩ => ⟨S1x6x128x128, .f32⟩
  | .local _ .vmem, ⟨61, _⟩ => ⟨S1x6x128x128, .f32⟩
  | .local _ .vmem, ⟨62, _⟩ => ⟨S1x6x128x128, .f32⟩
  | .local _ .vmem, ⟨63, _⟩ => ⟨S1x6x128x128, .f32⟩
  | .local _ .vmem, ⟨64, _⟩ => ⟨S1x512x128, .bf16⟩
  | .local _ .vmem, ⟨65, _⟩ => ⟨S1x512x128, .bf16⟩
  | .local _ .vmem, ⟨66, _⟩ => ⟨S1x1x768, .f32⟩
  | .local _ .vmem, ⟨67, _⟩ => ⟨S1x1x768, .f32⟩
  | .local _ .vmem, ⟨68, _⟩ => ⟨S1x1x256, .f32⟩
  | .local _ .vmem, ⟨69, _⟩ => ⟨S1x1x256, .f32⟩
  | .local _ .vmem, ⟨70, _⟩ => ⟨S16x128, .f32⟩
  | .local _ .vmem, ⟨71, _⟩ => ⟨S16x128, .f32⟩
  | .local _ .vmem, ⟨72, _⟩ => ⟨S16x768, .f32⟩
  | .local _ .smem, ⟨0, _⟩ => ⟨S32x64, .i32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_stg22_0 : Ref sig .tc := ⟨.vmem, 42, rfl⟩
abbrev cc0_stg22_1 : Ref sig .tc := ⟨.vmem, 43, rfl⟩
abbrev cc0_stg23_0 : Ref sig .tc := ⟨.vmem, 44, rfl⟩
abbrev cc0_stg23_1 : Ref sig .tc := ⟨.vmem, 45, rfl⟩
abbrev cc0_stg24_0 : Ref sig .tc := ⟨.vmem, 46, rfl⟩
abbrev cc0_stg24_1 : Ref sig .tc := ⟨.vmem, 47, rfl⟩
abbrev cc0_stg25_0 : Ref sig .tc := ⟨.vmem, 48, rfl⟩
abbrev cc0_stg25_1 : Ref sig .tc := ⟨.vmem, 49, rfl⟩
abbrev cc0_stg26_0 : Ref sig .tc := ⟨.vmem, 50, rfl⟩
abbrev cc0_stg26_1 : Ref sig .tc := ⟨.vmem, 51, rfl⟩
abbrev cc0_stg27_0 : Ref sig .tc := ⟨.vmem, 52, rfl⟩
abbrev cc0_stg27_1 : Ref sig .tc := ⟨.vmem, 53, rfl⟩
abbrev cc0_stg28_0 : Ref sig .tc := ⟨.vmem, 54, rfl⟩
abbrev cc0_stg28_1 : Ref sig .tc := ⟨.vmem, 55, rfl⟩
abbrev cc0_stg29_0 : Ref sig .tc := ⟨.vmem, 56, rfl⟩
abbrev cc0_stg29_1 : Ref sig .tc := ⟨.vmem, 57, rfl⟩
abbrev cc0_stg30_0 : Ref sig .tc := ⟨.vmem, 58, rfl⟩
abbrev cc0_stg30_1 : Ref sig .tc := ⟨.vmem, 59, rfl⟩
abbrev cc0_stg31_0 : Ref sig .tc := ⟨.vmem, 60, rfl⟩
abbrev cc0_stg31_1 : Ref sig .tc := ⟨.vmem, 61, rfl⟩
abbrev cc0_stg32_0 : Ref sig .tc := ⟨.vmem, 62, rfl⟩
abbrev cc0_stg32_1 : Ref sig .tc := ⟨.vmem, 63, rfl⟩
abbrev cc0_stg33_0 : Ref sig .tc := ⟨.vmem, 64, rfl⟩
abbrev cc0_stg33_1 : Ref sig .tc := ⟨.vmem, 65, rfl⟩
abbrev cc0_stg34_0 : Ref sig .tc := ⟨.vmem, 66, rfl⟩
abbrev cc0_stg34_1 : Ref sig .tc := ⟨.vmem, 67, rfl⟩
abbrev cc0_stg35_0 : Ref sig .tc := ⟨.vmem, 68, rfl⟩
abbrev cc0_stg35_1 : Ref sig .tc := ⟨.vmem, 69, rfl⟩
abbrev cc0_scratch0 : Ref sig .tc := ⟨.vmem, 70, rfl⟩
abbrev cc0_scratch1 : Ref sig .tc := ⟨.vmem, 71, rfl⟩
abbrev cc0_scratch2 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39
abbrev cc0_sem21_0 : DmaSem sig := 40
abbrev cc0_sem21_1 : DmaSem sig := 41
abbrev cc0_sem22_0 : DmaSem sig := 42
abbrev cc0_sem22_1 : DmaSem sig := 43
abbrev cc0_sem23_0 : DmaSem sig := 44
abbrev cc0_sem23_1 : DmaSem sig := 45
abbrev cc0_sem24_0 : DmaSem sig := 46
abbrev cc0_sem24_1 : DmaSem sig := 47
abbrev cc0_sem25_0 : DmaSem sig := 48
abbrev cc0_sem25_1 : DmaSem sig := 49
abbrev cc0_sem26_0 : DmaSem sig := 50
abbrev cc0_sem26_1 : DmaSem sig := 51
abbrev cc0_sem27_0 : DmaSem sig := 52
abbrev cc0_sem27_1 : DmaSem sig := 53
abbrev cc0_sem28_0 : DmaSem sig := 54
abbrev cc0_sem28_1 : DmaSem sig := 55
abbrev cc0_sem29_0 : DmaSem sig := 56
abbrev cc0_sem29_1 : DmaSem sig := 57
abbrev cc0_sem30_0 : DmaSem sig := 58
abbrev cc0_sem30_1 : DmaSem sig := 59
abbrev cc0_sem31_0 : DmaSem sig := 60
abbrev cc0_sem31_1 : DmaSem sig := 61
abbrev cc0_sem32_0 : DmaSem sig := 62
abbrev cc0_sem32_1 : DmaSem sig := 63
abbrev cc0_sem33_0 : DmaSem sig := 64
abbrev cc0_sem33_1 : DmaSem sig := 65
abbrev cc0_sem34_0 : DmaSem sig := 66
abbrev cc0_sem34_1 : DmaSem sig := 67
abbrev cc0_sem35_0 : DmaSem sig := 68
abbrev cc0_sem35_1 : DmaSem sig := 69

abbrev nD : Nat := 1
abbrev τ : Topo := Topo.v7x

variable {F : FTy → Type} [FloatOps F]

abbrev grid0 : Pipeline.Grid := ⟨3, ![4, 6, 8], ![false, false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_11 : BitVec 32) : Fin 2 → Nat :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c8_i32 : BitVec 32 := 8#32
  let v2 : BitVec 32 := Scalar.muli v1 c8_i32
  let arg2 : BitVec 32 := BitVec.ofNat 32 (i 2).val
  let v3 : BitVec 32 := Scalar.addi v2 arg2
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c6_i32_0 : BitVec 32 := 6#32
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let v4 : BitVec 32 := Scalar.divsi v3 c6_i32_0
  let c1_i32 : BitVec 32 := 1#32
  let v19 : BitVec 32 := Scalar.subi v4 c1_i32
  let v20 : BitVec 32 := Scalar.select v18 v19 v4
  let v34 : Index := Scalar.indexCast v20
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let v32 : BitVec 32 := Scalar.addi v31 c0_i32_11
  let c63_i32 : BitVec 32 := 63#32
  let v33 : BitVec 32 := Scalar.minsi v32 c63_i32
  let v35 : Index := Scalar.indexCast v33
  ![v34.toNat, v35.toNat]
@[reducible] def k0_t1_loop (i : grid0.Coords) : Scf.Loop 32 :=
  let c0_i32_14 : BitVec 32 := 0#32
  let arg2 : BitVec 32 := BitVec.ofNat 32 (i 2).val
  let v35 : BitVec 32 := Scalar.subi arg2 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_16 : BitVec 32 := 1#32
  ⟨c0_i32_14, v39, c1_i32_16⟩
def k0_mult1 (i : grid0.Coords) (k0_t1 : Fin (k0_t1_loop i).trips) : BitVec 32 :=
  let c0_i32_14 : BitVec 32 := 0#32
  let c1_i32_16 : BitVec 32 := 1#32
  let arg43 : BitVec 32 := Scf.iv c0_i32_14 c1_i32_16 k0_t1
  let c512_i32_603 : BitVec 32 := 512#32
  let v582 : BitVec 32 := Scalar.muli arg43 c512_i32_603
  v582
def k0_off2 (i : grid0.Coords) (k0_t1 : Fin (k0_t1_loop i).trips) : Fin 4 → Nat :=
  let c0_604 : Index := 0#32
  let c0_605 : Index := 0#32
  let c0_i32_14 : BitVec 32 := 0#32
  let c1_i32_16 : BitVec 32 := 1#32
  let arg43 : BitVec 32 := Scf.iv c0_i32_14 c1_i32_16 k0_t1
  let c512_i32_603 : BitVec 32 := 512#32
  let v582 : BitVec 32 := Scalar.muli arg43 c512_i32_603
  let v583 : BitVec 32 := v582
  let v584 : Index := Scalar.indexCast v583
  let c0_606 : Index := 0#32
  ![0, 0, v584.toNat, 0]
@[reducible] def k0_t2_loop (i : grid0.Coords) : Scf.Loop 32 :=
  let c0_i32_14 : BitVec 32 := 0#32
  let arg2 : BitVec 32 := BitVec.ofNat 32 (i 2).val
  let v35 : BitVec 32 := Scalar.subi arg2 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let v36 : BitVec 32 := Scalar.addi c0_i32_14 v35
  let c1_i32_17 : BitVec 32 := 1#32
  ⟨v39, v36, c1_i32_17⟩
def k0_mult2 (i : grid0.Coords) (k0_t2 : Fin (k0_t2_loop i).trips) : BitVec 32 :=
  let c0_i32_14 : BitVec 32 := 0#32
  let arg2 : BitVec 32 := BitVec.ofNat 32 (i 2).val
  let v35 : BitVec 32 := Scalar.subi arg2 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg43 : BitVec 32 := Scf.iv v39 c1_i32_17 k0_t2
  let c512_i32_603 : BitVec 32 := 512#32
  let v582 : BitVec 32 := Scalar.muli arg43 c512_i32_603
  v582
def k0_off3 (i : grid0.Coords) (k0_t2 : Fin (k0_t2_loop i).trips) : Fin 4 → Nat :=
  let c0_604 : Index := 0#32
  let c0_605 : Index := 0#32
  let c0_i32_14 : BitVec 32 := 0#32
  let arg2 : BitVec 32 := BitVec.ofNat 32 (i 2).val
  let v35 : BitVec 32 := Scalar.subi arg2 c0_i32_14
  let c1_i32_15 : BitVec 32 := 1#32
  let v37 : BitVec 32 := Scalar.divsi v35 c1_i32_15
  let v38 : BitVec 32 := Scalar.muli v37 c1_i32_15
  let v39 : BitVec 32 := Scalar.addi c0_i32_14 v38
  let c1_i32_17 : BitVec 32 := 1#32
  let arg43 : BitVec 32 := Scf.iv v39 c1_i32_17 k0_t2
  let c512_i32_603 : BitVec 32 := 512#32
  let v582 : BitVec 32 := Scalar.muli arg43 c512_i32_603
  let v583 : BitVec 32 := v582
  let v584 : Index := Scalar.indexCast v583
  let c0_606 : Index := 0#32
  ![0, 0, v584.toNat, 0]
def k0_mult3 (i : grid0.Coords) : BitVec 32 :=
  let arg2 : BitVec 32 := BitVec.ofNat 32 (i 2).val
  let c512_i32 : BitVec 32 := 512#32
  let v483 : BitVec 32 := Scalar.muli arg2 c512_i32
  v483
def k0_off4 (i : grid0.Coords) : Fin 4 → Nat :=
  let c0_572 : Index := 0#32
  let c0_573 : Index := 0#32
  let arg2 : BitVec 32 := BitVec.ofNat 32 (i 2).val
  let c512_i32 : BitVec 32 := 512#32
  let v483 : BitVec 32 := Scalar.muli arg2 c512_i32
  let v484 : BitVec 32 := v483
  let v485 : Index := Scalar.indexCast v484
  let c0_574 : Index := 0#32
  ![0, 0, v485.toNat, 0]
def k0_cond2 (i : grid0.Coords) : BitVec 1 :=
  let arg0 : BitVec 32 := BitVec.ofNat 32 (i 0).val
  let c6_i32 : BitVec 32 := 6#32
  let v0 : BitVec 32 := Scalar.muli arg0 c6_i32
  let arg1 : BitVec 32 := BitVec.ofNat 32 (i 1).val
  let v1 : BitVec 32 := Scalar.addi v0 arg1
  let c8_i32 : BitVec 32 := 8#32
  let v2 : BitVec 32 := Scalar.muli v1 c8_i32
  let arg2 : BitVec 32 := BitVec.ofNat 32 (i 2).val
  let v3 : BitVec 32 := Scalar.addi v2 arg2
  let c6_i32_0 : BitVec 32 := 6#32
  let c0_i32 : BitVec 32 := 0#32
  let v4 : BitVec 1 := Scalar.cmpi .eq c6_i32_0 c0_i32
  let c1_i32 : BitVec 32 := 1#32
  let v5 : BitVec 32 := Scalar.select v4 c1_i32 c6_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c5_i32 : BitVec 32 := 5#32
  let v579 : BitVec 1 := Scalar.cmpi .eq v13 c5_i32
  let v580 : BitVec 32 := Scalar.extui v579
  let c0_i32_602 : BitVec 32 := 0#32
  let v581 : BitVec 1 := Scalar.cmpi .ne v580 c0_i32_602
  v581

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let c0_i32_6 : BitVec 32 := 0#32
  let c0_i32_7 : BitVec 32 := 0#32
  let c0_i32_8 : BitVec 32 := 0#32
  ![c1_i32_5.toNat, v20.toNat, c0_i32_6.toNat, c0_i32_7.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c1_i32_5 : BitVec 32 := 1#32
  let c0_i32_6 : BitVec 32 := 0#32
  let c0_i32_7 : BitVec 32 := 0#32
  let c0_i32_8 : BitVec 32 := 0#32
  ![c1_i32_5.toNat, v20.toNat, c0_i32_6.toNat, c0_i32_7.toNat]

def cc0_transform_11 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c0_i32_11 : BitVec 32 := 0#32
  let v32 : BitVec 32 := Scalar.addi v31 c0_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 0)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_12 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c1_i32_11 : BitVec 32 := 1#32
  let v32 : BitVec 32 := Scalar.addi v31 c1_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 1)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_13 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c2_i32 : BitVec 32 := 2#32
  let v32 : BitVec 32 := Scalar.addi v31 c2_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 2)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_14 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c3_i32 : BitVec 32 := 3#32
  let v32 : BitVec 32 := Scalar.addi v31 c3_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 3)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_15 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c4_i32 : BitVec 32 := 4#32
  let v32 : BitVec 32 := Scalar.addi v31 c4_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 4)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_16 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c5_i32 : BitVec 32 := 5#32
  let v32 : BitVec 32 := Scalar.addi v31 c5_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 5)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_17 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c6_i32_11 : BitVec 32 := 6#32
  let v32 : BitVec 32 := Scalar.addi v31 c6_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 6)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_18 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c7_i32 : BitVec 32 := 7#32
  let v32 : BitVec 32 := Scalar.addi v31 c7_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 7)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_19 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c8_i32_11 : BitVec 32 := 8#32
  let v32 : BitVec 32 := Scalar.addi v31 c8_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 8)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_20 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c9_i32 : BitVec 32 := 9#32
  let v32 : BitVec 32 := Scalar.addi v31 c9_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 9)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_21 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c10_i32 : BitVec 32 := 10#32
  let v32 : BitVec 32 := Scalar.addi v31 c10_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 10)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_22 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c0_i32_11 : BitVec 32 := 0#32
  let v32 : BitVec 32 := Scalar.addi v31 c0_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 0)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_23 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c1_i32_11 : BitVec 32 := 1#32
  let v32 : BitVec 32 := Scalar.addi v31 c1_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 1)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_24 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c2_i32 : BitVec 32 := 2#32
  let v32 : BitVec 32 := Scalar.addi v31 c2_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 2)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_25 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c3_i32 : BitVec 32 := 3#32
  let v32 : BitVec 32 := Scalar.addi v31 c3_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 3)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_26 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c4_i32 : BitVec 32 := 4#32
  let v32 : BitVec 32 := Scalar.addi v31 c4_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 4)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_27 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c5_i32 : BitVec 32 := 5#32
  let v32 : BitVec 32 := Scalar.addi v31 c5_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 5)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_28 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c6_i32_11 : BitVec 32 := 6#32
  let v32 : BitVec 32 := Scalar.addi v31 c6_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 6)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_29 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c7_i32 : BitVec 32 := 7#32
  let v32 : BitVec 32 := Scalar.addi v31 c7_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 7)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_30 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c8_i32_11 : BitVec 32 := 8#32
  let v32 : BitVec 32 := Scalar.addi v31 c8_i32_11
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 8)) numel1_S1x1
  let c0_i32_12 : BitVec 32 := 0#32
  let c0_i32_13 : BitVec 32 := 0#32
  let c0_i32_14 : BitVec 32 := 0#32
  let c0_i32_15 : BitVec 32 := 0#32
  ![v36.toNat, c0_i32_12.toNat, c0_i32_13.toNat, c0_i32_14.toNat]

def cc0_transform_31 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c9_i32 : BitVec 32 := 9#32
  let v32 : BitVec 32 := Scalar.addi v31 c9_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 9)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_32 (k0_off1_inb : ∀ i : grid0.Coords, ∀ (r : Fin 11), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c6_i32_5 : BitVec 32 := 6#32
  let c0_i32_6 : BitVec 32 := 0#32
  let v21 : BitVec 1 := Scalar.cmpi .eq c6_i32_5 c0_i32_6
  let c1_i32_7 : BitVec 32 := 1#32
  let v22 : BitVec 32 := Scalar.select v21 c1_i32_7 c6_i32_5
  let v23 : BitVec 32 := Scalar.remsi v3 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let c11_i32 : BitVec 32 := 11#32
  let v31 : BitVec 32 := Scalar.muli v30 c11_i32
  let c10_i32 : BitVec 32 := 10#32
  let v32 : BitVec 32 := Scalar.addi v31 c10_i32
  let c63_i32 : BitVec 32 := 63#32
  let v33 : BitVec 32 := Scalar.minsi v32 c63_i32
  let v34 : Index := Scalar.indexCast v20
  let v35 : Index := Scalar.indexCast v33
  let v36 : BitVec 32 := pf.at 0 (Rect.unit (s := S32x64) ![v34.toNat, v35.toNat] S1x1.size (k0_off1_inb i 10)) numel1_S1x1
  let c0_i32_11 : BitVec 32 := 0#32
  let c0_i32_12 : BitVec 32 := 0#32
  let c0_i32_13 : BitVec 32 := 0#32
  let c0_i32_14 : BitVec 32 := 0#32
  ![v36.toNat, c0_i32_11.toNat, c0_i32_12.toNat, c0_i32_13.toNat]

def cc0_transform_33 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_34 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

def cc0_transform_35 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c8_i32 : BitVec 32 := 8#32
  let v2 : BitVec 32 := Scalar.muli v1 c8_i32
  let v3 : BitVec 32 := Scalar.addi v2 arg2
  let c6_i32_0 : BitVec 32 := 6#32
  let v4 : BitVec 32 := Scalar.divsi v3 c6_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c6_i32_0 c0_i32_2
  let v11 : BitVec 32 := Scalar.extui v10
  let c0_i32_3 : BitVec 32 := 0#32
  let v12 : BitVec 1 := Scalar.cmpi .slt c6_i32_0 c0_i32_3
  let v13 : BitVec 32 := Scalar.extui v12
  let v14 : BitVec 32 := Scalar.subi v11 v13
  let v15 : BitVec 1 := Scalar.cmpi .ne v9 v14
  let v16 : BitVec 32 := Scalar.remsi v3 c6_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  ![v20.toNat, c0_i32_5.toNat, c0_i32_6.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x6x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x6x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x6x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x6x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x6x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x6x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x6x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x6x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x6x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x6x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S1x6x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S1x6x128x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]

abbrev stage0_23 : Fin 2 → Memref sig .tc .vmem S1x6x128x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]

abbrev stage0_24 : Fin 2 → Memref sig .tc .vmem S1x6x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true, true]

abbrev stage0_25 : Fin 2 → Memref sig .tc .vmem S1x6x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true, true]

abbrev stage0_26 : Fin 2 → Memref sig .tc .vmem S1x6x128x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, true]

abbrev stage0_27 : Fin 2 → Memref sig .tc .vmem S1x6x128x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true, true]

abbrev stage0_28 : Fin 2 → Memref sig .tc .vmem S1x6x128x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true, true]

abbrev stage0_29 : Fin 2 → Memref sig .tc .vmem S1x6x128x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true, true]

abbrev stage0_30 : Fin 2 → Memref sig .tc .vmem S1x6x128x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true, true]

abbrev stage0_31 : Fin 2 → Memref sig .tc .vmem S1x6x128x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true, true]

abbrev stage0_32 : Fin 2 → Memref sig .tc .vmem S1x6x128x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true, true]

abbrev stage0_33 : Fin 2 → Memref sig .tc .vmem S1x512x128 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true, true]

abbrev stage0_34 : Fin 2 → Memref sig .tc .vmem S1x1x768 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true, true]

abbrev stage0_35 : Fin 2 → Memref sig .tc .vmem S1x1x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x768 : Shape := ⟨3, ![4, 4096, 768]⟩
abbrev S4x6x4096x128 : Shape := ⟨4, ![4, 6, 4096, 128]⟩
abbrev S8x128 : Shape := ⟨2, ![8, 128]⟩
abbrev S1x128 : Shape := ⟨2, ![1, 128]⟩
abbrev S32x64 : Shape := ⟨2, ![32, 64]⟩
abbrev S32x1x768 : Shape := ⟨3, ![32, 1, 768]⟩
abbrev S32x1x256 : Shape := ⟨3, ![32, 1, 256]⟩
abbrev S2x32x256x256 : Shape := ⟨4, ![2, 32, 256, 256]⟩
abbrev S2560x6x128x128 : Shape := ⟨4, ![2560, 6, 128, 128]⟩
abbrev S4x4096x6x128 : Shape := ⟨4, ![4, 4096, 6, 128]⟩
abbrev S128 : Shape := ⟨1, ![128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096x6x64 : Shape := ⟨4, ![4, 4096, 6, 64]⟩
abbrev S4x6x4096x4096 : Shape := ⟨4, ![4, 6, 4096, 4096]⟩
abbrev S4x6x4096 : Shape := ⟨3, ![4, 6, 4096]⟩
abbrev S4x6x4096x1 : Shape := ⟨4, ![4, 6, 4096, 1]⟩
abbrev S4x6x128x4096 : Shape := ⟨4, ![4, 6, 128, 4096]⟩
abbrev S4x4096x6 : Shape := ⟨3, ![4, 4096, 6]⟩
abbrev S4x4096x6x1 : Shape := ⟨4, ![4, 4096, 6, 1]⟩
abbrev S1x1x1x128 : Shape := ⟨4, ![1, 1, 1, 128]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x6x4096x128, .f32⟩
  | .hbm, ⟨2, _⟩ => ⟨S4x6x4096x128, .f32⟩
  | .hbm, ⟨3, _⟩ => ⟨S8x128, .f32⟩
  | .hbm, ⟨4, _⟩ => ⟨S1x128, .f32⟩
  | .hbm, ⟨5, _⟩ => ⟨S32x64, .i32⟩
  | .hbm, ⟨6, _⟩ => ⟨S32x1x768, .f32⟩
  | .hbm, ⟨7, _⟩ => ⟨S32x1x768, .f32⟩
  | .hbm, ⟨8, _⟩ => ⟨S32x1x768, .f32⟩
  | .hbm, ⟨9, _⟩ => ⟨S32x1x256, .f32⟩
  | .hbm, ⟨10, _⟩ => ⟨S2x32x256x256, .f32⟩
  | .hbm, ⟨11, _⟩ => ⟨S2x32x256x256, .f32⟩
  | .hbm, ⟨12, _⟩ => ⟨S2560x6x128x128, .f32⟩
  | .hbm, ⟨13, _⟩ => ⟨S2560x6x128x128, .f32⟩
  | .hbm, ⟨14, _⟩ => ⟨S4x4096x6x128, .f32⟩
  | .hbm, ⟨15, _⟩ => ⟨S4x4096x6x128, .f32⟩
  | .hbm, ⟨16, _⟩ => ⟨S4x4096x6x128, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S128, .f32⟩
  | .hbm, ⟨25, _⟩ => ⟨S128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .i32⟩
  | .hbm, ⟨37, _⟩ => ⟨S4096, .i32⟩
  | .hbm, ⟨38, _⟩ => ⟨S1x4096, .i32⟩
  | .hbm, ⟨39, _⟩ => ⟨S4096x1, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4x4096x6x64, .f32⟩
  | .hbm, ⟨44, _⟩ => ⟨S4x4096x6x64, .f32⟩
  | .hbm, ⟨45, _⟩ => ⟨S4x6x4096x4096, .f32⟩
  | .hbm, ⟨46, _⟩ => ⟨S_, .f32⟩
  | .hbm, ⟨47, _⟩ => ⟨S4x6x4096x4096, .f32⟩
  | .hbm, ⟨48, _⟩ => ⟨S4x6x4096x4096, .f32⟩
  | .hbm, ⟨49, _⟩ => ⟨S4x4096x6x64, .f32⟩
  | .hbm, ⟨50, _⟩ => ⟨S4x4096x6x64, .f32⟩
  | .hbm, ⟨51, _⟩ => ⟨S4x6x4096x4096, .f32⟩
  | .hbm, ⟨52, _⟩ => ⟨S_, .f32⟩
  | .hbm, ⟨53, _⟩ => ⟨S4x6x4096x4096, .f32⟩
  | .hbm, ⟨54, _⟩ => ⟨S4x6x4096x4096, .f32⟩
  | .hbm, ⟨55, _⟩ => ⟨S_, .f32⟩
  | .hbm, ⟨56, _⟩ => ⟨S_, .f32⟩
  | .hbm, ⟨57, _⟩ => ⟨S4x6x4096x4096, .i1⟩
  | .hbm, ⟨58, _⟩ => ⟨S4x6x4096x4096, .f32⟩
  | .hbm, ⟨59, _⟩ => ⟨S4x6x4096x4096, .f32⟩
  | .hbm, ⟨60, _⟩ => ⟨S_, .f32⟩
  | .hbm, ⟨61, _⟩ => ⟨S4x6x4096, .f32⟩
  | .hbm, ⟨62, _⟩ => ⟨S_, .f32⟩
  | .hbm, ⟨63, _⟩ => ⟨S4x6x4096, .f32⟩
  | .hbm, ⟨64, _⟩ => ⟨S4x6x4096, .f32⟩
  | .hbm, ⟨65, _⟩ => ⟨S4x6x4096x1, .f32⟩
  | .hbm, ⟨66, _⟩ => ⟨S4x6x4096x4096, .f32⟩
  | .hbm, ⟨67, _⟩ => ⟨S4x6x4096x4096, .f32⟩
  | .hbm, ⟨68, _⟩ => ⟨S4x6x4096x4096, .f32⟩
  | .hbm, ⟨69, _⟩ => ⟨S_, .f32⟩
  | .hbm, ⟨70, _⟩ => ⟨S4x6x4096, .f32⟩
  | .hbm, ⟨71, _⟩ => ⟨S4x6x4096x1, .f32⟩
  | .hbm, ⟨72, _⟩ => ⟨S4x6x4096x4096, .f32⟩
  | .hbm, ⟨73, _⟩ => ⟨S4x6x4096x4096, .f32⟩
  | .hbm, ⟨74, _⟩ => ⟨S_, .f32⟩
  | .hbm, ⟨75, _⟩ => ⟨S_, .f32⟩
  | .hbm, ⟨76, _⟩ => ⟨S4x6x4096x4096, .i1⟩
  | .hbm, ⟨77, _⟩ => ⟨S4x6x4096x4096, .f32⟩
  | .hbm, ⟨78, _⟩ => ⟨S4x6x4096x4096, .f32⟩
  | .hbm, ⟨79, _⟩ => ⟨S_, .f32⟩
  | .hbm, ⟨80, _⟩ => ⟨S4x6x4096, .f32⟩
  | .hbm, ⟨81, _⟩ => ⟨S_, .f32⟩
  | .hbm, ⟨82, _⟩ => ⟨S4x6x4096, .f32⟩
  | .hbm, ⟨83, _⟩ => ⟨S4x6x4096, .f32⟩
  | .hbm, ⟨84, _⟩ => ⟨S4x6x4096x1, .f32⟩
  | .hbm, ⟨85, _⟩ => ⟨S4x6x4096x4096, .f32⟩
  | .hbm, ⟨86, _⟩ => ⟨S4x6x4096x4096, .f32⟩
  | .hbm, ⟨87, _⟩ => ⟨S4x6x4096x4096, .f32⟩
  | .hbm, ⟨88, _⟩ => ⟨S_, .f32⟩
  | .hbm, ⟨89, _⟩ => ⟨S4x6x4096, .f32⟩
  | .hbm, ⟨90, _⟩ => ⟨S4x6x4096x1, .f32⟩
  | .hbm, ⟨91, _⟩ => ⟨S4x6x4096x4096, .f32⟩
  | .hbm, ⟨92, _⟩ => ⟨S4x6x4096x4096, .f32⟩
  | .hbm, ⟨93, _⟩ => ⟨S4x6x4096x4096, .f32⟩
  | .hbm, ⟨94, _⟩ => ⟨S4x6x4096x4096, .f32⟩
  | .hbm, ⟨95, _⟩ => ⟨S4x6x4096x4096, .f32⟩
  | .hbm, ⟨96, _⟩ => ⟨S4x6x128x4096, .f32⟩
  | .hbm, ⟨97, _⟩ => ⟨S4x4096x6x128, .f32⟩
  | .hbm, ⟨98, _⟩ => ⟨S128, .f32⟩
  | .hbm, ⟨99, _⟩ => ⟨S4x4096x6x128, .f32⟩
  | .hbm, ⟨100, _⟩ => ⟨S_, .f32⟩
  | .hbm, ⟨101, _⟩ => ⟨S4x4096x6, .f32⟩
  | .hbm, ⟨102, _⟩ => ⟨S4x4096x6x1, .f32⟩
  | .hbm, ⟨103, _⟩ => ⟨S_, .f32⟩
  | .hbm, ⟨104, _⟩ => ⟨S4x4096x6x1, .f32⟩
  | .hbm, ⟨105, _⟩ => ⟨S4x4096x6x1, .f32⟩
  | .hbm, ⟨106, _⟩ => ⟨S_, .f32⟩
  | .hbm, ⟨107, _⟩ => ⟨S4x4096x6x1, .f32⟩
  | .hbm, ⟨108, _⟩ => ⟨S4x4096x6x1, .f32⟩
  | .hbm, ⟨109, _⟩ => ⟨S4x4096x6x1, .f32⟩
  | .hbm, ⟨110, _⟩ => ⟨S4x4096x6x128, .f32⟩
  | .hbm, ⟨111, _⟩ => ⟨S4x4096x6x128, .f32⟩
  | .hbm, ⟨112, _⟩ => ⟨S1x1x1x128, .f32⟩
  | .hbm, ⟨113, _⟩ => ⟨S4x4096x6x128, .f32⟩
  | .hbm, ⟨114, _⟩ => ⟨S4x4096x6x128, .f32⟩
  | .hbm, ⟨115, _⟩ => ⟨S_, .f32⟩
  | .hbm, ⟨116, _⟩ => ⟨S4x4096x6x128, .f32⟩
  | .hbm, ⟨117, _⟩ => ⟨S4x4096x6x128, .f32⟩
  | .hbm, ⟨118, _⟩ => ⟨S4x4096x768, .f32⟩
  | .hbm, ⟨119, _⟩ => ⟨S4x4096x768, .bf16⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x512x1024, .f32⟩
  | .local _ .vmem, ⟨7, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x1024 : Shape := ⟨3, ![4, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x5632, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S_, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x1024, .f32⟩
  | .hbm, ⟨47, _⟩ => ⟨S4x4096x1024, .f32⟩
  | .hbm, ⟨48, _⟩ => ⟨S1x1x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel3.lean ====
abbrev S4x256x1024 : Shape := ⟨3, ![4, 256, 1024]⟩
abbrev S2x1024 : Shape := ⟨2, ![2, 1024]⟩
abbrev S2x1024x512 : Shape := ⟨3, ![2, 1024, 512]⟩
abbrev S2x512x1024 : Shape := ⟨3, ![2, 512, 1024]⟩
abbrev S2x1x1024 : Shape := ⟨3, ![2, 1, 1024]⟩
abbrev S2x4x256x256 : Shape := ⟨4, ![2, 4, 256, 256]⟩
abbrev S1x256x1024 : Shape := ⟨3, ![1, 256, 1024]⟩
abbrev S1x1x1024 : Shape := ⟨3, ![1, 1, 1024]⟩
abbrev S1x512x1024 : Shape := ⟨3, ![1, 512, 1024]⟩
abbrev S1x1x256x256 : Shape := ⟨4, ![1, 1, 256, 256]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S512x1024 : Shape := ⟨2, ![512, 1024]⟩
abbrev S512x256 : Shape := ⟨2, ![512, 256]⟩
abbrev S256x256 : Shape := ⟨2, ![256, 256]⟩

abbrev nBuf : Space → Nat
  | .hbm => 10
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S2x1024, .f32⟩
  | .hbm, ⟨2, _⟩ => ⟨S2x1024x512, .f32⟩
  | .hbm, ⟨3, _⟩ => ⟨S2x512x1024, .f32⟩
  | .hbm, ⟨4, _⟩ => ⟨S2x512x1024, .bf16⟩
  | .hbm, ⟨5, _⟩ => ⟨S2x1x1024, .f32⟩
  | .hbm, ⟨6, _⟩ => ⟨S2x4x256x256, .f32⟩
  | .hbm, ⟨7, _⟩ => ⟨S2x4x256x256, .f32⟩
  | .hbm, ⟨8, _⟩ => ⟨S2x4x256x256, .bf16⟩
  | .hbm, ⟨9, _⟩ => ⟨S2x4x256x256, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .bf16⟩
  | .local _ .vmem, ⟨11, _⟩ => ⟨S1x1x256x256, .bf16⟩
  | .local _ .vmem, ⟨12, _⟩ => ⟨S1x1x256x256, .bf16⟩
  | .local _ .vmem, ⟨13, _⟩ => ⟨S1x1x256x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x256x1024 : Shape := ⟨3, ![4, 256, 1024]⟩
abbrev S2x1024 : Shape := ⟨2, ![2, 1024]⟩
abbrev S2x1024x512 : Shape := ⟨3, ![2, 1024, 512]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1x1024x512 : Shape := ⟨3, ![1, 1024, 512]⟩
abbrev S1024x512 : Shape := ⟨2, ![1024, 512]⟩
abbrev S4x256x512 : Shape := ⟨3, ![4, 256, 512]⟩
abbrev S4x256x256 : Shape := ⟨3, ![4, 256, 256]⟩
abbrev S1x4x256x256 : Shape := ⟨4, ![1, 4, 256, 256]⟩
abbrev S2x4x256x256 : Shape := ⟨4, ![2, 4, 256, 256]⟩

abbrev nBuf : Space → Nat
  | .hbm => 59
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S2x1024, .f32⟩
  | .hbm, ⟨2, _⟩ => ⟨S2x1024x512, .f32⟩
  | .hbm, ⟨3, _⟩ => ⟨S1x1024, .f32⟩
  | .hbm, ⟨4, _⟩ => ⟨S1024, .f32⟩
  | .hbm, ⟨5, _⟩ => ⟨S4x256x1024, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x1024, .f32⟩
  | .hbm, ⟨17, _⟩ => ⟨S4x256x1024, .f32⟩
  | .hbm, ⟨18, _⟩ => ⟨S1x1x1024, .f32⟩
  | .hbm, ⟨19, _⟩ => ⟨S4x256x1024, .f32⟩
  | .hbm, ⟨20, _⟩ => ⟨S4x256x1024, .f32⟩
  | .hbm, ⟨21, _⟩ => ⟨S1x1024x512, .f32⟩
  | .hbm, ⟨22, _⟩ => ⟨S1024x512, .f32⟩
  | .hbm, ⟨23, _⟩ => ⟨S4x256x512, .f32⟩
  | .hbm, ⟨24, _⟩ => ⟨S4x256x256, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S1x1024, .f32⟩
  | .hbm, ⟨29, _⟩ => ⟨S1024, .f32⟩
  | .hbm, ⟨30, _⟩ => ⟨S4x256x1024, .f32⟩
  | .hbm, ⟨31, _⟩ => ⟨S_, .f32⟩
  | .hbm, ⟨32, _⟩ => ⟨S4x256, .f32⟩
  | .hbm, ⟨33, _⟩ => ⟨S4x256x1, .f32⟩
  | .hbm, ⟨34, _⟩ => ⟨S_, .f32⟩
  | .hbm, ⟨35, _⟩ => ⟨S4x256x1, .f32⟩
  | .hbm, ⟨36, _⟩ => ⟨S4x256x1, .f32⟩
  | .hbm, ⟨37, _⟩ => ⟨S_, .f32⟩
  | .hbm, ⟨38, _⟩ => ⟨S4x256x1, .f32⟩
  | .hbm, ⟨39, _⟩ => ⟨S4x256x1, .f32⟩
  | .hbm, ⟨40, _⟩ => ⟨S4x256x1, .f32⟩
  | .hbm, ⟨41, _⟩ => ⟨S4x256x1024, .f32⟩
  | .hbm, ⟨42, _⟩ => ⟨S4x256x1024, .f32⟩
  | .hbm, ⟨43, _⟩ => ⟨S1x1x1024, .f32⟩
  | .hbm, ⟨44, _⟩ => ⟨S4x256x1024, .f32⟩
  | .hbm, ⟨45, _⟩ => ⟨S4x256x1024, .f32⟩
  | .hbm, ⟨46, _⟩ => ⟨S1x1024x512, .f32⟩
  | .hbm, ⟨47, _⟩ => ⟨S1024x512, .f32⟩
  | .hbm, ⟨48, _⟩ => ⟨S4x256x512, .f32⟩
  | .hbm, ⟨49, _⟩ => ⟨S4x256x256, .f32⟩
  | .hbm, ⟨50, _⟩ => ⟨S4x256x256, .f32⟩
  | .hbm, ⟨51, _⟩ => ⟨S4x256x256, .f32⟩
  | .hbm, ⟨52, _⟩ => ⟨S4x256x256, .f32⟩
  | .hbm, ⟨53, _⟩ => ⟨S1x4x256x256, .f32⟩
  | .hbm, ⟨54, _⟩ => ⟨S1x4x256x256, .f32⟩
  | .hbm, ⟨55, _⟩ => ⟨S2x4x256x256, .f32⟩
  | .hbm, ⟨56, _⟩ => ⟨S1x4x256x256, .f32⟩
  | .hbm, ⟨57, _⟩ => ⟨S1x4x256x256, .f32⟩
  | .hbm, ⟨58, _⟩ => ⟨S2x4x256x256, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x2560 : Shape := ⟨2, ![1024, 2560]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x1024 : Shape := ⟨2, ![1, 1024]⟩
abbrev S4x4096x768 : Shape := ⟨3, ![4, 4096, 768]⟩
abbrev S4x6x4096x128 : Shape := ⟨4, ![4, 6, 4096, 128]⟩
abbrev S4x4096x256 : Shape := ⟨3, ![4, 4096, 256]⟩
abbrev S1x512x1024 : Shape := ⟨3, ![1, 512, 1024]⟩
abbrev S512x128 : Shape := ⟨2, ![512, 128]⟩
abbrev S1x512x768 : Shape := ⟨3, ![1, 512, 768]⟩
abbrev S1x6x512x128 : Shape := ⟨4, ![1, 6, 512, 128]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S1x128 : Shape := ⟨2, ![1, 128]⟩
abbrev S1024x768 : Shape := ⟨2, ![1024, 768]⟩
abbrev S512x768 : Shape := ⟨2, ![512, 768]⟩
abbrev S1x512x128 : Shape := ⟨3, ![1, 512, 128]⟩
abbrev S1x1x512x128 : Shape := ⟨4, ![1, 1, 512, 128]⟩
abbrev S1024x256 : Shape := ⟨2, ![1024, 256]⟩
abbrev S512x256 : Shape := ⟨2, ![512, 256]⟩

abbrev nBuf : Space → Nat
  | .hbm => 42
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2560, .f32⟩
  | .hbm, ⟨3, _⟩ => ⟨S4096, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S1x4096x1x32, .f32⟩
  | .hbm, ⟨27, _⟩ => ⟨S1x4096x4x32, .f32⟩
  | .hbm, ⟨28, _⟩ => ⟨S4096x128, .f32⟩
  | .hbm, ⟨29, _⟩ => ⟨S4096x32, .f32⟩
  | .hbm, ⟨30, _⟩ => ⟨S4096x64, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S1x1024, .f32⟩
  | .hbm, ⟨35, _⟩ => ⟨S1024x2560, .bf16⟩
  | .hbm, ⟨36, _⟩ => ⟨S4x4096x768, .bf16⟩
  | .hbm, ⟨37, _⟩ => ⟨S4x6x4096x128, .f32⟩
  | .hbm, ⟨38, _⟩ => ⟨S4x6x4096x128, .f32⟩
  | .hbm, ⟨39, _⟩ => ⟨S4x6x4096x128, .bf16⟩
  | .hbm, ⟨40, _⟩ => ⟨S4x6x4096x128, .bf16⟩
  | .hbm, ⟨41, _⟩ => ⟨S4x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2560, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512x768, .bf16⟩
  | .local _ .vmem, ⟨9, _⟩ => ⟨S1x512x768, .bf16⟩
  | .local _ .vmem, ⟨10, _⟩ => ⟨S1x6x512x128, .f32⟩
  | .local _ .vmem, ⟨11, _⟩ => ⟨S1x6x512x128, .f32⟩
  | .local _ .vmem, ⟨12, _⟩ => ⟨S1x6x512x128, .f32⟩
  | .local _ .vmem, ⟨13, _⟩ => ⟨S1x6x512x128, .f32⟩
  | .local _ .vmem, ⟨14, _⟩ => ⟨S1x6x512x128, .bf16⟩
  | .local _ .vmem, ⟨15, _⟩ => ⟨S1x6x512x128, .bf16⟩
  | .local _ .vmem, ⟨16, _⟩ => ⟨S1x6x512x128, .bf16⟩
  | .local _ .vmem, ⟨17, _⟩ => ⟨S1x6x512x128, .bf16⟩
  | .local _ .vmem, ⟨18, _⟩ => ⟨S1x512x256, .bf16⟩
  | .local _ .vmem, ⟨19, _⟩ => ⟨S1x512x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v29_4 : Ref sig .tc := ⟨.hbm, 40, rfl⟩
abbrev main_v29_5 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x6x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x6x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x6x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "log2e_8" => some (((8 * (Real.log 2))⁻¹ : ℝ) : EReal)
  | _ => none
-- ==== Reference4Ideal.lean ====
abbrev S4x4096x1024 : Shape := ⟨3, ![4, 4096, 1024]⟩
abbrev S1024 : Shape := ⟨1, ![1024]⟩
abbrev S1024x2560 : Shape := ⟨2, ![1024, 2560]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2560 : Shape := ⟨3, ![4, 4096, 2560]⟩
abbrev S4x4096x768 : Shape := ⟨3, ![4, 4096, 768]⟩
abbrev S4x4096x12x64 : Shape := ⟨4, ![4, 4096, 12, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x12x32 : Shape := ⟨4, ![4, 4096, 12, 32]⟩
abbrev S1x4096x1x32 : Shape := ⟨4, ![1, 4096, 1, 32]⟩
abbrev S4x4096x6x128 : Shape := ⟨4, ![4, 4096, 6, 128]⟩
abbrev S4x6x4096x128 : Shape := ⟨4, ![4, 6, 4096, 128]⟩
abbrev S4x4096x256 : Shape := ⟨3, ![4, 4096, 256]⟩

abbrev nBuf : Space → Nat
  | .hbm => 126
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2560, .f32⟩
  | .hbm, ⟨3, _⟩ => ⟨S4096, .i32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x2560, .f32⟩
  | .hbm, ⟨21, _⟩ => ⟨S4x4096x768, .f32⟩
  | .hbm, ⟨22, _⟩ => ⟨S4x4096x12x64, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S4096, .f32⟩
  | .hbm, ⟨38, _⟩ => ⟨S4096x1, .f32⟩
  | .hbm, ⟨39, _⟩ => ⟨S1x32, .f32⟩
  | .hbm, ⟨40, _⟩ => ⟨S4096x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x1x32, .f32⟩
  | .hbm, ⟨45, _⟩ => ⟨S4096x32, .f32⟩
  | .hbm, ⟨46, _⟩ => ⟨S4096x1x32, .f32⟩
  | .hbm, ⟨47, _⟩ => ⟨S4x4096x12x32, .f32⟩
  | .hbm, ⟨48, _⟩ => ⟨S4x4096x12x32, .f32⟩
  | .hbm, ⟨49, _⟩ => ⟨S1x4096x1x32, .f32⟩
  | .hbm, ⟨50, _⟩ => ⟨S4x4096x12x32, .f32⟩
  | .hbm, ⟨51, _⟩ => ⟨S4x4096x12x32, .f32⟩
  | .hbm, ⟨52, _⟩ => ⟨S1x4096x1x32, .f32⟩
  | .hbm, ⟨53, _⟩ => ⟨S4x4096x12x32, .f32⟩
  | .hbm, ⟨54, _⟩ => ⟨S4x4096x12x32, .f32⟩
  | .hbm, ⟨55, _⟩ => ⟨S4x4096x12x32, .f32⟩
  | .hbm, ⟨56, _⟩ => ⟨S1x4096x1x32, .f32⟩
  | .hbm, ⟨57, _⟩ => ⟨S4x4096x12x32, .f32⟩
  | .hbm, ⟨58, _⟩ => ⟨S4x4096x12x32, .f32⟩
  | .hbm, ⟨59, _⟩ => ⟨S1x4096x1x32, .f32⟩
  | .hbm, ⟨60, _⟩ => ⟨S4x4096x12x32, .f32⟩
  | .hbm, ⟨61, _⟩ => ⟨S4x4096x12x32, .f32⟩
  | .hbm, ⟨62, _⟩ => ⟨S4x4096x12x32, .f32⟩
  | .hbm, ⟨63, _⟩ => ⟨S4x4096x12x64, .f32⟩
  | .hbm, ⟨64, _⟩ => ⟨S4x4096x768, .f32⟩
  | .hbm, ⟨65, _⟩ => ⟨S4x4096x12x64, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S_, .f32⟩
  | .hbm, ⟨78, _⟩ => ⟨S32, .f32⟩
  | .hbm, ⟨79, _⟩ => ⟨S32, .f32⟩
  | .hbm, ⟨80, _⟩ => ⟨S4096, .f32⟩
  | .hbm, ⟨81, _⟩ => ⟨S4096x1, .f32⟩
  | .hbm, ⟨82, _⟩ => ⟨S1x32, .f32⟩
  | .hbm, ⟨83, _⟩ => ⟨S4096x32, .f32⟩
  | .hbm, ⟨84, _⟩ => ⟨S4096x32, .f32⟩
  | .hbm, ⟨85, _⟩ => ⟨S4096x32, .f32⟩
  | .hbm, ⟨86, _⟩ => ⟨S4096x32, .f32⟩
  | .hbm, ⟨87, _⟩ => ⟨S4096x1x32, .f32⟩
  | .hbm, ⟨88, _⟩ => ⟨S4096x32, .f32⟩
  | .hbm, ⟨89, _⟩ => ⟨S4096x1x32, .f32⟩
  | .hbm, ⟨90, _⟩ => ⟨S4x4096x12x32, .f32⟩
  | .hbm, ⟨91, _⟩ => ⟨S4x4096x12x32, .f32⟩
  | .hbm, ⟨92, _⟩ => ⟨S1x4096x1x32, .f32⟩
  | .hbm, ⟨93, _⟩ => ⟨S4x4096x12x32, .f32⟩
  | .hbm, ⟨94, _⟩ => ⟨S4x4096x12x32, .f32⟩
  | .hbm, ⟨95, _⟩ => ⟨S1x4096x1x32, .f32⟩
  | .hbm, ⟨96, _⟩ => ⟨S4x4096x12x32, .f32⟩
  | .hbm, ⟨97, _⟩ => ⟨S4x4096x12x32, .f32⟩
  | .hbm, ⟨98, _⟩ => ⟨S4x4096x12x32, .f32⟩
  | .hbm, ⟨99, _⟩ => ⟨S1x4096x1x32, .f32⟩
  | .hbm, ⟨100, _⟩ => ⟨S4x4096x12x32, .f32⟩
  | .hbm, ⟨101, _⟩ => ⟨S4x4096x12x32, .f32⟩
  | .hbm, ⟨102, _⟩ => ⟨S1x4096x1x32, .f32⟩
  | .hbm, ⟨103, _⟩ => ⟨S4x4096x12x32, .f32⟩
  | .hbm, ⟨104, _⟩ => ⟨S4x4096x12x32, .f32⟩
  | .hbm, ⟨105, _⟩ => ⟨S4x4096x12x32, .f32⟩
  | .hbm, ⟨106, _⟩ => ⟨S4x4096x12x64, .f32⟩
  | .hbm, ⟨107, _⟩ => ⟨S4x4096x6x128, .f32⟩
  | .hbm, ⟨108, _⟩ => ⟨S4x4096x768, .f32⟩
  | .hbm, ⟨109, _⟩ => ⟨S4x4096x6x128, .f32⟩
  | .hbm, ⟨110, _⟩ => ⟨S4x4096x768, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S4x4096x768, .f32⟩
  | .hbm, ⟨117, _⟩ => ⟨S4x4096x768, .f32⟩
  | .hbm, ⟨118, _⟩ => ⟨S4x4096x768, .bf16⟩
  | .hbm, ⟨119, _⟩ => ⟨S4x6x4096x128, .f32⟩
  | .hbm, ⟨120, _⟩ => ⟨S4x6x4096x128, .f32⟩
  | .hbm, ⟨121, _⟩ => ⟨S4x4096x256, .f32⟩
  | .hbm, ⟨122, _⟩ => ⟨S_, .f32⟩
  | .hbm, ⟨123, _⟩ => ⟨S4x4096x256, .f32⟩
  | .hbm, ⟨124, _⟩ => ⟨S4x4096x256, .f32⟩
  | .hbm, ⟨125, _⟩ => ⟨S4x4096x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_cst_7 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_8 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_10 : Ref sig .tc := ⟨.hbm, 111, rfl⟩
abbrev main_v97 : Ref sig .tc := ⟨.hbm, 112, rfl⟩
abbrev main_cst_11 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_12 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x2572 : Shape := ⟨2, ![1024, 2572]⟩
abbrev S12 : Shape := ⟨1, ![12]⟩
abbrev S2572x1024 : Shape := ⟨2, ![2572, 1024]⟩
abbrev S_ : Shape := ⟨0, ![]⟩
abbrev S16x1024 : Shape := ⟨2, ![16, 1024]⟩
abbrev S12x1024 : Shape := ⟨2, ![12, 1024]⟩
abbrev S1 : Shape := ⟨1, ![1]⟩
abbrev S16x1 : Shape := ⟨2, ![16, 1]⟩
abbrev S2 : Shape := ⟨1, ![2]⟩
abbrev S1024x2304 : Shape := ⟨2, ![1024, 2304]⟩
abbrev S1024x256 : Shape := ⟨2, ![1024, 256]⟩
abbrev S1024x2560 : Shape := ⟨2, ![1024, 2560]⟩
abbrev S768x1024 : Shape := ⟨2, ![768, 1024]⟩
abbrev S784x1024 : Shape := ⟨2, ![784, 1024]⟩
abbrev S1x1024 : Shape := ⟨2, ![1, 1024]⟩
abbrev S1024x768 : Shape := ⟨2, ![1024, 768]⟩
abbrev S4x6x128x4096 : Shape := ⟨4, ![4, 6, 128, 4096]⟩
abbrev S4x6x4096x256 : Shape := ⟨4, ![4, 6, 4096, 256]⟩
abbrev S4x768x4096 : Shape := ⟨3, ![4, 768, 4096]⟩
abbrev S4x6x8x128x512 : Shape := ⟨5, ![4, 6, 8, 128, 512]⟩
abbrev S4x4096x256 : Shape := ⟨3, ![4, 4096, 256]⟩
abbrev S4x16x4096 : Shape := ⟨3, ![4, 16, 4096]⟩
abbrev S1x512x1024 : Shape := ⟨3, ![1, 512, 1024]⟩
abbrev S1x6x128x512 : Shape := ⟨4, ![1, 6, 128, 512]⟩
abbrev S1x6x512x256 : Shape := ⟨4, ![1, 6, 512, 256]⟩
abbrev S1x768x512 : Shape := ⟨3, ![1, 768, 512]⟩
abbrev S1x6x1x128x512 : Shape := ⟨5, ![1, 6, 1, 128, 512]⟩
abbrev S1x512x256 : Shape := ⟨3, ![1, 512, 256]⟩
abbrev S1x16x512 : Shape := ⟨3, ![1, 16, 512]⟩
abbrev S16x128 : Shape := ⟨2, ![16, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S768x512 : Shape := ⟨2, ![768, 512]⟩
abbrev S784x512 : Shape := ⟨2, ![784, 512]⟩
abbrev S128x512 : Shape := ⟨2, ![128, 512]⟩
abbrev S1x1x128x512 : Shape := ⟨4, ![1, 1, 128, 512]⟩
abbrev S1x1x1x128x512 : Shape := ⟨5, ![1, 1, 1, 128, 512]⟩
abbrev S16x512 : Shape := ⟨2, ![16, 512]⟩
abbrev S512x512 : Shape := ⟨2, ![512, 512]⟩
abbrev S48x512 : Shape := ⟨2, ![48, 512]⟩
abbrev S80x512 : Shape := ⟨2, ![80, 512]⟩
abbrev S512x128 : Shape := ⟨2, ![512, 128]⟩
abbrev S512x768 : Shape := ⟨2, ![512, 768]⟩
abbrev S1x1x512x128 : Shape := ⟨4, ![1, 1, 512, 128]⟩

abbrev nBuf : Space → Nat
  | .hbm => 41
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S2572x1024, .f32⟩
  | .hbm, ⟨5, _⟩ => ⟨S_, .f32⟩
  | .hbm, ⟨6, _⟩ => ⟨S16x1024, .f32⟩
  | .hbm, ⟨7, _⟩ => ⟨S12x1024, .f32⟩
  | .hbm, ⟨8, _⟩ => ⟨S_, .i32⟩
  | .hbm, ⟨9, _⟩ => ⟨S1, .i32⟩
  | .hbm, ⟨10, _⟩ => ⟨S16x1024, .f32⟩
  | .hbm, ⟨11, _⟩ => ⟨S16x1024, .bf16⟩
  | .hbm, ⟨12, _⟩ => ⟨S_, .f32⟩
  | .hbm, ⟨13, _⟩ => ⟨S16x1, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S16x1, .f32⟩
  | .hbm, ⟨20, _⟩ => ⟨S1024x2304, .f32⟩
  | .hbm, ⟨21, _⟩ => ⟨S1024x256, .f32⟩
  | .hbm, ⟨22, _⟩ => ⟨S1024x2560, .f32⟩
  | .hbm, ⟨23, _⟩ => ⟨S1024x2560, .bf16⟩
  | .hbm, ⟨24, _⟩ => ⟨S768x1024, .f32⟩
  | .hbm, ⟨25, _⟩ => ⟨S768x1024, .bf16⟩
  | .hbm, ⟨26, _⟩ => ⟨S784x1024, .bf16⟩
  | .hbm, ⟨27, _⟩ => ⟨S1x1024, .f32⟩
  | .hbm, ⟨28, _⟩ => ⟨S768x1024, .f32⟩
  | .hbm, ⟨29, _⟩ => ⟨S768x1024, .bf16⟩
  | .hbm, ⟨30, _⟩ => ⟨S1024x768, .bf16⟩
  | .hbm, ⟨31, _⟩ => ⟨S768x1024, .f32⟩
  | .hbm, ⟨32, _⟩ => ⟨S768x1024, .bf16⟩
  | .hbm, ⟨33, _⟩ => ⟨S1024x256, .bf16⟩
  | .hbm, ⟨34, _⟩ => ⟨S4x6x128x4096, .bf16⟩
  | .hbm, ⟨35, _⟩ => ⟨S4x6x4096x256, .bf16⟩
  | .hbm, ⟨36, _⟩ => ⟨S4x768x4096, .f32⟩
  | .hbm, ⟨37, _⟩ => ⟨S4x768x4096, .f32⟩
  | .hbm, ⟨38, _⟩ => ⟨S4x6x8x128x512, .bf16⟩
  | .hbm, ⟨39, _⟩ => ⟨S4x4096x256, .bf16⟩
  | .hbm, ⟨40, _⟩ => ⟨S4x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S768x1024, .bf16⟩
  | .local _ .vmem, ⟨4, _⟩ => ⟨S1024x768, .bf16⟩
  | .local _ .vmem, ⟨5, _⟩ => ⟨S784x1024, .bf16⟩
  | .local _ .vmem, ⟨6, _⟩ => ⟨S768x1024, .bf16⟩
  | .local _ .vmem, ⟨7, _⟩ => ⟨S1024x256, .bf16⟩
  | .local _ .vmem, ⟨8, _⟩ => ⟨S16x1, .f32⟩
  | .local _ .vmem, ⟨9, _⟩ => ⟨S1x6x128x512, .bf16⟩
  | .local _ .vmem, ⟨10, _⟩ => ⟨S1x6x128x512, .bf16⟩
  | .local _ .vmem, ⟨11, _⟩ => ⟨S1x6x512x256, .bf16⟩
  | .local _ .vmem, ⟨12, _⟩ => ⟨S1x6x512x256, .bf16⟩
  | .local _ .vmem, ⟨13, _⟩ => ⟨S1x768x512, .f32⟩
  | .local _ .vmem, ⟨14, _⟩ => ⟨S1x768x512, .f32⟩
  | .local _ .vmem, ⟨15, _⟩ => ⟨S1x768x512, .f32⟩
  | .local _ .vmem, ⟨16, _⟩ => ⟨S1x768x512, .f32⟩
  | .local _ .vmem, ⟨17, _⟩ => ⟨S1x6x1x128x512, .bf16⟩
  | .local _ .vmem, ⟨18, _⟩ => ⟨S1x6x1x128x512, .bf16⟩
  | .local _ .vmem, ⟨19, _⟩ => ⟨S1x512x256, .bf16⟩
  | .local _ .vmem, ⟨20, _⟩ => ⟨S1x512x256, .bf16⟩
  | .local _ .vmem, ⟨21, _⟩ => ⟨S1x16x512, .f32⟩
  | .local _ .vmem, ⟨22, _⟩ => ⟨S1x16x512, .f32⟩
  | .local _ .vmem, ⟨23, _⟩ => ⟨S16x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev main_v25_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S784x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x6x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x768x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x6x1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel5Ideal.lean ====
variable {F : FTy → Type} [FloatOps F] [Named F]
def κ : String → Option EReal := fun
  | "log2e_8" => some (((8 * (Real.log 2))⁻¹ : ℝ) : EReal)
  | _ => none
-- ==== Reference5Ideal.lean ====
abbrev S4x4096x1024 : Shape := ⟨3, ![4, 4096, 1024]⟩
abbrev S1024 : Shape := ⟨1, ![1024]⟩
abbrev S1024x2572 : Shape := ⟨2, ![1024, 2572]⟩
abbrev S12 : Shape := ⟨1, ![12]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2572 : Shape := ⟨3, ![4, 4096, 2572]⟩
abbrev S4x4096x768 : Shape := ⟨3, ![4, 4096, 768]⟩
abbrev S4x4096x12 : Shape := ⟨3, ![4, 4096, 12]⟩
abbrev S1x1x12 : Shape := ⟨3, ![1, 1, 12]⟩
abbrev S4x4096x4 : Shape := ⟨3, ![4, 4096, 4]⟩
abbrev S4x4096x16 : Shape := ⟨3, ![4, 4096, 16]⟩
abbrev S4x4096x256 : Shape := ⟨3, ![4, 4096, 256]⟩
abbrev S4x768x4096 : Shape := ⟨3, ![4, 768, 4096]⟩
abbrev S4x6x128x4096 : Shape := ⟨4, ![4, 6, 128, 4096]⟩
abbrev S4x16x4096 : Shape := ⟨3, ![4, 16, 4096]⟩

abbrev nBuf : Space → Nat
  | .hbm => 65
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2572, .f32⟩
  | .hbm, ⟨3, _⟩ => ⟨S12, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x2572, .f32⟩
  | .hbm, ⟨21, _⟩ => ⟨S4x4096x768, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x4096x768, .f32⟩
  | .hbm, ⟨28, _⟩ => ⟨S4x4096x768, .f32⟩
  | .hbm, ⟨29, _⟩ => ⟨S4x4096x768, .f32⟩
  | .hbm, ⟨30, _⟩ => ⟨S4x4096x768, .f32⟩
  | .hbm, ⟨31, _⟩ => ⟨S4x4096x12, .f32⟩
  | .hbm, ⟨32, _⟩ => ⟨S1x1x12, .f32⟩
  | .hbm, ⟨33, _⟩ => ⟨S4x4096x12, .f32⟩
  | .hbm, ⟨34, _⟩ => ⟨S4x4096x12, .f32⟩
  | .hbm, ⟨35, _⟩ => ⟨S4x4096x12, .f32⟩
  | .hbm, ⟨36, _⟩ => ⟨S_, .f32⟩
  | .hbm, ⟨37, _⟩ => ⟨S4x4096x12, .f32⟩
  | .hbm, ⟨38, _⟩ => ⟨S4x4096x12, .f32⟩
  | .hbm, ⟨39, _⟩ => ⟨S4x4096x12, .f32⟩
  | .hbm, ⟨40, _⟩ => ⟨S4x4096x12, .f32⟩
  | .hbm, ⟨41, _⟩ => ⟨S4x4096x12, .i1⟩
  | .hbm, ⟨42, _⟩ => ⟨S4x4096x12, .f32⟩
  | .hbm, ⟨43, _⟩ => ⟨S4x4096x12, .f32⟩
  | .hbm, ⟨44, _⟩ => ⟨S4x4096x12, .f32⟩
  | .hbm, ⟨45, _⟩ => ⟨S4x4096x12, .f32⟩
  | .hbm, ⟨46, _⟩ => ⟨S4x4096x12, .f32⟩
  | .hbm, ⟨47, _⟩ => ⟨S4x4096x12, .f32⟩
  | .hbm, ⟨48, _⟩ => ⟨S4x4096x12, .f32⟩
  | .hbm, ⟨49, _⟩ => ⟨S4x4096x12, .f32⟩
  | .hbm, ⟨50, _⟩ => ⟨S4x4096x12, .f32⟩
  | .hbm, ⟨51, _⟩ => ⟨S_, .f32⟩
  | .hbm, ⟨52, _⟩ => ⟨S4x4096x4, .f32⟩
  | .hbm, ⟨53, _⟩ => ⟨S4x4096x16, .f32⟩
  | .hbm, ⟨54, _⟩ => ⟨S4x4096x256, .f32⟩
  | .hbm, ⟨55, _⟩ => ⟨S_, .f32⟩
  | .hbm, ⟨56, _⟩ => ⟨S4x4096x256, .f32⟩
  | .hbm, ⟨57, _⟩ => ⟨S4x4096x256, .f32⟩
  | .hbm, ⟨58, _⟩ => ⟨S4x768x4096, .f32⟩
  | .hbm, ⟨59, _⟩ => ⟨S4x6x128x4096, .f32⟩
  | .hbm, ⟨60, _⟩ => ⟨S4x6x128x4096, .bf16⟩
  | .hbm, ⟨61, _⟩ => ⟨S4x768x4096, .f32⟩
  | .hbm, ⟨62, _⟩ => ⟨S4x768x4096, .f32⟩
  | .hbm, ⟨63, _⟩ => ⟨S4x4096x256, .bf16⟩
  | .hbm, ⟨64, _⟩ => ⟨S4x16x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩

abbrev nD : Nat := 1
abbrev τ : Topo := Topo.v7x

variable {F : FTy → Type} [FloatOps F]
-- ==== Proof.Attn.PromptOut.lean ====
/-
What the differential attention kernel leaves in the prompt's output block at one grid point, as a function of the
point's coordinates and the five blocks it reads (a tile of queries, the head's keys and values, the vectors of λ and the
gain of the norm): the loop over the earlier tiles of keys, then the tile on the diagonal, then the difference of the two
softmaxes and its norm. The kernel computes the same value from its memory references; `loop_eq` and `written_eq` say so.
-/
module

public import proofs.«01_k».proof.Proof.Gen.KernelIdeal.Frame.Runs
public import Idealize.ShloMosaic.Lib.WholeRead
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The running maxima, denominators and numerators of the two softmaxes over a tile of 512 queries. -/
abbrev State (F : FTy → Type) : Type :=
  FVec F S512x1 .f32 × FVec F S512x1 .f32 × FVec F S512x128 .f32 × FVec F S512x1 .f32 × FVec F S512x1 .f32 × FVec F S512x128 .f32

/-- The tile of keys (or values) trip `k` of the loop reads. -/
def tileAt (i : grid0.Coords) (x : Vec F S1x1x4096x128 .bf16) (k : Fin (k0_t1_loop i).trips) : Vec F S1x1x512x128 .bf16 :=
  View.ld x (Rect.unit (s := S1x1x4096x128) (k0_off2 i k) S1x1x512x128.size (k0_off2_inb i k))

/-- The tile on the diagonal. -/
def diagAt (i : grid0.Coords) (x : Vec F S1x1x4096x128 .bf16) : Vec F S1x1x512x128 .bf16 :=
  View.ld x (Rect.unit (s := S1x1x4096x128) (k0_off4 i) S1x1x512x128.size (k0_off4_inb i))

/-- One trip: both softmaxes take in a tile of keys `k` and values `v`. -/
def trip (q1 q2 : FVec F S512x128 .bf16) (k v : Vec F S1x1x512x128 .bf16) (s : State F) : State F :=
  (k0_pay7 q1 s.1 k, k0_pay10 q1 s.1 s.2.1 k, k0_pay11 q1 s.1 s.2.2.1 k v,
    k0_pay12 q2 s.2.2.2.1 k, k0_pay15 q2 s.2.2.2.1 s.2.2.2.2.1 k, k0_pay16 q2 s.2.2.2.1 s.2.2.2.2.2 k v)

/-- The state before trip `n`. -/
def loop (i : grid0.Coords) (x0 : Vec F S1x512x128 .bf16) (x1 x2 : Vec F S1x1x4096x128 .bf16) : ℕ → State F
  | 0 => (k0_pay58, k0_pay59, k0_pay60, k0_pay61, k0_pay62, k0_pay63)
  | n + 1 =>
    if h : n < (k0_t1_loop i).trips then
      trip (k0_pay56 x0) (k0_pay57 x0) (tileAt i x1 ⟨n, h⟩) (tileAt i x2 ⟨n, h⟩) (loop i x0 x1 x2 n)
    else loop i x0 x1 x2 n

/-- The block after the diagonal tile, from the state the loop ends with. -/
def finish (q1 q2 : FVec F S512x128 .bf16) (k v : Vec F S1x1x512x128 .bf16) (x3 : Vec F S8x128 .f32) (x4 : Vec F S1x128 .f32)
    (s : State F) : Vec F S1x512x128 .bf16 :=
  k0_pay1 (k0_pay150 s.2.2.2.2.2 (k0_pay137 v) (k0_pay142 q1 s.1 s.2.1 k) (k0_pay143 q1 s.1 s.2.2.1 k v)
    (k0_pay146 q2 s.2.2.2.1 k) (k0_pay147 q2 s.2.2.2.1 k) (k0_pay148 q2 s.2.2.2.1 s.2.2.2.2.1 k) (k0_pay149 q2 s.2.2.2.1 k) x3 x4)

/-- What the body leaves in the prompt's output block. -/
def promptOut (i : grid0.Coords) (x0 : Vec F S1x512x128 .bf16) (x1 x2 : Vec F S1x1x4096x128 .bf16) (x3 : Vec F S8x128 .f32)
    (x4 : Vec F S1x128 .f32) : Vec F S1x512x128 .bf16 :=
  finish (k0_pay56 x0) (k0_pay57 x0) (diagAt i x1) (diagAt i x2) x3 x4 (loop i x0 x1 x2 (k0_t1_loop i).trips)

/-- A whole memref's rectangle, loaded, is that rectangle of what the memref reads as. -/
theorem loaded {sh : Shape} {e : EltTy} {a : Memref sig .tc .vmem sh e} (h : a.IsWhole) (x : Vec F sh e) (r : Rect sh) :
    View.readAt (Elt F) a.view r.toLoadRect (h.unread x) = View.ld x r :=
  funext fun y => (h.readAt_unread x r.toLoadRect y).trans rfl

/-- The second loop of the kernel, over tiles after the last whole one and before the diagonal, has no trip. -/
theorem trips2 : ∀ i : grid0.Coords, (k0_t2_loop i).trips = 0 := by
  intro i
  have h : ∀ j : Fin 8, (Scf.Loop.mk (w := 32)
      (Scalar.addi 0#32 (Scalar.muli (Scalar.divsi (Scalar.subi (BitVec.ofNat 32 j.val) 0#32) 1#32) 1#32))
      (Scalar.addi 0#32 (Scalar.subi (BitVec.ofNat 32 j.val) 0#32)) 1#32).trips = 0 := by decide +kernel
  exact h (i 2)

section run

variable (c : Dev nD) (i : grid0.Coords)
  (arg4 : Memref sig .tc .vmem S1x512x128 .bf16) (harg4 : arg4.IsWhole) (arg5 : Memref sig .tc .vmem S1x1x4096x128
  .bf16) (harg5 : arg5.IsWhole) (arg6 : Memref sig .tc .vmem S1x1x4096x128 .bf16) (harg6 : arg6.IsWhole) (arg7 :
  Memref sig .tc .vmem S8x128 .f32) (harg7 : arg7.IsWhole) (arg8 : Memref sig .tc .vmem S1x128 .f32) (harg8 :
  arg8.IsWhole) (arg9 : Memref sig .tc .vmem S1x1x768 .f32) (harg9 : arg9.IsWhole) (arg10 : Memref sig .tc .vmem
  S1x1x768 .f32) (harg10 : arg10.IsWhole) (arg11 : Memref sig .tc .vmem S1x1x768 .f32) (harg11 : arg11.IsWhole) (arg12
  : Memref sig .tc .vmem S1x1x256 .f32) (harg12 : arg12.IsWhole) (arg13 : Memref sig .tc .vmem S1x1x256x256 .f32)
  (harg13 : arg13.IsWhole) (arg14 : Memref sig .tc .vmem S1x1x256x256 .f32) (harg14 : arg14.IsWhole) (arg15 : Memref
  sig .tc .vmem S1x6x128x128 .f32) (harg15 : arg15.IsWhole) (arg16 : Memref sig .tc .vmem S1x6x128x128 .f32) (harg16 :
  arg16.IsWhole) (arg17 : Memref sig .tc .vmem S1x6x128x128 .f32) (harg17 : arg17.IsWhole) (arg18 : Memref sig .tc
  .vmem S1x6x128x128 .f32) (harg18 : arg18.IsWhole) (arg19 : Memref sig .tc .vmem S1x6x128x128 .f32) (harg19 :
  arg19.IsWhole) (arg20 : Memref sig .tc .vmem S1x6x128x128 .f32) (harg20 : arg20.IsWhole) (arg21 : Memref sig .tc
  .vmem S1x6x128x128 .f32) (harg21 : arg21.IsWhole) (arg22 : Memref sig .tc .vmem S1x6x128x128 .f32) (harg22 :
  arg22.IsWhole) (arg23 : Memref sig .tc .vmem S1x6x128x128 .f32) (harg23 : arg23.IsWhole) (arg24 : Memref sig .tc
  .vmem S1x6x128x128 .f32) (harg24 : arg24.IsWhole) (arg25 : Memref sig .tc .vmem S1x6x128x128 .f32) (harg25 :
  arg25.IsWhole) (arg26 : Memref sig .tc .vmem S1x6x128x128 .f32) (harg26 : arg26.IsWhole) (arg27 : Memref sig .tc
  .vmem S1x6x128x128 .f32) (harg27 : arg27.IsWhole) (arg28 : Memref sig .tc .vmem S1x6x128x128 .f32) (harg28 :
  arg28.IsWhole) (arg29 : Memref sig .tc .vmem S1x6x128x128 .f32) (harg29 : arg29.IsWhole) (arg30 : Memref sig .tc
  .vmem S1x6x128x128 .f32) (harg30 : arg30.IsWhole) (arg31 : Memref sig .tc .vmem S1x6x128x128 .f32) (harg31 :
  arg31.IsWhole) (arg32 : Memref sig .tc .vmem S1x6x128x128 .f32) (harg32 : arg32.IsWhole) (arg33 : Memref sig .tc
  .vmem S1x6x128x128 .f32) (harg33 : arg33.IsWhole) (arg34 : Memref sig .tc .vmem S1x6x128x128 .f32) (harg34 :
  arg34.IsWhole) (arg35 : Memref sig .tc .vmem S1x6x128x128 .f32) (harg35 : arg35.IsWhole) (arg36 : Memref sig .tc
  .vmem S1x6x128x128 .f32) (harg36 : arg36.IsWhole) (arg37 : Memref sig .tc .vmem S1x512x128 .bf16) (harg37 :
  arg37.IsWhole) (arg38 : Memref sig .tc .vmem S1x1x768 .f32) (harg38 : arg38.IsWhole) (arg39 : Memref sig .tc .vmem
  S1x1x256 .f32) (harg39 : arg39.IsWhole) (arg40 : Memref sig .tc .vmem S16x128 .f32) (harg40 : arg40.IsWhole) (arg41
  : Memref sig .tc .vmem S16x128 .f32) (harg41 : arg41.IsWhole) (arg42 : Memref sig .tc .vmem S16x768 .f32) (harg42 :
  arg42.IsWhole)
variable (x0 : Vec F S1x512x128 .bf16) (x1 : Vec F S1x1x4096x128 .bf16) (x2 : Vec F S1x1x4096x128 .bf16) (x3 : Vec F S8x128
  .f32) (x4 : Vec F S1x128 .f32) (a2 a13 a39 : BitVec 32)

/-- The state the kernel's loop carries. -/
abbrev carried (n : ℕ) : State F :=
  st_k0_t1 (F := F) Variants.none c none i tbM0_0 htbM0_0 arg4 harg4 arg5 harg5 arg6 harg6 arg7 harg7 arg8 harg8 arg9
  harg9 arg10 harg10 arg11 harg11 arg12 harg12 arg13 harg13 arg14 harg14 arg15 harg15 arg16 harg16 arg17 harg17 arg18
  harg18 arg19 harg19 arg20 harg20 arg21 harg21 arg22 harg22 arg23 harg23 arg24 harg24 arg25 harg25 arg26 harg26 arg27
  harg27 arg28 harg28 arg29 harg29 arg30 harg30 arg31 harg31 arg32 harg32 arg33 harg33 arg34 harg34 arg35 harg35 arg36
  harg36 arg37 harg37 arg38 harg38 arg39 harg39 arg40 harg40 arg41 harg41 arg42 harg42 a2 a13 (k0_pay56 (View.readAt
  (Elt F) arg4.view (Rect.unit ![0, 0, 0] S1x512x128.size inb_S1x512x128_S1x512x128_0_0_0).toLoadRect (harg4.unread
  x0))) (k0_pay57 (View.readAt (Elt F) arg4.view (Rect.unit ![0, 0, 0] S1x512x128.size
  inb_S1x512x128_S1x512x128_0_0_0).toLoadRect (harg4.unread x0))) k0_pay58 k0_pay59 k0_pay60 k0_pay61 k0_pay62
  k0_pay63 (harg5.unread x1) (harg6.unread x2) (k0_pay58, k0_pay59, k0_pay60, k0_pay61, k0_pay62, k0_pay63) n

/-- The state after both of the kernel's loops. -/
abbrev carried2 : State F :=
  st_k0_t2 (F := F) Variants.none c none i tbM0_0 htbM0_0 arg4 harg4 arg5 harg5 arg6 harg6 arg7 harg7 arg8 harg8 arg9
  harg9 arg10 harg10 arg11 harg11 arg12 harg12 arg13 harg13 arg14 harg14 arg15 harg15 arg16 harg16 arg17 harg17 arg18
  harg18 arg19 harg19 arg20 harg20 arg21 harg21 arg22 harg22 arg23 harg23 arg24 harg24 arg25 harg25 arg26 harg26 arg27
  harg27 arg28 harg28 arg29 harg29 arg30 harg30 arg31 harg31 arg32 harg32 arg33 harg33 arg34 harg34 arg35 harg35 arg36
  harg36 arg37 harg37 arg38 harg38 arg39 harg39 arg40 harg40 arg41 harg41 arg42 harg42 a2 a13 (k0_pay56 (View.readAt
  (Elt F) arg4.view (Rect.unit ![0, 0, 0] S1x512x128.size inb_S1x512x128_S1x512x128_0_0_0).toLoadRect (harg4.unread
  x0))) (k0_pay57 (View.readAt (Elt F) arg4.view (Rect.unit ![0, 0, 0] S1x512x128.size
  inb_S1x512x128_S1x512x128_0_0_0).toLoadRect (harg4.unread x0))) k0_pay58 k0_pay59 k0_pay60 k0_pay61 k0_pay62
  k0_pay63 a39 (harg5.unread x1) (harg6.unread x2) ((carried c i arg4 harg4 arg5 harg5 arg6 harg6 arg7 harg7 arg8
  harg8 arg9 harg9 arg10 harg10 arg11 harg11 arg12 harg12 arg13 harg13 arg14 harg14 arg15 harg15 arg16 harg16 arg17
  harg17 arg18 harg18 arg19 harg19 arg20 harg20 arg21 harg21 arg22 harg22 arg23 harg23 arg24 harg24 arg25 harg25 arg26
  harg26 arg27 harg27 arg28 harg28 arg29 harg29 arg30 harg30 arg31 harg31 arg32 harg32 arg33 harg33 arg34 harg34 arg35
  harg35 arg36 harg36 arg37 harg37 arg38 harg38 arg39 harg39 arg40 harg40 arg41 harg41 arg42 harg42 x0 x1 x2 a2 a13
  (Scf.trips (k0_t1_loop i).lb (k0_t1_loop i).ub (k0_t1_loop i).st)).1, (carried c i arg4 harg4 arg5 harg5 arg6 harg6
  arg7 harg7 arg8 harg8 arg9 harg9 arg10 harg10 arg11 harg11 arg12 harg12 arg13 harg13 arg14 harg14 arg15 harg15 arg16
  harg16 arg17 harg17 arg18 harg18 arg19 harg19 arg20 harg20 arg21 harg21 arg22 harg22 arg23 harg23 arg24 harg24 arg25
  harg25 arg26 harg26 arg27 harg27 arg28 harg28 arg29 harg29 arg30 harg30 arg31 harg31 arg32 harg32 arg33 harg33 arg34
  harg34 arg35 harg35 arg36 harg36 arg37 harg37 arg38 harg38 arg39 harg39 arg40 harg40 arg41 harg41 arg42 harg42 x0 x1
  x2 a2 a13 (Scf.trips (k0_t1_loop i).lb (k0_t1_loop i).ub (k0_t1_loop i).st)).2.1, (carried c i arg4 harg4 arg5 harg5
  arg6 harg6 arg7 harg7 arg8 harg8 arg9 harg9 arg10 harg10 arg11 harg11 arg12 harg12 arg13 harg13 arg14 harg14 arg15
  harg15 arg16 harg16 arg17 harg17 arg18 harg18 arg19 harg19 arg20 harg20 arg21 harg21 arg22 harg22 arg23 harg23 arg24
  harg24 arg25 harg25 arg26 harg26 arg27 harg27 arg28 harg28 arg29 harg29 arg30 harg30 arg31 harg31 arg32 harg32 arg33
  harg33 arg34 harg34 arg35 harg35 arg36 harg36 arg37 harg37 arg38 harg38 arg39 harg39 arg40 harg40 arg41 harg41 arg42
  harg42 x0 x1 x2 a2 a13 (Scf.trips (k0_t1_loop i).lb (k0_t1_loop i).ub (k0_t1_loop i).st)).2.2.1, (carried c i arg4
  harg4 arg5 harg5 arg6 harg6 arg7 harg7 arg8 harg8 arg9 harg9 arg10 harg10 arg11 harg11 arg12 harg12 arg13 harg13
  arg14 harg14 arg15 harg15 arg16 harg16 arg17 harg17 arg18 harg18 arg19 harg19 arg20 harg20 arg21 harg21 arg22 harg22
  arg23 harg23 arg24 harg24 arg25 harg25 arg26 harg26 arg27 harg27 arg28 harg28 arg29 harg29 arg30 harg30 arg31 harg31
  arg32 harg32 arg33 harg33 arg34 harg34 arg35 harg35 arg36 harg36 arg37 harg37 arg38 harg38 arg39 harg39 arg40 harg40
  arg41 harg41 arg42 harg42 x0 x1 x2 a2 a13 (Scf.trips (k0_t1_loop i).lb (k0_t1_loop i).ub (k0_t1_loop
  i).st)).2.2.2.1, (carried c i arg4 harg4 arg5 harg5 arg6 harg6 arg7 harg7 arg8 harg8 arg9 harg9 arg10 harg10 arg11
  harg11 arg12 harg12 arg13 harg13 arg14 harg14 arg15 harg15 arg16 harg16 arg17 harg17 arg18 harg18 arg19 harg19 arg20
  harg20 arg21 harg21 arg22 harg22 arg23 harg23 arg24 harg24 arg25 harg25 arg26 harg26 arg27 harg27 arg28 harg28 arg29
  harg29 arg30 harg30 arg31 harg31 arg32 harg32 arg33 harg33 arg34 harg34 arg35 harg35 arg36 harg36 arg37 harg37 arg38
  harg38 arg39 harg39 arg40 harg40 arg41 harg41 arg42 harg42 x0 x1 x2 a2 a13 (Scf.trips (k0_t1_loop i).lb (k0_t1_loop
  i).ub (k0_t1_loop i).st)).2.2.2.2.1, (carried c i arg4 harg4 arg5 harg5 arg6 harg6 arg7 harg7 arg8 harg8 arg9 harg9
  arg10 harg10 arg11 harg11 arg12 harg12 arg13 harg13 arg14 harg14 arg15 harg15 arg16 harg16 arg17 harg17 arg18 harg18
  arg19 harg19 arg20 harg20 arg21 harg21 arg22 harg22 arg23 harg23 arg24 harg24 arg25 harg25 arg26 harg26 arg27 harg27
  arg28 harg28 arg29 harg29 arg30 harg30 arg31 harg31 arg32 harg32 arg33 harg33 arg34 harg34 arg35 harg35 arg36 harg36
  arg37 harg37 arg38 harg38 arg39 harg39 arg40 harg40 arg41 harg41 arg42 harg42 x0 x1 x2 a2 a13 (Scf.trips (k0_t1_loop
  i).lb (k0_t1_loop i).ub (k0_t1_loop i).st)).2.2.2.2.2) (Scf.trips (k0_t2_loop i).lb (k0_t2_loop i).ub (k0_t2_loop
  i).st)

/-- The kernel's loop is `loop`. -/
theorem loop_eq (n : ℕ) (hn : n ≤ (k0_t1_loop i).trips) :
    carried c i arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 arg28 harg28 arg29
    harg29 arg30 harg30 arg31 harg31 arg32 harg32 arg33 harg33 arg34 harg34 arg35 harg35 arg36 harg36 arg37 harg37
    arg38 harg38 arg39 harg39 arg40 harg40 arg41 harg41 arg42 harg42 x0 x1 x2 a2 a13 n = loop i x0 x1 x2 n := by
  induction n with
  | zero => rfl
  | succ n ih =>
    have ih := ih (Nat.le_of_succ_le hn)
    have hq : (View.readAt (Elt F) arg4.view (Rect.unit ![0, 0, 0] S1x512x128.size inb_S1x512x128_S1x512x128_0_0_0).toLoadRect (harg4.unread x0)) = x0 :=
      (loaded harg4 x0 _).trans (View.ld_unit_zero (S := S1x512x128) (by funext a; fin_cases a <;> rfl) _ x0)
    unfold carried at ih ⊢
    rw [st_k0_t1_succ (k := (⟨n, hn⟩ : Fin (k0_t1_loop i).trips)), ih, hq, loop, dif_pos (show n < (k0_t1_loop i).trips from hn)]
    unfold tripR_k0_t1 trip_k0_t1
    show trip (k0_pay56 x0) (k0_pay57 x0)
      (View.readAt (Elt F) arg5.view (Rect.unit (s := S1x1x4096x128) (k0_off2 i ⟨n, hn⟩) S1x1x512x128.size (k0_off2_inb i ⟨n, hn⟩)).toLoadRect (harg5.unread x1))
      (View.readAt (Elt F) arg6.view (Rect.unit (s := S1x1x4096x128) (k0_off2 i ⟨n, hn⟩) S1x1x512x128.size (k0_off2_inb i ⟨n, hn⟩)).toLoadRect (harg6.unread x2))
      (loop i x0 x1 x2 n) = _
    rw [loaded, loaded]; rfl

/-- What the kernel stores is `promptOut`. -/
theorem written_eq :
    k0_pay1 (k0_pay150 (carried2 c i arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27
    arg28 harg28 arg29 harg29 arg30 harg30 arg31 harg31 arg32 harg32 arg33 harg33 arg34 harg34 arg35 harg35 arg36
    harg36 arg37 harg37 arg38 harg38 arg39 harg39 arg40 harg40 arg41 harg41 arg42 harg42 x0 x1 x2 a2 a13
    a39).2.2.2.2.2 (k0_pay137 (View.readAt (Elt F) arg6.view (Rect.unit (s := S1x1x4096x128) (k0_off4 i)
    S1x1x512x128.size (k0_off4_inb i)).toLoadRect (harg6.unread x2))) (k0_pay142 (k0_pay56 (View.readAt (Elt F)
    arg4.view (Rect.unit ![0, 0, 0] S1x512x128.size inb_S1x512x128_S1x512x128_0_0_0).toLoadRect (harg4.unread x0)))
    (carried2 c i arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 arg28 harg28 arg29
    harg29 arg30 harg30 arg31 harg31 arg32 harg32 arg33 harg33 arg34 harg34 arg35 harg35 arg36 harg36 arg37 harg37
    arg38 harg38 arg39 harg39 arg40 harg40 arg41 harg41 arg42 harg42 x0 x1 x2 a2 a13 a39).1 (carried2 c i arg4 harg4
    arg5 harg5 arg6 harg6 arg7 harg7 arg8 harg8 arg9 harg9 arg10 harg10 arg11 harg11 arg12 harg12 arg13 harg13 arg14
    harg14 arg15 harg15 arg16 harg16 arg17 harg17 arg18 harg18 arg19 harg19 arg20 harg20 arg21 harg21 arg22 harg22
    arg23 harg23 arg24 harg24 arg25 harg25 arg26 harg26 arg27 harg27 arg28 harg28 arg29 harg29 arg30 harg30 arg31
    harg31 arg32 harg32 arg33 harg33 arg34 harg34 arg35 harg35 arg36 harg36 arg37 harg37 arg38 harg38 arg39 harg39
    arg40 harg40 arg41 harg41 arg42 harg42 x0 x1 x2 a2 a13 a39).2.1 (View.readAt (Elt F) arg5.view (Rect.unit (s :=
    S1x1x4096x128) (k0_off4 i) S1x1x512x128.size (k0_off4_inb i)).toLoadRect (harg5.unread x1))) (k0_pay143 (k0_pay56
    (View.readAt (Elt F) arg4.view (Rect.unit ![0, 0, 0] S1x512x128.size inb_S1x512x128_S1x512x128_0_0_0).toLoadRect
    (harg4.unread x0))) (carried2 c i arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27
    arg28 harg28 arg29 harg29 arg30 harg30 arg31 harg31 arg32 harg32 arg33 harg33 arg34 harg34 arg35 harg35 arg36
    harg36 arg37 harg37 arg38 harg38 arg39 harg39 arg40 harg40 arg41 harg41 arg42 harg42 x0 x1 x2 a2 a13 a39).1
    (carried2 c i arg4 harg4 arg5 harg5 arg6 harg6 arg7 harg7 arg8 harg8 arg9 harg9 arg10 harg10 arg11 harg11 arg12
    harg12 arg13 harg13 arg14 harg14 arg15 harg15 arg16 harg16 arg17 harg17 arg18 harg18 arg19 harg19 arg20 harg20
    arg21 harg21 arg22 harg22 arg23 harg23 arg24 harg24 arg25 harg25 arg26 harg26 arg27 harg27 arg28 harg28 arg29
    harg29 arg30 harg30 arg31 harg31 arg32 harg32 arg33 harg33 arg34 harg34 arg35 harg35 arg36 harg36 arg37 harg37
    arg38 harg38 arg39 harg39 arg40 harg40 arg41 harg41 arg42 harg42 x0 x1 x2 a2 a13 a39).2.2.1 (View.readAt (Elt F)
    arg5.view (Rect.unit (s := S1x1x4096x128) (k0_off4 i) S1x1x512x128.size (k0_off4_inb i)).toLoadRect (harg5.unread
    x1)) (View.readAt (Elt F) arg6.view (Rect.unit (s := S1x1x4096x128) (k0_off4 i) S1x1x512x128.size (k0_off4_inb
    i)).toLoadRect (harg6.unread x2))) (k0_pay146 (k0_pay57 (View.readAt (Elt F) arg4.view (Rect.unit ![0, 0, 0]
    S1x512x128.size inb_S1x512x128_S1x512x128_0_0_0).toLoadRect (harg4.unread x0))) (carried2 c i arg4 harg4 arg5
    harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23
    harg23 arg24 harg24 arg25 harg25 arg26 harg26 arg27 harg27 arg28 harg28 arg29 harg29 arg30 harg30 arg31 harg31
    arg32 harg32 arg33 harg33 arg34 harg34 arg35 harg35 arg36 harg36 arg37 harg37 arg38 harg38 arg39 harg39 arg40
    harg40 arg41 harg41 arg42 harg42 x0 x1 x2 a2 a13 a39).2.2.2.1 (View.readAt (Elt F) arg5.view (Rect.unit (s :=
    S1x1x4096x128) (k0_off4 i) S1x1x512x128.size (k0_off4_inb i)).toLoadRect (harg5.unread x1))) (k0_pay147 (k0_pay57
    (View.readAt (Elt F) arg4.view (Rect.unit ![0, 0, 0] S1x512x128.size inb_S1x512x128_S1x512x128_0_0_0).toLoadRect
    (harg4.unread x0))) (carried2 c i arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27
    arg28 harg28 arg29 harg29 arg30 harg30 arg31 harg31 arg32 harg32 arg33 harg33 arg34 harg34 arg35 harg35 arg36
    harg36 arg37 harg37 arg38 harg38 arg39 harg39 arg40 harg40 arg41 harg41 arg42 harg42 x0 x1 x2 a2 a13 a39).2.2.2.1
    (View.readAt (Elt F) arg5.view (Rect.unit (s := S1x1x4096x128) (k0_off4 i) S1x1x512x128.size (k0_off4_inb
    i)).toLoadRect (harg5.unread x1))) (k0_pay148 (k0_pay57 (View.readAt (Elt F) arg4.view (Rect.unit ![0, 0, 0]
    S1x512x128.size inb_S1x512x128_S1x512x128_0_0_0).toLoadRect (harg4.unread x0))) (carried2 c i arg4 harg4 arg5
    harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22 arg23
    harg23 arg24 harg24 arg25 harg25 arg26 harg26 arg27 harg27 arg28 harg28 arg29 harg29 arg30 harg30 arg31 harg31
    arg32 harg32 arg33 harg33 arg34 harg34 arg35 harg35 arg36 harg36 arg37 harg37 arg38 harg38 arg39 harg39 arg40
    harg40 arg41 harg41 arg42 harg42 x0 x1 x2 a2 a13 a39).2.2.2.1 (carried2 c i arg4 harg4 arg5 harg5 arg6 harg6 arg7
    harg7 arg8 harg8 arg9 harg9 arg10 harg10 arg11 harg11 arg12 harg12 arg13 harg13 arg14 harg14 arg15 harg15 arg16
    harg16 arg17 harg17 arg18 harg18 arg19 harg19 arg20 harg20 arg21 harg21 arg22 harg22 arg23 harg23 arg24 harg24
    arg25 harg25 arg26 harg26 arg27 harg27 arg28 harg28 arg29 harg29 arg30 harg30 arg31 harg31 arg32 harg32 arg33
    harg33 arg34 harg34 arg35 harg35 arg36 harg36 arg37 harg37 arg38 harg38 arg39 harg39 arg40 harg40 arg41 harg41
    arg42 harg42 x0 x1 x2 a2 a13 a39).2.2.2.2.1 (View.readAt (Elt F) arg5.view (Rect.unit (s := S1x1x4096x128)
    (k0_off4 i) S1x1x512x128.size (k0_off4_inb i)).toLoadRect (harg5.unread x1))) (k0_pay149 (k0_pay57 (View.readAt
    (Elt F) arg4.view (Rect.unit ![0, 0, 0] S1x512x128.size inb_S1x512x128_S1x512x128_0_0_0).toLoadRect (harg4.unread
    x0))) (carried2 c i arg4 harg4 arg5 harg5 arg6 harg6 arg7 harg7 arg8 harg8 arg9 harg9 arg10 harg10 arg11 harg11
    arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28
    arg29 harg29 arg30 harg30 arg31 harg31 arg32 harg32 arg33 harg33 arg34 harg34 arg35 harg35 arg36 harg36 arg37
    harg37 arg38 harg38 arg39 harg39 arg40 harg40 arg41 harg41 arg42 harg42 x0 x1 x2 a2 a13 a39).2.2.2.1 (View.readAt
    (Elt F) arg5.view (Rect.unit (s := S1x1x4096x128) (k0_off4 i) S1x1x512x128.size (k0_off4_inb i)).toLoadRect
    (harg5.unread x1))) (View.readAt (Elt F) arg7.view (Rect.unit ![0, 0] S8x128.size
    inb_S8x128_S8x128_0_0).toLoadRect (harg7.unread x3)) (View.readAt (Elt F) arg8.view (Rect.unit ![0, 0] S1x128.size
    inb_S1x128_S1x128_0_0).toLoadRect (harg8.unread x4)))
      = promptOut i x0 x1 x2 x3 x4 := by
  have hq : (View.readAt (Elt F) arg4.view (Rect.unit ![0, 0, 0] S1x512x128.size inb_S1x512x128_S1x512x128_0_0_0).toLoadRect (harg4.unread x0)) = x0 :=
    (loaded harg4 x0 _).trans (View.ld_unit_zero (S := S1x512x128) (by funext a; fin_cases a <;> rfl) _ x0)
  have h3 : (View.readAt (Elt F) arg7.view (Rect.unit ![0, 0] S8x128.size inb_S8x128_S8x128_0_0).toLoadRect (harg7.unread x3)) = x3 :=
    (loaded harg7 x3 _).trans (View.ld_unit_zero (S := S8x128) (by funext a; fin_cases a <;> rfl) _ x3)
  have h4 : (View.readAt (Elt F) arg8.view (Rect.unit ![0, 0] S1x128.size inb_S1x128_S1x128_0_0).toLoadRect (harg8.unread x4)) = x4 :=
    (loaded harg8 x4 _).trans (View.ld_unit_zero (S := S1x128) (by funext a; fin_cases a <;> rfl) _ x4)
  have hl : (carried2 c i arg4 harg4 arg5 harg5 arg6 harg6 arg7 harg7 arg8 harg8 arg9 harg9 arg10 harg10 arg11 harg11 arg12
  harg12 arg13 harg13 arg14 harg14 arg15 harg15 arg16 harg16 arg17 harg17 arg18 harg18 arg19 harg19 arg20 harg20 arg21
  harg21 arg22 harg22 arg23 harg23 arg24 harg24 arg25 harg25 arg26 harg26 arg27 harg27 arg28 harg28 arg29 harg29 arg30
  harg30 arg31 harg31 arg32 harg32 arg33 harg33 arg34 harg34 arg35 harg35 arg36 harg36 arg37 harg37 arg38 harg38 arg39
  harg39 arg40 harg40 arg41 harg41 arg42 harg42 x0 x1 x2 a2 a13 a39) = loop i x0 x1 x2 (k0_t1_loop i).trips := by
    unfold carried2
    rw [show Scf.trips (k0_t2_loop i).lb (k0_t2_loop i).ub (k0_t2_loop i).st = 0 from trips2 i]
    exact loop_eq c i arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37
      arg38 harg38 arg39 harg39 arg40 harg40 arg41 harg41 arg42 harg42 x0 x1 x2 a2 a13 _ (Nat.le_refl _)
  rw [hl, h3, h4, hq, loaded, loaded]
  rfl

end run

end Cert.KernelIdeal.Attn

end
-- ==== Proof.Attn.Softmax.lean ====
/-
Softmax over the extended reals, one row at a time: scores that are real or masked (⊥), and values that are real. A softmax
taken tile by tile — a running maximum, a running denominator and a running numerator, rescaled whenever the maximum moves
— ends with the same quotient as the softmax taken at once.
-/
module

public import Idealize.ShloMosaic.PureOps.Ideal
public import Mathlib.Analysis.SpecialFunctions.Pow.Real

@[expose] public section

noncomputable section

namespace Cert.Softmax

open Idealize.ShloMosaic

/-- The sum of reals, read as an extended real, is the sum of the reals so read. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A power of two is an exponential. -/
theorem exp2_real (r : ℝ) : Ideal.exp2 (r : EReal) = (Real.exp (Real.log 2 * r) : ℝ) := by
  show ((Real.rpow 2 r : ℝ) : EReal) = _
  congr 1
  exact Real.rpow_def_of_pos (by norm_num) r

section row

variable {ι : Type*} [Fintype ι] (P : ι → Prop) [DecidablePred P] (S V : ι → ℝ) (e v : ι → EReal)

/-- The maximum of scores of which one at least is not masked is a real. -/
theorem max_real (he : ∀ n, e n = if P n then (S n : EReal) else ⊥) (n0 : ι) (h0 : P n0) :
    ∃ M : ℝ, Finset.univ.fold max (⊥ : EReal) e = M := by
  have htop : Finset.univ.fold max (⊥ : EReal) e < ⊤ := by
    rw [Finset.fold_max_lt]
    refine ⟨bot_lt_top, fun n _ => ?_⟩
    rw [he]
    split
    · exact EReal.coe_lt_top _
    · exact bot_lt_top
  have hbot : (⊥ : EReal) < Finset.univ.fold max (⊥ : EReal) e := by
    rw [Finset.lt_fold_max]
    refine Or.inr ⟨n0, Finset.mem_univ _, ?_⟩
    rw [he, if_pos h0]
    exact EReal.bot_lt_coe _
  exact ⟨_, (EReal.coe_toReal htop.ne hbot.ne').symm⟩

theorem max_bot_real {m : EReal} (hm : m = ⊥ ∨ ∃ M : ℝ, m = M) (he : ∀ n, e n = if P n then (S n : EReal) else ⊥) (n0 : ι) (h0 : P n0) :
    ∃ M : ℝ, max m (Finset.univ.fold max (⊥ : EReal) e) = M := by
  obtain ⟨M, hM⟩ := max_real P S e he n0 h0
  rw [hM]
  rcases hm with rfl | ⟨M', rfl⟩
  · exact ⟨M, max_eq_right bot_le⟩
  · exact ⟨max M' M, (EReal.coe_strictMono.monotone.map_max).symm⟩

/-- What a score weighs against a real maximum, in powers of two. -/
theorem weight2 (he : ∀ n, e n = if P n then (S n : EReal) else ⊥) (M : ℝ) (n : ι) :
    Ideal.exp2 (e n - (M : EReal))
      = ((Real.exp (Real.log 2 * -M) * (if P n then Real.exp (Real.log 2 * S n) else 0) : ℝ) : EReal) := by
  rw [he]
  split
  · rw [← EReal.coe_sub, exp2_real, ← Real.exp_add]
    congr 2
    ring
  · rw [EReal.bot_sub, mul_zero]; rfl

/-- What a score weighs against a real maximum, in exponentials. -/
theorem weight (he : ∀ n, e n = if P n then (S n : EReal) else ⊥) (M : ℝ) (n : ι) :
    Ideal.exp (e n - (M : EReal)) = ((Real.exp (-M) * (if P n then Real.exp (S n) else 0) : ℝ) : EReal) := by
  rw [he]
  split
  · rw [← EReal.coe_sub, Ideal.exp_coe, ← Real.exp_add]
    congr 2
    ring
  · rw [EReal.bot_sub, mul_zero]; rfl

/-- A softmax that has taken in scores whose powers of two sum to `Z`, and to `U` when weighed by the values: the running
maximum `m`, denominator `l` and numerator `a`. -/
def Taken (m l a : EReal) (Z U : ℝ) : Prop :=
  (m = ⊥ ∧ l = 0 ∧ a = 0 ∧ Z = 0 ∧ U = 0)
    ∨ ∃ M : ℝ, m = M ∧ l = ((Real.exp (Real.log 2 * -M) * Z : ℝ) : EReal) ∧ a = ((Real.exp (Real.log 2 * -M) * U : ℝ) : EReal)

theorem Taken.start : Taken ⊥ 0 0 0 0 := Or.inl ⟨rfl, rfl, rfl, rfl, rfl⟩

/-- Taking in one more tile. -/
theorem Taken.step {m l a : EReal} {Z U : ℝ} (h : Taken m l a Z U) (he : ∀ n, e n = if P n then (S n : EReal) else ⊥)
    (hv : ∀ n, v n = (V n : EReal)) (n0 : ι) (h0 : P n0) (m' : EReal) (hm' : m' = max m (Finset.univ.fold max (⊥ : EReal) e)) :
    Taken m' (Ideal.exp2 (m - m') * l + ∑ n, Ideal.exp2 (e n - m')) (Ideal.exp2 (m - m') * a + ∑ n, Ideal.exp2 (e n - m') * v n)
      (Z + ∑ n, if P n then Real.exp (Real.log 2 * S n) else 0)
      (U + ∑ n, (if P n then Real.exp (Real.log 2 * S n) else 0) * V n) := by
  obtain ⟨M', hM'⟩ := max_bot_real P S e (m := m) (by
    rcases h with h | ⟨M, h, -⟩
    · exact Or.inl h.1
    · exact Or.inr ⟨M, h⟩) he n0 h0
  rw [hM'] at hm'
  subst hm'
  have hl : ∑ n, Ideal.exp2 (e n - (M' : EReal))
      = ((Real.exp (Real.log 2 * -M') * ∑ n, (if P n then Real.exp (Real.log 2 * S n) else 0) : ℝ) : EReal) := by
    rw [Finset.mul_sum, coe_sum]
    exact Finset.sum_congr rfl fun n _ => weight2 P S e he M' n
  have ha : ∑ n, Ideal.exp2 (e n - (M' : EReal)) * v n
      = ((Real.exp (Real.log 2 * -M') * ∑ n, (if P n then Real.exp (Real.log 2 * S n) else 0) * V n : ℝ) : EReal) := by
    rw [Finset.mul_sum, coe_sum]
    refine Finset.sum_congr rfl fun n _ => ?_
    rw [weight2 P S e he M' n, hv, ← EReal.coe_mul, mul_assoc]
  refine Or.inr ⟨M', rfl, ?_, ?_⟩
  · rw [hl]
    rcases h with ⟨rfl, rfl, rfl, rfl, rfl⟩ | ⟨M, rfl, rfl, rfl⟩
    · rw [mul_zero, zero_add, zero_add]
    · rw [← EReal.coe_sub, exp2_real, ← EReal.coe_mul, ← EReal.coe_add, ← mul_assoc, ← Real.exp_add, mul_add]
      congr 5
      ring
  · rw [ha]
    rcases h with ⟨rfl, rfl, rfl, rfl, rfl⟩ | ⟨M, rfl, rfl, rfl⟩
    · rw [mul_zero, zero_add, zero_add]
    · rw [← EReal.coe_sub, exp2_real, ← EReal.coe_mul, ← EReal.coe_add, ← mul_assoc, ← Real.exp_add, mul_add]
      congr 5
      ring

/-- A quotient of reals. -/
theorem div_real (x y : ℝ) (hy : y ≠ 0) : Ideal.div (x : EReal) (y : EReal) = ((x / y : ℝ) : EReal) := by
  rw [Ideal.div_coe hy, ← EReal.coe_mul]
  congr 1
  ring

/-- What a softmax that has taken in everything yields. -/
theorem Taken.quotient {m l a : EReal} {Z U : ℝ} (h : Taken m l a Z U) (hZ : 0 < Z) : Ideal.div a l = ((U / Z : ℝ) : EReal) := by
  rcases h with ⟨-, -, -, rfl, -⟩ | ⟨M, -, rfl, rfl⟩
  · exact absurd hZ (lt_irrefl _)
  · rw [div_real _ _ (mul_ne_zero (Real.exp_pos _).ne' hZ.ne')]
    congr 1
    rw [mul_div_mul_left _ _ (Real.exp_pos _).ne']

/-- The softmax taken at once: a score's share. -/
theorem share (he : ∀ n, e n = if P n then (S n : EReal) else ⊥) (n0 : ι) (h0 : P n0) (m : EReal)
    (hm : m = Finset.univ.fold max (⊥ : EReal) e) (n : ι) :
    Ideal.div (Ideal.exp (e n - m)) (∑ j, Ideal.exp (e j - m))
      = (((if P n then Real.exp (S n) else 0) / ∑ j, (if P j then Real.exp (S j) else 0) : ℝ) : EReal) := by
  obtain ⟨M, hM⟩ := max_real P S e he n0 h0
  rw [hM] at hm
  subst hm
  have hs : ∑ j, Ideal.exp (e j - (M : EReal))
      = ((Real.exp (-M) * ∑ j, (if P j then Real.exp (S j) else 0) : ℝ) : EReal) := by
    rw [Finset.mul_sum, coe_sum]
    exact Finset.sum_congr rfl fun j _ => weight P S e he M j
  have hpos : 0 < ∑ j, (if P j then Real.exp (S j) else 0) :=
    Finset.sum_pos' (fun j _ => by split; exacts [(Real.exp_pos _).le, le_refl _]) ⟨n0, Finset.mem_univ _, by rw [if_pos h0]; exact Real.exp_pos _⟩
  rw [hs, weight P S e he M n, div_real _ _ (mul_ne_zero (Real.exp_pos _).ne' hpos.ne')]
  congr 1
  rw [mul_div_mul_left _ _ (Real.exp_pos _).ne']

end row

/-- The difference of two softmaxes, the second weighed by `lam`, applied to the values: share by share, or numerator by
numerator. -/
theorem difference {ι : Type*} [Fintype ι] (w1 w2 V : ι → ℝ) (Z1 Z2 lam : ℝ) :
    ∑ n, (V n : EReal) * (((w1 n / Z1 : ℝ) : EReal) - (lam : EReal) * ((w2 n / Z2 : ℝ) : EReal))
      = (((∑ n, w1 n * V n) / Z1 : ℝ) : EReal) - (lam : EReal) * (((∑ n, w2 n * V n) / Z2 : ℝ) : EReal) := by
  simp only [← EReal.coe_mul, ← EReal.coe_sub, ← coe_sum]
  congr 1
  rw [Finset.sum_div, Finset.sum_div, Finset.mul_sum, ← Finset.sum_sub_distrib]
  exact Finset.sum_congr rfl fun n _ => by ring

/-- A causal sum over 4096 keys, tile by tile: the tiles before the diagonal whole, the diagonal one up to the query. -/
theorem sum_tiles (f : ℕ → ℝ) (j r : ℕ) (hj : j < 8) (hr : r < 512) :
    (∑ k ∈ Finset.range j, ∑ n : Fin 512, f (512 * k + n.val)) + (∑ n : Fin 512, if n.val ≤ r then f (512 * j + n.val) else 0)
      = ∑ n : Fin 4096, if n.val ≤ 512 * j + r then f n.val else 0 := by
  have h1 : ∀ j : ℕ, ∑ k ∈ Finset.range j, ∑ n : Fin 512, f (512 * k + n.val) = ∑ n ∈ Finset.range (512 * j), f n := by
    intro j
    induction j with
    | zero => simp
    | succ j ih => rw [Finset.sum_range_succ, ih, Nat.mul_succ, Finset.sum_range_add, Finset.sum_range fun n => f (512 * j + n)]
  rw [h1, Finset.sum_range fun n => f n, ← Finset.sum_range fun n => f n,
    ← Finset.sum_range (n := 512) fun n => if n ≤ r then f (512 * j + n) else 0,
    ← Finset.sum_range (n := 4096) fun n => if n ≤ 512 * j + r then f n else 0,
    show 4096 = 512 * j + (512 + (4096 - 512 * j - 512)) by omega, Finset.sum_range_add, Finset.sum_range_add]
  have h2 : ∑ x ∈ Finset.range (512 * j), (if x ≤ 512 * j + r then f x else 0) = ∑ x ∈ Finset.range (512 * j), f x :=
    Finset.sum_congr rfl fun x hx => if_pos (by have := Finset.mem_range.mp hx; omega)
  have h3 : ∑ x ∈ Finset.range 512, (if 512 * j + x ≤ 512 * j + r then f (512 * j + x) else 0)
      = ∑ x ∈ Finset.range 512, if x ≤ r then f (512 * j + x) else 0 :=
    Finset.sum_congr rfl fun x _ => by simp only [Nat.add_le_add_iff_left]
  have h4 : ∑ x ∈ Finset.range (4096 - 512 * j - 512), (if 512 * j + (512 + x) ≤ 512 * j + r then f (512 * j + (512 + x)) else 0) = 0 :=
    Finset.sum_eq_zero fun x _ => if_neg (by omega)
  rw [h2, h3, h4, add_zero]

end Cert.Softmax

end
-- ==== Proof.Attn.Block.lean ====
/-
What one tile of the differential attention kernel computes, row by row: the masked scores, the maximum, the weights and
the sums of each of its two softmaxes, and the norm of their difference.
-/
module

public import proofs.«01_k».proof.Proof.Attn.PromptOut
public import proofs.«01_k».proof.Proof.Attn.Softmax
public import Idealize.ShloMosaic.Lib.Pointwise

@[expose] public section

noncomputable section

namespace Cert.KernelIdeal.Attn

open Cert.KernelIdeal.Gen
open Idealize.ShloMosaic

variable (q : FVec Ideal S512x128 .bf16) (m l : FVec Ideal S512x1 .f32) (a : FVec Ideal S512x128 .f32)
  (k v : Vec Ideal S1x1x512x128 .bf16) (x0 : Vec Ideal S1x512x128 .bf16)

/-- The score of query row `r` against key `n` of a tile. -/
def score (r n : Fin 512) : EReal := ∑ d : Fin 128, q (ix2 r d) * k (ix4 0 0 n d)

theorem mask_eq : (Named.named κ "mask" 0xF149F2CA#32 : Ideal .f32) = ⊥ :=
  IdealRules.named_const.ideal_named_scalar _ _ _ _ rfl

theorem low_eq : Ideal.ofBits .f32 0xFF800000#32 = ⊥ := by simp [Ideal.ofBits, Ideal.ieee]

theorem select_slt {α : Type} (d : Fin 128) (a b : α) :
    Scalar.select (IntOp.cmpi .slt (BitVec.ofNat 32 d.val) 64#32) a b = if d.val < 64 then a else b := by
  have h : ∀ d : Fin 128, (IntOp.cmpi .slt (BitVec.ofNat 32 d.val) 64#32 = 1) = (d.val < 64) := by decide
  unfold Scalar.select
  simp only [h]

theorem select_sge {α : Type} (r n : Fin 512) (a b : α) :
    Scalar.select (IntOp.cmpi .sge (BitVec.ofNat 32 r.val) (BitVec.ofNat 32 n.val)) a b = if n.val ≤ r.val then a else b := by
  have e (x : Fin 512) : (BitVec.ofNat 32 x.val).toInt = x.val := by
    have hx := x.isLt
    have h : (BitVec.ofNat 32 x.val).toNat = x.val := by
      rw [BitVec.toNat_ofNat]; exact Nat.mod_eq_of_lt (by omega)
    rw [BitVec.toInt_eq_toNat_of_lt (by rw [h]; omega), h]
  unfold Scalar.select
  have h : IntOp.cmpi .sge (BitVec.ofNat 32 r.val) (BitVec.ofNat 32 n.val) = BitVec.ofBool (decide (n.val ≤ r.val)) := by
    show BitVec.ofBool ((BitVec.ofNat 32 n.val).sle (BitVec.ofNat 32 r.val)) = _
    rw [BitVec.sle_eq_decide, e, e]
    simp
  rw [h]
  by_cases hn : n.val ≤ r.val <;> simp [hn]

/-- The first half of the query's lanes. -/
theorem pay56_apply (r : Fin 512) (d : Fin 128) : k0_pay56 (F := Ideal) x0 (ix2 r d) = if d.val < 64 then x0 (ix3 0 r d) else 0 := by
  pointwise [k0_pay56, k0_pay53, k0_pay54, k0_pay55]
  exact select_slt ..

/-- The second half. -/
theorem pay57_apply (r : Fin 512) (d : Fin 128) : k0_pay57 (F := Ideal) x0 (ix2 r d) = if d.val < 64 then 0 else x0 (ix3 0 r d) := by
  pointwise [k0_pay57, k0_pay53, k0_pay54, k0_pay55]
  exact select_slt ..

theorem pay58_apply (r : Fin 512) : k0_pay58 (F := Ideal) (ix2 r 0) = ⊥ := by
  pointwise [k0_pay58]
  exact mask_eq

theorem pay59_apply (r : Fin 512) : k0_pay59 (F := Ideal) (ix2 r 0) = 0 := by
  pointwise [k0_pay59]

theorem pay60_apply (r : Fin 512) (d : Fin 128) : k0_pay60 (F := Ideal) (ix2 r d) = 0 := by
  pointwise [k0_pay60]

theorem pay61_apply (r : Fin 512) : k0_pay61 (F := Ideal) (ix2 r 0) = ⊥ := by
  pointwise [k0_pay61]
  exact mask_eq

theorem pay62_apply (r : Fin 512) : k0_pay62 (F := Ideal) (ix2 r 0) = 0 := by
  pointwise [k0_pay62]

theorem pay63_apply (r : Fin 512) (d : Fin 128) : k0_pay63 (F := Ideal) (ix2 r d) = 0 := by
  pointwise [k0_pay63]

theorem pay5_apply (r n : Fin 512) : k0_pay5 (F := Ideal) q k (ix2 r n) = score q k r n := by
  pointwise [k0_pay5, k0_pay3]
  rfl

theorem pay7_apply (r : Fin 512) : k0_pay7 (F := Ideal) q m k (ix2 r 0)
    = max (m (ix2 r 0)) (Finset.univ.fold max ⊥ fun n => score q k r n) := by
  pointwise [k0_pay7]
  simp only [pay5_apply, low_eq]

theorem pay10_apply (r : Fin 512) : k0_pay10 (F := Ideal) q m l k (ix2 r 0)
    = Ideal.exp2 (m (ix2 r 0) - k0_pay7 q m k (ix2 r 0)) * l (ix2 r 0)
      + ∑ n, Ideal.exp2 (score q k r n - k0_pay7 q m k (ix2 r 0)) := by
  pointwise [k0_pay10, k0_pay8, k0_pay9]
  simp only [pay5_apply]
  rfl

theorem pay11_apply (r : Fin 512) (d : Fin 128) : k0_pay11 (F := Ideal) q m a k v (ix2 r d)
    = Ideal.exp2 (m (ix2 r 0) - k0_pay7 q m k (ix2 r 0)) * a (ix2 r d)
      + ∑ n, Ideal.exp2 (score q k r n - k0_pay7 q m k (ix2 r 0)) * v (ix4 0 0 n d) := by
  pointwise [k0_pay11, k0_pay8, k0_pay9, k0_pay4]
  simp only [pay5_apply]
  rfl

theorem pay6_apply (r n : Fin 512) : k0_pay6 (F := Ideal) q k (ix2 r n) = score q k r n := by
  pointwise [k0_pay6, k0_pay3]
  rfl

theorem pay12_apply (r : Fin 512) : k0_pay12 (F := Ideal) q m k (ix2 r 0)
    = max (m (ix2 r 0)) (Finset.univ.fold max ⊥ fun n => score q k r n) := by
  pointwise [k0_pay12]
  simp only [pay6_apply, low_eq]

theorem pay15_apply (r : Fin 512) : k0_pay15 (F := Ideal) q m l k (ix2 r 0)
    = Ideal.exp2 (m (ix2 r 0) - k0_pay12 q m k (ix2 r 0)) * l (ix2 r 0)
      + ∑ n, Ideal.exp2 (score q k r n - k0_pay12 q m k (ix2 r 0)) := by
  pointwise [k0_pay15, k0_pay13, k0_pay14]
  simp only [pay6_apply]
  rfl

theorem pay16_apply (r : Fin 512) (d : Fin 128) : k0_pay16 (F := Ideal) q m a k v (ix2 r d)
    = Ideal.exp2 (m (ix2 r 0) - k0_pay12 q m k (ix2 r 0)) * a (ix2 r d)
      + ∑ n, Ideal.exp2 (score q k r n - k0_pay12 q m k (ix2 r 0)) * v (ix4 0 0 n d) := by
  pointwise [k0_pay16, k0_pay13, k0_pay14, k0_pay4]
  simp only [pay6_apply]
  rfl

theorem pay138_apply (r n : Fin 512) : k0_pay138 (F := Ideal) q k (ix2 r n) = if n.val ≤ r.val then score q k r n else ⊥ := by
  pointwise [k0_pay138, k0_pay136]
  rw [mask_eq]
  exact select_sge ..

theorem pay139_apply (r : Fin 512) : k0_pay139 (F := Ideal) q m k (ix2 r 0)
    = max (m (ix2 r 0)) (Finset.univ.fold max ⊥ fun n => (if n.val ≤ r.val then score q k r n else ⊥)) := by
  pointwise [k0_pay139]
  simp only [pay138_apply, low_eq]

theorem pay142_apply (r : Fin 512) : k0_pay142 (F := Ideal) q m l k (ix2 r 0)
    = Ideal.exp2 (m (ix2 r 0) - k0_pay139 q m k (ix2 r 0)) * l (ix2 r 0)
      + ∑ n, Ideal.exp2 ((if n.val ≤ r.val then score q k r n else ⊥) - k0_pay139 q m k (ix2 r 0)) := by
  pointwise [k0_pay142, k0_pay140, k0_pay141]
  simp only [pay138_apply]
  rfl

theorem pay143_apply (r : Fin 512) (d : Fin 128) : k0_pay143 (F := Ideal) q m a k v (ix2 r d)
    = Ideal.exp2 (m (ix2 r 0) - k0_pay139 q m k (ix2 r 0)) * a (ix2 r d)
      + ∑ n, Ideal.exp2 ((if n.val ≤ r.val then score q k r n else ⊥) - k0_pay139 q m k (ix2 r 0)) * v (ix4 0 0 n d) := by
  pointwise [k0_pay143, k0_pay140, k0_pay141, k0_pay137]
  simp only [pay138_apply]
  rfl

theorem pay144_apply (r n : Fin 512) : k0_pay144 (F := Ideal) q k (ix2 r n) = if n.val ≤ r.val then score q k r n else ⊥ := by
  pointwise [k0_pay144, k0_pay136]
  rw [mask_eq]
  exact select_sge ..

theorem pay145_apply (r : Fin 512) : k0_pay145 (F := Ideal) q m k (ix2 r 0)
    = max (m (ix2 r 0)) (Finset.univ.fold max ⊥ fun n => (if n.val ≤ r.val then score q k r n else ⊥)) := by
  pointwise [k0_pay145]
  simp only [pay144_apply, low_eq]

theorem pay148_149_apply (r : Fin 512) : k0_pay148 (F := Ideal) q m l k (ix2 r 0) + k0_pay149 (F := Ideal) q m k (ix2 r 0)
    = Ideal.exp2 (m (ix2 r 0) - k0_pay145 q m k (ix2 r 0)) * l (ix2 r 0)
      + ∑ n, Ideal.exp2 ((if n.val ≤ r.val then score q k r n else ⊥) - k0_pay145 q m k (ix2 r 0)) := by
  pointwise [k0_pay148, k0_pay149, k0_pay146, k0_pay147]
  simp only [pay144_apply]
  rfl

theorem pay146_147_apply (r : Fin 512) (d : Fin 128) :
    k0_pay146 (F := Ideal) q m k (ix2 r 0) * a (ix2 r d) + ∑ n : Fin 512, k0_pay147 (F := Ideal) q m k (ix2 r n) * v (ix4 0 0 n d)
    = Ideal.exp2 (m (ix2 r 0) - k0_pay145 q m k (ix2 r 0)) * a (ix2 r d)
      + ∑ n, Ideal.exp2 ((if n.val ≤ r.val then score q k r n else ⊥) - k0_pay145 q m k (ix2 r 0)) * v (ix4 0 0 n d) := by
  pointwise [k0_pay146, k0_pay147]
  simp only [pay144_apply]
  rfl

/-- The factor of the second softmax, from the four vectors in the first four rows. -/
def lambda (x3 : Vec Ideal S8x128 .f32) : EReal :=
  Ideal.exp (∑ d : Fin 128, x3 (ix2 0 d) * x3 (ix2 1 d)) - Ideal.exp (∑ d : Fin 128, x3 (ix2 2 d) * x3 (ix2 3 d))
    + Ideal.ofBits .f32 0x3EB60549#32

/-- A head's row, divided by the root of the mean of its squares, scaled by the gain and a constant. -/
def norm (x g : Fin 128 → EReal) (d : Fin 128) : EReal :=
  x d * Ideal.rsqrt (Ideal.div (∑ e, x e * x e) (Ideal.ofBits .f32 0x43000000#32) + Ideal.ofBits .f32 0x358637BD#32) * g d
    * Ideal.ofBits .f32 0x3F24FD5C#32

theorem pay150_apply (a1 : FVec Ideal S512x128 .f32) (l1 e2 m2 s2 : FVec Ideal S512x1 .f32) (p2 : FVec Ideal S512x512 .f32)
    (x3 : Vec Ideal S8x128 .f32) (x4 : Vec Ideal S1x128 .f32) (r : Fin 512) (d : Fin 128) :
    k0_pay1 (k0_pay150 (F := Ideal) a (k0_pay137 v) l1 a1 e2 p2 m2 s2 x3 x4) (ix3 0 r d)
      = norm (fun d => Ideal.div (a1 (ix2 r d)) (l1 (ix2 r 0))
          - lambda x3 * Ideal.div (e2 (ix2 r 0) * a (ix2 r d) + ∑ n : Fin 512, p2 (ix2 r n) * v (ix4 0 0 n d))
            (m2 (ix2 r 0) + s2 (ix2 r 0))) (fun d => x4 (ix2 0 d)) d := by
  pointwise [k0_pay1, k0_pay150, k0_pay137]
  rfl

end Cert.KernelIdeal.Attn

end
-- ==== Proof.Attn.Tiles.lean ====
/-
The differential attention kernel's output block when what it reads is finite: taken in tile by tile, each softmax is the
causal softmax over the head's 4096 keys taken at once.
-/
module

public import proofs.«01_k».proof.Proof.Attn.Block

@[expose] public section

noncomputable section

namespace Cert.KernelIdeal.Attn

open Cert.KernelIdeal.Gen Cert.Softmax
open Idealize.ShloMosaic

/-- The loop runs over the whole tiles before the diagonal. -/
theorem trips1 (i : grid0.Coords) : (k0_t1_loop i).trips = (i 2).val := by
  have h : ∀ j : Fin 8, (Scf.Loop.mk (w := 32) 0#32
      (Scalar.addi 0#32 (Scalar.muli (Scalar.divsi (Scalar.subi (BitVec.ofNat 32 j.val) 0#32) 1#32) 1#32)) 1#32).trips = j.val := by
    decide +kernel
  exact h (i 2)

variable (i : grid0.Coords) (x : Vec Ideal S1x1x4096x128 .bf16)

theorem tileAt_apply (k : Fin (k0_t1_loop i).trips) (n : Fin 512) (d : Fin 128) (hn : 512 * k.val + n.val < 4096) :
    tileAt i x k (ix4 0 0 n d) = x (ix4 0 0 ⟨512 * k.val + n.val, hn⟩ d) := by
  unfold tileAt
  show x ((Rect.unit (s := S1x1x4096x128) (k0_off2 i k) S1x1x512x128.size (k0_off2_inb i k)).emb (ix4 0 0 n d)) = _
  congr 1
  funext a
  apply Fin.ext
  show k0_off2 i k a + 1 * ((ix4 (0 : Fin 1) (0 : Fin 1) n d : S1x1x512x128.Idx) a).val = _
  rw [k0_off2_eq]
  match a with
  | ⟨0, _⟩ => rfl
  | ⟨1, _⟩ => rfl
  | ⟨2, _⟩ => show 512 * k.val + 1 * n.val = 512 * k.val + n.val; omega
  | ⟨3, _⟩ => show 0 + 1 * d.val = d.val; omega

theorem diagAt_apply (n : Fin 512) (d : Fin 128) (hn : 512 * (i 2).val + n.val < 4096) :
    diagAt i x (ix4 0 0 n d) = x (ix4 0 0 ⟨512 * (i 2).val + n.val, hn⟩ d) := by
  unfold diagAt
  show x ((Rect.unit (s := S1x1x4096x128) (k0_off4 i) S1x1x512x128.size (k0_off4_inb i)).emb (ix4 0 0 n d)) = _
  congr 1
  funext a
  apply Fin.ext
  show k0_off4 i a + 1 * ((ix4 (0 : Fin 1) (0 : Fin 1) n d : S1x1x512x128.Idx) a).val = _
  rw [k0_off4_eq]
  match a with
  | ⟨0, _⟩ => rfl
  | ⟨1, _⟩ => rfl
  | ⟨2, _⟩ => show 512 * (i 2).val + 1 * n.val = 512 * (i 2).val + n.val; omega
  | ⟨3, _⟩ => show 0 + 1 * d.val = d.val; omega

/-- The real score of a query row against key `n`. -/
def dot (q : Fin 128 → ℝ) (K : ℕ → Fin 128 → ℝ) (n : ℕ) : ℝ := ∑ d, q d * K n d

/-- What key `n` weighs. -/
def weigh (q : Fin 128 → ℝ) (K : ℕ → Fin 128 → ℝ) (n : ℕ) : ℝ := Real.exp (Real.log 2 * dot q K n)

section step

variable (q : FVec Ideal S512x128 .bf16) (m l : FVec Ideal S512x1 .f32) (a : FVec Ideal S512x128 .f32)
  (k v : Vec Ideal S1x1x512x128 .bf16) (Q : Fin 128 → ℝ) (K V : ℕ → Fin 128 → ℝ) (b : ℕ) (r : Fin 512) (d : Fin 128)
  (hq : ∀ d, q (ix2 r d) = (Q d : EReal)) (hk : ∀ (n : Fin 512) d, k (ix4 0 0 n d) = (K (b + n.val) d : EReal))
  (hv : ∀ (n : Fin 512) d, v (ix4 0 0 n d) = (V (b + n.val) d : EReal)) {Z U : ℝ}
  (h : Taken (m (ix2 r 0)) (l (ix2 r 0)) (a (ix2 r d)) Z U)

include hq hk in
theorem score_real (n : Fin 512) : score q k r n = (dot Q K (b + n.val) : EReal) := by
  unfold score dot
  rw [coe_sum]
  simp only [hq, hk, EReal.coe_mul]

include hq hk hv h

/-- A whole tile, first softmax. -/
theorem whole1 : Taken (k0_pay7 q m k (ix2 r 0)) (k0_pay10 q m l k (ix2 r 0)) (k0_pay11 q m a k v (ix2 r d))
    (Z + ∑ n : Fin 512, weigh Q K (b + n.val)) (U + ∑ n : Fin 512, weigh Q K (b + n.val) * V (b + n.val) d) := by
  have := Taken.step (fun _ : Fin 512 => True) (fun n => dot Q K (b + n.val)) (fun n => V (b + n.val) d) (fun n => score q k r n)
    (fun n => v (ix4 0 0 n d)) h (fun n => by rw [if_pos trivial]; exact score_real q k Q K b r hq hk n) (fun n => hv n d) 0 trivial
    (k0_pay7 q m k (ix2 r 0)) (pay7_apply ..)
  rw [pay10_apply, pay11_apply]
  simpa only [if_true, weigh] using this

/-- A whole tile, second softmax. -/
theorem whole2 : Taken (k0_pay12 q m k (ix2 r 0)) (k0_pay15 q m l k (ix2 r 0)) (k0_pay16 q m a k v (ix2 r d))
    (Z + ∑ n : Fin 512, weigh Q K (b + n.val)) (U + ∑ n : Fin 512, weigh Q K (b + n.val) * V (b + n.val) d) := by
  have := Taken.step (fun _ : Fin 512 => True) (fun n => dot Q K (b + n.val)) (fun n => V (b + n.val) d) (fun n => score q k r n)
    (fun n => v (ix4 0 0 n d)) h (fun n => by rw [if_pos trivial]; exact score_real q k Q K b r hq hk n) (fun n => hv n d) 0 trivial
    (k0_pay12 q m k (ix2 r 0)) (pay12_apply ..)
  rw [pay15_apply, pay16_apply]
  simpa only [if_true, weigh] using this

/-- The diagonal tile, first softmax. -/
theorem diagonal1 : Taken (k0_pay139 q m k (ix2 r 0)) (k0_pay142 q m l k (ix2 r 0)) (k0_pay143 q m a k v (ix2 r d))
    (Z + ∑ n : Fin 512, if n.val ≤ r.val then weigh Q K (b + n.val) else 0)
    (U + ∑ n : Fin 512, if n.val ≤ r.val then weigh Q K (b + n.val) * V (b + n.val) d else 0) := by
  have := Taken.step (fun n : Fin 512 => n.val ≤ r.val) (fun n => dot Q K (b + n.val)) (fun n => V (b + n.val) d)
    (fun n => if n.val ≤ r.val then score q k r n else ⊥) (fun n => v (ix4 0 0 n d)) h
    (fun n => by rw [score_real q k Q K b r hq hk n]) (fun n => hv n d) r le_rfl
    (k0_pay139 q m k (ix2 r 0)) (pay139_apply ..)
  rw [pay142_apply, pay143_apply]
  simpa only [ite_mul, zero_mul, weigh] using this

/-- The diagonal tile, second softmax. -/
theorem diagonal2 : Taken (k0_pay145 q m k (ix2 r 0)) (k0_pay148 q m l k (ix2 r 0) + k0_pay149 q m k (ix2 r 0))
    (k0_pay146 q m k (ix2 r 0) * a (ix2 r d) + ∑ n : Fin 512, k0_pay147 q m k (ix2 r n) * v (ix4 0 0 n d))
    (Z + ∑ n : Fin 512, if n.val ≤ r.val then weigh Q K (b + n.val) else 0)
    (U + ∑ n : Fin 512, if n.val ≤ r.val then weigh Q K (b + n.val) * V (b + n.val) d else 0) := by
  have := Taken.step (fun n : Fin 512 => n.val ≤ r.val) (fun n => dot Q K (b + n.val)) (fun n => V (b + n.val) d)
    (fun n => if n.val ≤ r.val then score q k r n else ⊥) (fun n => v (ix4 0 0 n d)) h
    (fun n => by rw [score_real q k Q K b r hq hk n]) (fun n => hv n d) r le_rfl
    (k0_pay145 q m k (ix2 r 0)) (pay145_apply ..)
  rw [pay148_149_apply, pay146_147_apply]
  simpa only [ite_mul, zero_mul, weigh] using this

end step

/-- The weights of the keys up to position `t`. -/
def causal (t : ℕ) (w : ℕ → ℝ) (n : Fin 4096) : ℝ := if n.val ≤ t then w n.val else 0

section block

variable (x0 : Vec Ideal S1x512x128 .bf16) (x1 x2 : Vec Ideal S1x1x4096x128 .bf16) (x3 : Vec Ideal S8x128 .f32)
  (x4 : Vec Ideal S1x128 .f32) (Q : Fin 512 → Fin 128 → ℝ) (K V : ℕ → Fin 128 → ℝ)
  (h0 : ∀ r d, x0 (ix3 0 r d) = (Q r d : EReal)) (h1 : ∀ (n : Fin 4096) d, x1 (ix4 0 0 n d) = (K n.val d : EReal))
  (h2 : ∀ (n : Fin 4096) d, x2 (ix4 0 0 n d) = (V n.val d : EReal)) (r : Fin 512) (d : Fin 128)

/-- The first and the second half of a query row. -/
def first (q : Fin 128 → ℝ) (d : Fin 128) : ℝ := if d.val < 64 then q d else 0
def second (q : Fin 128 → ℝ) (d : Fin 128) : ℝ := if d.val < 64 then 0 else q d

include h0 in
theorem first_eq (d : Fin 128) : k0_pay56 (F := Ideal) x0 (ix2 r d) = (first (Q r) d : EReal) := by
  rw [pay56_apply, h0]; unfold first; split <;> rfl

include h0 in
theorem second_eq (d : Fin 128) : k0_pay57 (F := Ideal) x0 (ix2 r d) = (second (Q r) d : EReal) := by
  rw [pay57_apply, h0]; unfold second; split <;> rfl

include h0 h1 h2

/-- After `j` whole tiles each softmax has taken in their keys. -/
theorem loop_taken (j : ℕ) (hj : j ≤ (i 2).val) :
    Taken ((loop i x0 x1 x2 j).1 (ix2 r 0)) ((loop i x0 x1 x2 j).2.1 (ix2 r 0)) ((loop i x0 x1 x2 j).2.2.1 (ix2 r d))
      (∑ k ∈ Finset.range j, ∑ n : Fin 512, weigh (first (Q r)) K (512 * k + n.val))
      (∑ k ∈ Finset.range j, ∑ n : Fin 512, weigh (first (Q r)) K (512 * k + n.val) * V (512 * k + n.val) d)
    ∧ Taken ((loop i x0 x1 x2 j).2.2.2.1 (ix2 r 0)) ((loop i x0 x1 x2 j).2.2.2.2.1 (ix2 r 0)) ((loop i x0 x1 x2 j).2.2.2.2.2 (ix2 r d))
      (∑ k ∈ Finset.range j, ∑ n : Fin 512, weigh (second (Q r)) K (512 * k + n.val))
      (∑ k ∈ Finset.range j, ∑ n : Fin 512, weigh (second (Q r)) K (512 * k + n.val) * V (512 * k + n.val) d) := by
  induction j with
  | zero =>
    simp only [Finset.range_zero, Finset.sum_empty]
    constructor
    · show Taken (k0_pay58 (F := Ideal) (ix2 r 0)) (k0_pay59 (F := Ideal) (ix2 r 0)) (k0_pay60 (F := Ideal) (ix2 r d)) 0 0
      rw [pay58_apply, pay59_apply, pay60_apply]
      exact Taken.start
    · show Taken (k0_pay61 (F := Ideal) (ix2 r 0)) (k0_pay62 (F := Ideal) (ix2 r 0)) (k0_pay63 (F := Ideal) (ix2 r d)) 0 0
      rw [pay61_apply, pay62_apply, pay63_apply]
      exact Taken.start
  | succ j ih =>
    obtain ⟨ih1, ih2⟩ := ih (by omega)
    have hlt : j < (k0_t1_loop i).trips := by rw [trips1]; omega
    have h8 : (i 2).val < 8 := (i 2).isLt
    have e : loop i x0 x1 x2 (j + 1) = trip (k0_pay56 x0) (k0_pay57 x0) (tileAt i x1 ⟨j, hlt⟩) (tileAt i x2 ⟨j, hlt⟩)
        (loop i x0 x1 x2 j) := by
      show (if h : j < (k0_t1_loop i).trips then _ else _) = _
      rw [dif_pos hlt]
    have hk (x : Vec Ideal S1x1x4096x128 .bf16) (X : ℕ → Fin 128 → ℝ) (hx : ∀ (n : Fin 4096) d, x (ix4 0 0 n d) = (X n.val d : EReal))
        (n : Fin 512) (d : Fin 128) : tileAt i x ⟨j, hlt⟩ (ix4 0 0 n d) = (X (512 * j + n.val) d : EReal) :=
      (tileAt_apply i x ⟨j, hlt⟩ n d (by have := n.isLt; show 512 * j + n.val < 4096; omega)).trans (hx _ d)
    rw [e, Finset.sum_range_succ, Finset.sum_range_succ, Finset.sum_range_succ, Finset.sum_range_succ]
    exact ⟨whole1 _ _ _ _ _ _ _ K V (512 * j) r d (first_eq x0 Q h0 r) (hk x1 K h1) (hk x2 V h2) ih1,
      whole2 _ _ _ _ _ _ _ K V (512 * j) r d (second_eq x0 Q h0 r) (hk x1 K h1) (hk x2 V h2) ih2⟩

omit h0 h1 h2 in
theorem causal_pos (t : ℕ) (q : Fin 128 → ℝ) : 0 < ∑ n, causal t (weigh q K) n := by
  refine Finset.sum_pos' (fun n _ => ?_) ⟨0, Finset.mem_univ _, ?_⟩
  · unfold causal; split
    · exact (Real.exp_pos _).le
    · exact le_rfl
  · unfold causal; rw [if_pos (show (0 : Fin 4096).val ≤ t from Nat.zero_le _)]; exact Real.exp_pos _

/-- The output block's row `r`: the difference of the two causal softmaxes over the values, normed. -/
theorem promptOut_apply : promptOut i x0 x1 x2 x3 x4 (ix3 0 r d)
    = norm (fun d =>
        (((∑ n, causal (512 * (i 2).val + r.val) (weigh (first (Q r)) K) n * V n.val d)
          / ∑ n, causal (512 * (i 2).val + r.val) (weigh (first (Q r)) K) n : ℝ) : EReal)
        - lambda x3 * (((∑ n, causal (512 * (i 2).val + r.val) (weigh (second (Q r)) K) n * V n.val d)
          / ∑ n, causal (512 * (i 2).val + r.val) (weigh (second (Q r)) K) n : ℝ) : EReal)) (fun d => x4 (ix2 0 d)) d := by
  unfold promptOut finish
  rw [pay150_apply]
  have h8 : (i 2).val < 8 := (i 2).isLt
  have hk (x : Vec Ideal S1x1x4096x128 .bf16) (X : ℕ → Fin 128 → ℝ) (hx : ∀ (n : Fin 4096) d, x (ix4 0 0 n d) = (X n.val d : EReal))
      (n : Fin 512) (d : Fin 128) : diagAt i x (ix4 0 0 n d) = (X (512 * (i 2).val + n.val) d : EReal) :=
    (diagAt_apply i x n d (by have := n.isLt; omega)).trans (hx _ d)
  congr 1
  funext d
  have hl := loop_taken i x0 x1 x2 Q K V h0 h1 h2 r d (k0_t1_loop i).trips (trips1 i).le
  have f1 := diagonal1 _ _ _ _ _ _ _ K V (512 * (i 2).val) r d (first_eq x0 Q h0 r) (hk x1 K h1) (hk x2 V h2) hl.1
  have f2 := diagonal2 _ _ _ _ _ _ _ K V (512 * (i 2).val) r d (second_eq x0 Q h0 r) (hk x1 K h1) (hk x2 V h2) hl.2
  have hs (q : Fin 128 → ℝ) := sum_tiles (fun n => weigh q K n) (i 2).val r.val h8 r.isLt
  have hu (q : Fin 128 → ℝ) := sum_tiles (fun n => weigh q K n * V n d) (i 2).val r.val h8 r.isLt
  have hc (q : Fin 128 → ℝ) (n : Fin 4096) : causal (512 * (i 2).val + r.val) (weigh q K) n * V n.val d
      = if n.val ≤ 512 * (i 2).val + r.val then weigh q K n.val * V n.val d else 0 := by
    unfold causal; split
    · rfl
    · rw [zero_mul]
  rw [trips1] at f1 f2 ⊢
  simp only [hs, hu] at f1 f2
  simp only [hc]
  rw [f1.quotient (causal_pos K _ _), f2.quotient (causal_pos K _ _)]
  rfl

end block

end Cert.KernelIdeal.Attn

end
-- ==== Proof.Attn.Reference.lean ====
/-
What the reference of the differential attention computes, over the extended reals: at each query of each head the
difference of the two causal softmaxes over the values, normed.
-/
module

public import proofs.«01_k».proof.Proof.Gen.ReferenceIdeal.Read
public import proofs.«01_k».proof.Proof.Attn.Tiles

@[expose] public section

set_option maxRecDepth 16384

noncomputable section

namespace Cert.Attn

open Idealize.ShloMosaic Cert.ReferenceIdeal Cert.ReferenceIdeal.Gen Cert.ReferenceIdeal.Read
open Cert.KernelIdeal.Attn (norm lambda low_eq)

variable (x0 : Vec Ideal S4x4096x768 .f32) (x1 x2 : Vec Ideal S4x6x4096x128 .f32) (x3 : Vec Ideal S8x128 .f32)
  (x4 : Vec Ideal S1x128 .f32) (b : Fin 4) (h : Fin 6)

/-- A row's maximum, from −∞. -/
theorem row_max (y : Vec Ideal S4x6x4096x4096 .f32) (init : S_.Idx → EReal) (hr : S4x6x4096x4096.ReducesTo [3] S4x6x4096) (hu : 0 < S_.numel)
    (t : Fin 4096) : Host.reduce (FloatOps.maximumf (F := Ideal) (φ := .f32)) y init hr hu (ix3 b h t : S4x6x4096.Idx)
      = Finset.univ.fold max (init (Shape.Idx.first hu)) fun j => y (ix4 b h t j) := by
  have hs : S4x6x4096x4096.Reduces [3] S4x6x4096 := by decide
  have e := Host.reduce_eq_fold_single (fun x y : EReal => max x y) y init hr hs hu (ix3 b h t : S4x6x4096.Idx)
  refine Eq.trans ?_ (e.trans ?_)
  · rfl
  · refine congrArg (Finset.fold (fun x y : EReal => max x y) (init (Shape.Idx.first hu)) · Finset.univ) (funext fun k => ?_)
    refine congrArg y (funext fun a => Fin.ext ?_)
    match a with
    | ⟨0, _⟩ => rfl
    | ⟨1, _⟩ => rfl
    | ⟨2, _⟩ => rfl
    | ⟨3, _⟩ => rfl

theorem lambda_eq : val_main_v18 (F := Ideal) x3 ix0 = lambda x3 := by
  pointwise [val_main_v3, val_main_v4, val_main_v5, val_main_v6, val_main_v7, val_main_v8, val_main_v9, val_main_v10,
    val_main_v11, val_main_v12, val_main_v13, val_main_v14, val_main_v15, val_main_v16, val_main_v17, val_main_v18,
    val_main_cst, val_main_cst_0, val_main_cst_1]
  rfl

theorem query_eq (t : Fin 4096) (d : Fin 128) :
    val_main_v0 (F := Ideal) x0 (ix4 b t h d) = x0 (ix3 b t ⟨h.val * 128 + d.val, by omega⟩) := by
  pointwise [val_main_v0]

/-- Key `n` is masked from query `t` when it comes after it. -/
theorem select_sle {α : Type} (t n : Fin 4096) (a b : α) :
    Scalar.select (IntOp.cmpi .sle (BitVec.ofNat 32 n.val) (BitVec.ofNat 32 t.val)) a b = if n.val ≤ t.val then a else b := by
  have e (x : Fin 4096) : (BitVec.ofNat 32 x.val).toInt = x.val := by
    have hx := x.isLt
    have h : (BitVec.ofNat 32 x.val).toNat = x.val := by
      rw [BitVec.toNat_ofNat]; exact Nat.mod_eq_of_lt (by omega)
    rw [BitVec.toInt_eq_toNat_of_lt (by rw [h]; omega), h]
  unfold Scalar.select
  have h : IntOp.cmpi .sle (BitVec.ofNat 32 n.val) (BitVec.ofNat 32 t.val) = BitVec.ofBool (decide (n.val ≤ t.val)) := by
    show BitVec.ofBool ((BitVec.ofNat 32 n.val).sle (BitVec.ofNat 32 t.val)) = _
    rw [BitVec.sle_eq_decide, e, e]
    simp
  rw [h]
  by_cases hn : n.val ≤ t.val <;> simp [hn]

theorem score1_eq (t n : Fin 4096) : val_main_v30 (F := Ideal) x0 x1 (ix4 b h t n)
    = (∑ d : Fin 64, x0 (ix3 b t ⟨h.val * 128 + d.val, by omega⟩) * x1 (ix4 b h n ⟨d.val, by omega⟩))
      * Ideal.ofBits .f32 0x3E000000#32 := by
  pointwise [val_main_v1, val_main_v26, val_main_v27, val_main_v28, val_main_v29, val_main_v30, val_main_cst_2]
  simp only [query_eq]

theorem masked1_eq (t n : Fin 4096) : val_main_v36 (F := Ideal) x0 x1 (ix4 b h t n)
    = if n.val ≤ t.val then val_main_v30 (F := Ideal) x0 x1 (ix4 b h t n) else ⊥ := by
  pointwise [val_main_v19, val_main_v20, val_main_v21, val_main_v22, val_main_v23, val_main_v24, val_main_v25,
    val_main_v36, val_main_call0_v0, val_main_call0_v1, val_main_call0_v2, val_main_cst_4]
  rw [select_sle]
  show (if n.val ≤ t.val then _ else Ideal.ofBits .f32 0xFF800000#32) = _
  rw [low_eq]

theorem max1_eq (t : Fin 4096) : val_main_v37 (F := Ideal) x0 x1 (ix3 b h t)
    = Finset.univ.fold max ⊥ fun j => val_main_v36 (F := Ideal) x0 x1 (ix4 b h t j) := by
  unfold val_main_v37
  generalize val_main_v36 (F := Ideal) x0 x1 = y
  refine (row_max b h y _ _ _ t).trans ?_
  show Finset.fold max (Ideal.ofBits .f32 0xFF800000#32) _ _ = _
  rw [low_eq]

theorem top1_eq (t : Fin 4096) : val_main_v39 (F := Ideal) x0 x1 (ix3 b h t)
    = Finset.univ.fold max ⊥ fun j => val_main_v36 (F := Ideal) x0 x1 (ix4 b h t j) := by
  rw [val_main_v39_apply, max1_eq]
  generalize (Finset.univ.fold max ⊥ fun j => val_main_v36 (F := Ideal) x0 x1 (ix4 b h t j)) = z
  rw [val_main_v38_apply]
  show max (Ideal.ofBits .f32 0xFF800000#32) z = z
  rw [low_eq]
  exact max_eq_right bot_le

theorem exp1_eq (t n : Fin 4096) : val_main_v43 (F := Ideal) x0 x1 (ix4 b h t n)
    = Ideal.exp (val_main_v36 (F := Ideal) x0 x1 (ix4 b h t n) - val_main_v39 (F := Ideal) x0 x1 (ix3 b h t)) := by
  pointwise [val_main_v40, val_main_v41, val_main_v42, val_main_v43]

theorem share1_eq (t n : Fin 4096) : val_main_v47 (F := Ideal) x0 x1 (ix4 b h t n)
    = Ideal.div (val_main_v43 (F := Ideal) x0 x1 (ix4 b h t n)) (∑ j : Fin 4096, val_main_v43 (F := Ideal) x0 x1 (ix4 b h t j)) := by
  pointwise [val_main_v44, val_main_v45, val_main_v46, val_main_v47, val_main_cst_7]

theorem score2_eq (t n : Fin 4096) : val_main_v35 (F := Ideal) x0 x1 (ix4 b h t n)
    = (∑ d : Fin 64, x0 (ix3 b t ⟨h.val * 128 + (64 + d.val), by omega⟩) * x1 (ix4 b h n ⟨64 + d.val, by omega⟩))
      * Ideal.ofBits .f32 0x3E000000#32 := by
  pointwise [val_main_v1, val_main_v31, val_main_v32, val_main_v33, val_main_v34, val_main_v35, val_main_cst_3]
  simp only [query_eq]

theorem masked2_eq (t n : Fin 4096) : val_main_v48 (F := Ideal) x0 x1 (ix4 b h t n)
    = if n.val ≤ t.val then val_main_v35 (F := Ideal) x0 x1 (ix4 b h t n) else ⊥ := by
  pointwise [val_main_v19, val_main_v20, val_main_v21, val_main_v22, val_main_v23, val_main_v24, val_main_v25,
    val_main_v48, val_main_call1_v0, val_main_call1_v1, val_main_call1_v2, val_main_cst_8]
  rw [select_sle]
  show (if n.val ≤ t.val then _ else Ideal.ofBits .f32 0xFF800000#32) = _
  rw [low_eq]

theorem max2_eq (t : Fin 4096) : val_main_v49 (F := Ideal) x0 x1 (ix3 b h t)
    = Finset.univ.fold max ⊥ fun j => val_main_v48 (F := Ideal) x0 x1 (ix4 b h t j) := by
  unfold val_main_v49
  generalize val_main_v48 (F := Ideal) x0 x1 = y
  refine (row_max b h y _ _ _ t).trans ?_
  show Finset.fold max (Ideal.ofBits .f32 0xFF800000#32) _ _ = _
  rw [low_eq]

theorem top2_eq (t : Fin 4096) : val_main_v51 (F := Ideal) x0 x1 (ix3 b h t)
    = Finset.univ.fold max ⊥ fun j => val_main_v48 (F := Ideal) x0 x1 (ix4 b h t j) := by
  rw [val_main_v51_apply, max2_eq]
  generalize (Finset.univ.fold max ⊥ fun j => val_main_v48 (F := Ideal) x0 x1 (ix4 b h t j)) = z
  rw [val_main_v50_apply]
  show max (Ideal.ofBits .f32 0xFF800000#32) z = z
  rw [low_eq]
  exact max_eq_right bot_le

theorem exp2_eq (t n : Fin 4096) : val_main_v55 (F := Ideal) x0 x1 (ix4 b h t n)
    = Ideal.exp (val_main_v48 (F := Ideal) x0 x1 (ix4 b h t n) - val_main_v51 (F := Ideal) x0 x1 (ix3 b h t)) := by
  pointwise [val_main_v52, val_main_v53, val_main_v54, val_main_v55]

theorem share2_eq (t n : Fin 4096) : val_main_v59 (F := Ideal) x0 x1 (ix4 b h t n)
    = Ideal.div (val_main_v55 (F := Ideal) x0 x1 (ix4 b h t n)) (∑ j : Fin 4096, val_main_v55 (F := Ideal) x0 x1 (ix4 b h t j)) := by
  pointwise [val_main_v56, val_main_v57, val_main_v58, val_main_v59, val_main_cst_11]

theorem out_eq (t : Fin 4096) (d : Fin 128) : val_main_v64 (F := Ideal) x0 x1 x2 x3 (ix4 b t h d)
    = ∑ n : Fin 4096, x2 (ix4 b h n d) * (val_main_v47 (F := Ideal) x0 x1 (ix4 b h t n)
        - lambda x3 * val_main_v59 (F := Ideal) x0 x1 (ix4 b h t n)) := by
  pointwise [val_main_v2, val_main_v60, val_main_v61, val_main_v62, val_main_v63, val_main_v64]
  rw [lambda_eq]

theorem result_eq (t : Fin 4096) (d : Fin 128) :
    val_main_v82 (F := Ideal) x0 x1 x2 x3 x4 (ix3 b t ⟨h.val * 128 + d.val, by omega⟩)
      = norm (fun d => val_main_v64 (F := Ideal) x0 x1 x2 x3 (ix4 b t h d)) (fun d => x4 (ix2 0 d)) d := by
  pointwise [val_main_v65, val_main_v66, val_main_v67, val_main_v68, val_main_v69, val_main_v70, val_main_v71, val_main_v72,
    val_main_v73, val_main_v74, val_main_v75, val_main_v76, val_main_v77, val_main_v78, val_main_v79, val_main_v80, val_main_v81,
    val_main_v82, val_main_cst_12, val_main_cst_13, val_main_cst_14, val_main_cst_15]
  rfl

end Cert.Attn

end
-- ==== Proof.Attn.Equation.lean ====
/-
The kernel's block against the reference: when queries, keys and values are real, the difference of the two softmaxes in
powers of two, taken tile by tile, is the reference's difference of the two softmaxes in exponentials.
-/
module

public import proofs.«01_k».proof.Proof.Attn.Reference

@[expose] public section

set_option maxRecDepth 16384

noncomputable section

namespace Cert.Attn

open Idealize.ShloMosaic Cert.Softmax
open Cert.ReferenceIdeal (S4x4096x768 S4x6x4096x128 S8x128 S1x128)
open Cert.ReferenceIdeal.Read
open Cert.KernelIdeal.Attn (norm lambda dot weigh causal first second promptOut_apply promptOut)

/-- One eighth. -/
theorem eighth : Ideal.ofBits .f32 0x3E000000#32 = ((1 / 8 : ℝ) : EReal) := by
  simp [Ideal.ofBits, Ideal.ieee, -EReal.coe_mul]
  norm_num

/-- The constant part of the second softmax's weight is a real. -/
theorem constant_real : ∃ r : ℝ, Ideal.ofBits .f32 0x3EB60549#32 = (r : EReal) := by
  simp [Ideal.ofBits, Ideal.ieee, -EReal.coe_mul]

/-- The scale the call's queries come with: one eighth over the logarithm of two. -/
theorem scale_real : Ideal.div (Ideal.ofBits .f32 0x3E000000#32) (Ideal.log (Ideal.ofBits .f32 0x40000000#32))
    = ((1 / 8 / Real.log 2 : ℝ) : EReal) := by
  have h2 : Ideal.ofBits .f32 0x40000000#32 = ((2 : ℝ) : EReal) := by
    simp [Ideal.ofBits, Ideal.ieee, -EReal.coe_mul]
    norm_num
  rw [h2, Ideal.log_coe, if_neg (by norm_num), eighth, div_real _ _ (Real.log_pos (by norm_num)).ne']

/-- The second softmax's weight is a real. -/
theorem lambda_real (x3 : Vec Ideal S8x128 .f32) (h3 : ∀ i, ∃ r : ℝ, (x3 i : EReal) = r) : ∃ r : ℝ, lambda x3 = (r : EReal) := by
  choose L hL using h3
  obtain ⟨k, hk⟩ := constant_real
  unfold lambda
  simp only [hL, hk, ← EReal.coe_mul, ← coe_sum, Ideal.exp_coe, ← EReal.coe_sub, ← EReal.coe_add]
  exact ⟨_, rfl⟩

theorem sum_split (n a b : ℕ) (hn : n = a + b) (f : Fin n → ℝ) :
    ∑ d, f d = (∑ d : Fin a, f ⟨d.val, by omega⟩) + ∑ d : Fin b, f ⟨a + d.val, by omega⟩ := by
  subst hn
  exact Fin.sum_univ_add f

theorem dot_first (q : Fin 128 → ℝ) (K : ℕ → Fin 128 → ℝ) (n : ℕ) :
    dot (first q) K n = ∑ d : Fin 64, q ⟨d.val, by omega⟩ * K n ⟨d.val, by omega⟩ := by
  unfold dot
  rw [sum_split 128 64 64 rfl, Finset.sum_eq_zero (s := Finset.univ) (f := fun d : Fin 64 => first q ⟨64 + d.val, _⟩ * K n ⟨64 + d.val, _⟩)
    (fun d _ => by unfold first; rw [if_neg (by simp), zero_mul]), add_zero]
  refine Finset.sum_congr rfl fun d _ => ?_
  unfold first
  rw [if_pos d.isLt]

theorem dot_second (q : Fin 128 → ℝ) (K : ℕ → Fin 128 → ℝ) (n : ℕ) :
    dot (second q) K n = ∑ d : Fin 64, q ⟨64 + d.val, by omega⟩ * K n ⟨64 + d.val, by omega⟩ := by
  unfold dot
  rw [sum_split 128 64 64 rfl, Finset.sum_eq_zero (s := Finset.univ) (f := fun d : Fin 64 => second q ⟨d.val, _⟩ * K n ⟨d.val, _⟩)
    (fun d _ => by unfold second; rw [if_pos d.isLt, zero_mul]), zero_add]
  refine Finset.sum_congr rfl fun d _ => ?_
  unfold second
  rw [if_neg (by simp)]

/-- Scaling the queries beforehand and taking powers of two is dividing the score by eight and taking exponentials. -/
theorem scaled (f g : Fin 64 → ℝ) :
    Real.log 2 * ∑ d, (f d * (1 / 8 / Real.log 2)) * g d = (∑ d, f d * g d) * (1 / 8) := by
  have hl : Real.log 2 ≠ 0 := (Real.log_pos (by norm_num)).ne'
  rw [Finset.mul_sum, Finset.sum_mul]
  refine Finset.sum_congr rfl fun d _ => ?_
  field_simp

section reference

variable (x0 : Vec Ideal S4x4096x768 .f32) (x1 x2 : Vec Ideal S4x6x4096x128 .f32) (x3 : Vec Ideal S8x128 .f32)
  (x4 : Vec Ideal S1x128 .f32) (b : Fin 4) (h : Fin 6) (t : Fin 4096)
  (q : Fin 128 → ℝ) (K V : ℕ → Fin 128 → ℝ)
  (h0 : ∀ d : Fin 128, (x0 (ix3 b t ⟨h.val * 128 + d.val, by omega⟩) : EReal) = q d)
  (h1 : ∀ (n : Fin 4096) d, (x1 (ix4 b h n d) : EReal) = K n.val d)
  (h2 : ∀ (n : Fin 4096) d, (x2 (ix4 b h n d) : EReal) = V n.val d)

/-- A query as the call takes it. -/
def prepared (q : Fin 128 → ℝ) (d : Fin 128) : ℝ := q d * (1 / 8 / Real.log 2)

include h0 h1

theorem score1_real (n : Fin 4096) : val_main_v30 (F := Ideal) x0 x1 (ix4 b h t n)
    = ((Real.log 2 * dot (first (prepared q)) K n.val : ℝ) : EReal) := by
  rw [score1_eq, dot_first, eighth]
  unfold prepared
  rw [scaled (fun d => q ⟨d.val, by omega⟩) (fun d => K n.val ⟨d.val, by omega⟩), EReal.coe_mul, coe_sum]
  congr 1
  refine Finset.sum_congr rfl fun d _ => ?_
  rw [h1, EReal.coe_mul, ← h0]

theorem score2_real (n : Fin 4096) : val_main_v35 (F := Ideal) x0 x1 (ix4 b h t n)
    = ((Real.log 2 * dot (second (prepared q)) K n.val : ℝ) : EReal) := by
  rw [score2_eq, dot_second, eighth]
  unfold prepared
  rw [scaled (fun d => q ⟨64 + d.val, by omega⟩) (fun d => K n.val ⟨64 + d.val, by omega⟩), EReal.coe_mul, coe_sum]
  congr 1
  refine Finset.sum_congr rfl fun d _ => ?_
  rw [h1, EReal.coe_mul, ← h0]

theorem share1_real (n : Fin 4096) : val_main_v47 (F := Ideal) x0 x1 (ix4 b h t n)
    = ((causal t.val (weigh (first (prepared q)) K) n / ∑ j, causal t.val (weigh (first (prepared q)) K) j : ℝ) : EReal) := by
  rw [share1_eq]
  simp only [exp1_eq]
  exact share (fun n : Fin 4096 => n.val ≤ t.val) (fun n => Real.log 2 * dot (first (prepared q)) K n.val)
    (fun n => val_main_v36 (F := Ideal) x0 x1 (ix4 b h t n))
    (fun n => by rw [masked1_eq, score1_real x0 x1 b h t q K h0 h1]) t (le_refl _) _ (top1_eq x0 x1 b h t) n

theorem share2_real (n : Fin 4096) : val_main_v59 (F := Ideal) x0 x1 (ix4 b h t n)
    = ((causal t.val (weigh (second (prepared q)) K) n / ∑ j, causal t.val (weigh (second (prepared q)) K) j : ℝ) : EReal) := by
  rw [share2_eq]
  simp only [exp2_eq]
  exact share (fun n : Fin 4096 => n.val ≤ t.val) (fun n => Real.log 2 * dot (second (prepared q)) K n.val)
    (fun n => val_main_v48 (F := Ideal) x0 x1 (ix4 b h t n))
    (fun n => by rw [masked2_eq, score2_real x0 x1 b h t q K h0 h1]) t (le_refl _) _ (top2_eq x0 x1 b h t) n

include h2

theorem out_real (h3 : ∀ i, ∃ r : ℝ, (x3 i : EReal) = r) (d : Fin 128) : val_main_v64 (F := Ideal) x0 x1 x2 x3 (ix4 b t h d)
    = (((∑ n, causal t.val (weigh (first (prepared q)) K) n * V n.val d)
        / ∑ n, causal t.val (weigh (first (prepared q)) K) n : ℝ) : EReal)
      - lambda x3 * (((∑ n, causal t.val (weigh (second (prepared q)) K) n * V n.val d)
        / ∑ n, causal t.val (weigh (second (prepared q)) K) n : ℝ) : EReal) := by
  obtain ⟨lam, hlam⟩ := lambda_real x3 h3
  rw [out_eq, hlam]
  simp only [share1_real x0 x1 b h t q K h0 h1, share2_real x0 x1 b h t q K h0 h1, h2]
  exact difference _ _ _ _ _ _

end reference

/-- The block the kernel leaves, row by row: the reference's row. -/
theorem meets (i : Cert.KernelIdeal.grid0.Coords) (y0 : Vec Ideal Cert.KernelIdeal.S1x512x128 .bf16)
    (y1 y2 : Vec Ideal Cert.KernelIdeal.S1x1x4096x128 .bf16) (y3 : Vec Ideal Cert.KernelIdeal.S8x128 .f32)
    (y4 : Vec Ideal Cert.KernelIdeal.S1x128 .f32)
    (x0 : Vec Ideal S4x4096x768 .f32) (x1 x2 : Vec Ideal S4x6x4096x128 .f32) (x3 : Vec Ideal S8x128 .f32)
    (x4 : Vec Ideal S1x128 .f32) (r0 : ∀ i, ∃ r : ℝ, (x0 i : EReal) = r) (r1 : ∀ i, ∃ r : ℝ, (x1 i : EReal) = r)
    (r2 : ∀ i, ∃ r : ℝ, (x2 i : EReal) = r) (r3 : ∀ i, ∃ r : ℝ, (x3 i : EReal) = r) (b : Fin 4) (h : Fin 6)
    (e0 : ∀ (r : Fin 512) (d : Fin 128) (t : Fin 4096) (l : Fin 768), t.val = 512 * (i 2).val + r.val → l.val = h.val * 128 + d.val →
      (y0 (ix3 0 r d) : EReal) = x0 (ix3 b t l) * ((1 / 8 / Real.log 2 : ℝ) : EReal))
    (e1 : ∀ (n : Fin 4096) (d : Fin 128), y1 (ix4 0 0 n d) = x1 (ix4 b h n d))
    (e2 : ∀ (n : Fin 4096) (d : Fin 128), y2 (ix4 0 0 n d) = x2 (ix4 b h n d))
    (e3 : ∀ (a : Fin 8) (d : Fin 128), y3 (ix2 a d) = x3 (ix2 a d)) (e4 : ∀ d : Fin 128, y4 (ix2 0 d) = x4 (ix2 0 d))
    (r : Fin 512) (d : Fin 128) (t : Fin 4096) (l : Fin 768) (ht : t.val = 512 * (i 2).val + r.val) (hl : l.val = h.val * 128 + d.val) :
    promptOut i y0 y1 y2 y3 y4 (ix3 0 r d) = val_main_v82 (F := Ideal) x0 x1 x2 x3 x4 (ix3 b t l) := by
  choose X0 hX0 using r0
  choose X1 hX1 using r1
  choose X2 hX2 using r2
  have h8 : (i 2).val < 8 := (i 2).isLt
  let q : Fin 512 → Fin 128 → ℝ := fun r d => X0 (ix3 b ⟨512 * (i 2).val + r.val, by omega⟩ ⟨h.val * 128 + d.val, by omega⟩)
  let K : ℕ → Fin 128 → ℝ := fun n d => if hn : n < 4096 then X1 (ix4 b h ⟨n, hn⟩ d) else 0
  let V : ℕ → Fin 128 → ℝ := fun n d => if hn : n < 4096 then X2 (ix4 b h ⟨n, hn⟩ d) else 0
  have hK (n : Fin 4096) (d : Fin 128) : (x1 (ix4 b h n d) : EReal) = K n.val d := by
    rw [hX1]; show _ = (((if hn : n.val < 4096 then X1 (ix4 b h ⟨n.val, hn⟩ d) else 0 : ℝ)) : EReal); rw [dif_pos n.isLt]
  have hV (n : Fin 4096) (d : Fin 128) : (x2 (ix4 b h n d) : EReal) = V n.val d := by
    rw [hX2]; show _ = (((if hn : n.val < 4096 then X2 (ix4 b h ⟨n.val, hn⟩ d) else 0 : ℝ)) : EReal); rw [dif_pos n.isLt]
  rw [promptOut_apply i y0 y1 y2 y3 y4 (fun r => prepared (q r)) K V
    (fun r d => (e0 r d _ _ rfl rfl).trans (by rw [hX0, ← EReal.coe_mul]; rfl))
    (fun n d => (e1 n d).trans (hK n d)) (fun n d => (e2 n d).trans (hV n d)) r d]
  have hll : l = ⟨h.val * 128 + d.val, by omega⟩ := Fin.ext hl
  have hlam : lambda y3 = lambda x3 := by unfold lambda; simp only [e3]
  have hq : ∀ d : Fin 128, (x0 (ix3 b t ⟨h.val * 128 + d.val, by omega⟩) : EReal) = q r d := by
    intro d
    have htt : t = ⟨512 * (i 2).val + r.val, by omega⟩ := Fin.ext ht
    rw [hX0, htt]
  rw [hll, result_eq, hlam]
  simp only [e4, ← ht]
  congr 1
  funext d
  exact (out_real x0 x1 x2 x3 b h t (q r) K V hq hK hV r3 d).symm

end Cert.Attn

end
-- ==== Proof.Attn.Windows.lean ====
/-
The attention call's blocks, read off its arguments: a point's queries are 512 rows of one head, scaled; its keys and
values are all of one head's. So the block a point leaves is the reference's.
-/
module

public import proofs.«01_k».proof.Proof.Attn.Equation
public import proofs.«01_k».proof.Proof.Gen.KernelIdeal.Frame.Runs
public import Idealize.ShloMosaic.Lib.StableHlo.Run

@[expose] public section

set_option maxRecDepth 16384

noncomputable section

namespace Cert.Attn

open Idealize.ShloMosaic Idealize.ShloMosaic.TcCoe Idealize.SL.Sem Cert.KernelIdeal Cert.KernelIdeal.Gen
open Cert.KernelIdeal.Attn (promptOut)

variable (m : (ℓ : Loc nD τ sig) → Buf (Elt Ideal) ℓ)

/-! The arguments: queries, keys, values, the weights of the difference, the gain. -/

def argQ (c : Dev nD) : S4x4096x768.Idx → EReal := m ((c : Thread nD τ).loc main_arg0)
def argK (c : Dev nD) : S4x6x4096x128.Idx → EReal := m ((c : Thread nD τ).loc main_arg1)
def argV (c : Dev nD) : S4x6x4096x128.Idx → EReal := m ((c : Thread nD τ).loc main_arg2)
def argL (c : Dev nD) : S8x128.Idx → EReal := m ((c : Thread nD τ).loc main_arg3)
def argG (c : Dev nD) : S1x128.Idx → EReal := m ((c : Thread nD τ).loc main_arg4)

/-- The queries the call takes: the argument's, scaled. -/
theorem V_q (c : Dev nD) : (V m c main_v5 : S4x4096x768.Idx → EReal)
    = fun i => argQ m c i * ((1 / 8 / Real.log 2 : ℝ) : EReal) := by
  show StableHlo.after hostOps0 (fun b => m (c, b)) (Proc.devRef .tc main_v5) = _
  after_results_simp
  funext i
  rw [← scale_real]
  rfl

theorem V_k (c : Dev nD) : (V m c main_v6 : S4x6x4096x128.Idx → EReal) = argK m c := by
  show StableHlo.after hostOps0 (fun b => m (c, b)) (Proc.devRef .tc main_v6) = _
  after_results_simp
  rfl

theorem V_v (c : Dev nD) : (V m c main_v7 : S4x6x4096x128.Idx → EReal) = argV m c := by
  show StableHlo.after hostOps0 (fun b => m (c, b)) (Proc.devRef .tc main_v7) = _
  after_results_simp
  rfl

/-- A coordinate as a word is itself. -/
theorem word_val (n : ℕ) (h : n < 8) : (BitVec.ofNat 32 n).toNat = n := by
  rw [BitVec.toNat_ofNat]
  exact Nat.mod_eq_of_lt (by omega)

section coords
variable (i : grid0.Coords)
theorem lt0 : (i 0).val < 4 := (i 0).isLt
theorem lt1 : (i 1).val < 6 := (i 1).isLt
theorem lt2 : (i 2).val < 8 := (i 2).isLt
theorem c0 : (BitVec.ofNat 32 (i 0).val).toNat = (i 0).val := word_val _ (by have := lt0 i; omega)
theorem c1 : (BitVec.ofNat 32 (i 1).val).toNat = (i 1).val := word_val _ (by have := lt1 i; omega)
theorem c2 : (BitVec.ofNat 32 (i 2).val).toNat = (i 2).val := word_val _ (by have := lt2 i; omega)
end coords

/-- A point's coordinates. -/
theorem coords_eq : ∀ t : Fin grid0.N, (grid0.coords t 0).val = t.val / 48 ∧ (grid0.coords t 1).val = t.val / 8 % 6
    ∧ (grid0.coords t 2).val = t.val % 8 := by
  decide +kernel

variable (hO : Ok m) (c : Dev nD) (t : Fin (cfgM m hO).N)

theorem block_q (r : Fin 512) (d : Fin 128) (b : Fin 4) (t' : Fin 4096) (l : Fin 768) (hb : b.val = (grid0.coords t 0).val)
    (ht : t'.val = 512 * (grid0.coords t 2).val + r.val) (hl : l.val = (grid0.coords t 1).val * 128 + d.val) :
    ((iblk m hO c 0 t : Vec Ideal S1x512x128 .bf16) (ix3 0 r d) : EReal)
      = argQ m c (ix3 b t' l) * ((1 / 8 / Real.log 2 : ℝ) : EReal) := by
  unfold iblk
  refine (View.read_apply ..).trans ?_
  show (V m c main_v5 : S4x4096x768.Idx → EReal) _ = _
  rw [V_q]
  show _ * _ = _ * _
  congr 2
  funext a
  apply Fin.ext
  match a with
  | ⟨0, _⟩ => show (BitVec.ofNat 32 (grid0.coords t 0).val).toNat * 1 + 1 * 0 = b.val; rw [c0]; omega
  | ⟨1, _⟩ => show (BitVec.ofNat 32 (grid0.coords t 2).val).toNat * 512 + 1 * r.val = t'.val; rw [c2]; omega
  | ⟨2, _⟩ => show (BitVec.ofNat 32 (grid0.coords t 1).val).toNat * 128 + 1 * d.val = l.val; rw [c1]; omega

theorem block_k (n : Fin 4096) (d : Fin 128) (b : Fin 4) (h : Fin 6) (hb : b.val = (grid0.coords t 0).val)
    (hh : h.val = (grid0.coords t 1).val) :
    (iblk m hO c 1 t : Vec Ideal S1x1x4096x128 .bf16) (ix4 0 0 n d) = argK m c (ix4 b h n d) := by
  unfold iblk
  refine (View.read_apply ..).trans ?_
  show (V m c main_v6 : S4x6x4096x128.Idx → EReal) _ = _
  rw [V_k]
  congr 1
  funext a
  apply Fin.ext
  match a with
  | ⟨0, _⟩ => show (BitVec.ofNat 32 (grid0.coords t 0).val).toNat * 1 + 1 * 0 = b.val; rw [c0]; omega
  | ⟨1, _⟩ => show (BitVec.ofNat 32 (grid0.coords t 1).val).toNat * 1 + 1 * 0 = h.val; rw [c1]; omega
  | ⟨2, _⟩ => show 0 * 4096 + 1 * n.val = n.val; omega
  | ⟨3, _⟩ => show 0 * 128 + 1 * d.val = d.val; omega

theorem block_v (n : Fin 4096) (d : Fin 128) (b : Fin 4) (h : Fin 6) (hb : b.val = (grid0.coords t 0).val)
    (hh : h.val = (grid0.coords t 1).val) :
    (iblk m hO c 2 t : Vec Ideal S1x1x4096x128 .bf16) (ix4 0 0 n d) = argV m c (ix4 b h n d) := by
  unfold iblk
  refine (View.read_apply ..).trans ?_
  show (V m c main_v7 : S4x6x4096x128.Idx → EReal) _ = _
  rw [V_v]
  congr 1
  funext a
  apply Fin.ext
  match a with
  | ⟨0, _⟩ => show (BitVec.ofNat 32 (grid0.coords t 0).val).toNat * 1 + 1 * 0 = b.val; rw [c0]; omega
  | ⟨1, _⟩ => show (BitVec.ofNat 32 (grid0.coords t 1).val).toNat * 1 + 1 * 0 = h.val; rw [c1]; omega
  | ⟨2, _⟩ => show 0 * 4096 + 1 * n.val = n.val; omega
  | ⟨3, _⟩ => show 0 * 128 + 1 * d.val = d.val; omega

theorem block_lambda (a : Fin 8) (d : Fin 128) :
    (iblk m hO c 3 t : Vec Ideal S8x128 .f32) (ix2 a d) = argL m c (ix2 a d) := by
  unfold iblk
  refine (View.read_apply ..).trans ?_
  show V m c main_arg3 _ = _
  rw [V_main_arg3]
  show argL m c _ = _
  congr 1
  funext e
  apply Fin.ext
  match e with
  | ⟨0, _⟩ => show 0 * 8 + 1 * a.val = a.val; omega
  | ⟨1, _⟩ => show 0 * 128 + 1 * d.val = d.val; omega

theorem block_gain (d : Fin 128) :
    (iblk m hO c 4 t : Vec Ideal S1x128 .f32) (ix2 0 d) = argG m c (ix2 0 d) := by
  unfold iblk
  refine (View.read_apply ..).trans ?_
  show V m c main_arg4 _ = _
  rw [V_main_arg4]
  show argG m c _ = _
  congr 1
  funext e
  apply Fin.ext
  match e with
  | ⟨0, _⟩ => show 0 * 1 + 1 * 0 = 0; omega
  | ⟨1, _⟩ => show 0 * 128 + 1 * d.val = d.val; omega

/-- The result array: the reference's, at the kernel's arguments. -/
def result (c : Dev nD) : Buf (Elt Ideal) ((c : Thread nD τ).loc main_v8_0) :=
  (Cert.ReferenceIdeal.Read.val_main_v82 (F := Ideal) (argQ m c) (argK m c)
    (argV m c) (argL m c) (argG m c)
    : S4x4096x768.Idx → EReal)

/-- The queries, keys, values and the weights of the difference are real numbers. -/
def Real4 (c : Dev nD) : Prop :=
  (∀ i, ∃ r : ℝ, argQ m c i = r)
    ∧ (∀ i : S4x6x4096x128.Idx, ∃ r : ℝ, (argK m c i) = r)
    ∧ (∀ i : S4x6x4096x128.Idx, ∃ r : ℝ, (argV m c i) = r)
    ∧ ∀ i : S8x128.Idx, ∃ r : ℝ, (argL m c i) = r

/-- The block a point leaves is the result's. -/
theorem left_eq (hR : Real4 m c) (r : Fin 512) (d : Fin 128) (b : Fin 4) (t' : Fin 4096) (l : Fin 768)
    (hb : b.val = (grid0.coords t 0).val) (ht : t'.val = 512 * (grid0.coords t 2).val + r.val)
    (hl : l.val = (grid0.coords t 1).val * 128 + d.val) :
    promptOut (grid0.coords t) (iblk m hO c 0 t) (iblk m hO c 1 t) (iblk m hO c 2 t) (iblk m hO c 3 t) (iblk m hO c 4 t) (ix3 0 r d)
      = (result m c : S4x4096x768.Idx → EReal) (ix3 b t' l) :=
  meets _ _ _ _ _ _ _ _ _ _ _ hR.1 hR.2.1 hR.2.2.1 hR.2.2.2 b ⟨(grid0.coords t 1).val, lt1 _⟩
    (fun r d t' l ht hl => block_q m hO c t r d b t' l hb ht hl)
    (fun n d => block_k m hO c t n d b _ hb rfl) (fun n d => block_v m hO c t n d b _ hb rfl)
    (block_lambda m hO c t) (block_gain m hO c t) r d t' l ht hl

end Cert.Attn

end
-- ==== Proof.Attn.IdealRun.lean ====
/-
The differential attention kernel's body at one grid point, over the extended reals: it runs to its end, hands every
input block back unchanged and leaves `promptOut` of them in the prompt's output block. One statement for each of the
three ways its two conditionals go.
-/
module

public import proofs.«01_k».proof.Proof.Attn.PromptOut
public import Idealize.ShloMosaic.Lib.WritesUnit

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whatever a memref's elements are, they are owned at the contents read through it. -/
theorem owned_of_elements (c : Dev nD) {sh : Shape} {e : EltTy} (a : Memref sig .tc .vmem sh e)
    (f : a.view.ty.Contents (Elt F)) :
    (a.view.loc (c : Thread nD τ) ↦[a.view.set]{fullShare} f : sProp 𝕄)
      ⊢ iprop(∃ d, owns (c : Thread nD τ) a fullShare d) := by
  iintro H
  iexists a.view.read (Elt F) f
  unfold owns
  iexists f
  isplitr
  · ipureintro; rfl
  iexact H

/-- A memref whose last store covered it whole is owned at what was stored. -/
theorem owned_of_stored (c : Dev nD) (a : Memref sig .tc .vmem S1x512x128 .bf16) (f : a.view.ty.Contents (Elt F))
    {w w' : Vec F S1x512x128 .bf16} (h : w = w') :
    (a.view.loc (c : Thread nD τ) ↦[a.view.set]{fullShare} a.view.writes (Elt F) f
        [⟨Rect.unit (s := S1x512x128) ![0, 0, 0] S1x512x128.size inb_S1x512x128_S1x512x128_0_0_0, w⟩] : sProp 𝕄)
      ⊢ iprop(∃ g, ⌜a.view.read (Elt F) g = w'⌝ ∗ (a.view.loc (c : Thread nD τ) ↦[a.view.set]{fullShare} g)) := by
  subst h
  iintro H
  iexists a.view.writes (Elt F) f
        [⟨Rect.unit (s := S1x512x128) ![0, 0, 0] S1x512x128.size inb_S1x512x128_S1x512x128_0_0_0, w⟩]
  isplitr
  · ipureintro
    refine funext fun (y : S1x512x128.Idx) => ?_
    exact View.read_writes_cons_unit_of_mem a.view f inb_S1x512x128_S1x512x128_0_0_0 w [] y y rfl
      (fun b => by fin_cases b <;> simp)
  iexact H

variable (c : Dev nD) (i : grid0.Coords)
  (arg4 : Memref sig .tc .vmem S1x512x128 .bf16) (harg4 : arg4.IsWhole) (arg5 : Memref sig .tc .vmem S1x1x4096x128
  .bf16) (harg5 : arg5.IsWhole) (arg6 : Memref sig .tc .vmem S1x1x4096x128 .bf16) (harg6 : arg6.IsWhole) (arg7 :
  Memref sig .tc .vmem S8x128 .f32) (harg7 : arg7.IsWhole) (arg8 : Memref sig .tc .vmem S1x128 .f32) (harg8 :
  arg8.IsWhole) (arg9 : Memref sig .tc .vmem S1x1x768 .f32) (harg9 : arg9.IsWhole) (arg10 : Memref sig .tc .vmem
  S1x1x768 .f32) (harg10 : arg10.IsWhole) (arg11 : Memref sig .tc .vmem S1x1x768 .f32) (harg11 : arg11.IsWhole) (arg12
  : Memref sig .tc .vmem S1x1x256 .f32) (harg12 : arg12.IsWhole) (arg13 : Memref sig .tc .vmem S1x1x256x256 .f32)
  (harg13 : arg13.IsWhole) (arg14 : Memref sig .tc .vmem S1x1x256x256 .f32) (harg14 : arg14.IsWhole) (arg15 : Memref
  sig .tc .vmem S1x6x128x128 .f32) (harg15 : arg15.IsWhole) (arg16 : Memref sig .tc .vmem S1x6x128x128 .f32) (harg16 :
  arg16.IsWhole) (arg17 : Memref sig .tc .vmem S1x6x128x128 .f32) (harg17 : arg17.IsWhole) (arg18 : Memref sig .tc
  .vmem S1x6x128x128 .f32) (harg18 : arg18.IsWhole) (arg19 : Memref sig .tc .vmem S1x6x128x128 .f32) (harg19 :
  arg19.IsWhole) (arg20 : Memref sig .tc .vmem S1x6x128x128 .f32) (harg20 : arg20.IsWhole) (arg21 : Memref sig .tc
  .vmem S1x6x128x128 .f32) (harg21 : arg21.IsWhole) (arg22 : Memref sig .tc .vmem S1x6x128x128 .f32) (harg22 :
  arg22.IsWhole) (arg23 : Memref sig .tc .vmem S1x6x128x128 .f32) (harg23 : arg23.IsWhole) (arg24 : Memref sig .tc
  .vmem S1x6x128x128 .f32) (harg24 : arg24.IsWhole) (arg25 : Memref sig .tc .vmem S1x6x128x128 .f32) (harg25 :
  arg25.IsWhole) (arg26 : Memref sig .tc .vmem S1x6x128x128 .f32) (harg26 : arg26.IsWhole) (arg27 : Memref sig .tc
  .vmem S1x6x128x128 .f32) (harg27 : arg27.IsWhole) (arg28 : Memref sig .tc .vmem S1x6x128x128 .f32) (harg28 :
  arg28.IsWhole) (arg29 : Memref sig .tc .vmem S1x6x128x128 .f32) (harg29 : arg29.IsWhole) (arg30 : Memref sig .tc
  .vmem S1x6x128x128 .f32) (harg30 : arg30.IsWhole) (arg31 : Memref sig .tc .vmem S1x6x128x128 .f32) (harg31 :
  arg31.IsWhole) (arg32 : Memref sig .tc .vmem S1x6x128x128 .f32) (harg32 : arg32.IsWhole) (arg33 : Memref sig .tc
  .vmem S1x6x128x128 .f32) (harg33 : arg33.IsWhole) (arg34 : Memref sig .tc .vmem S1x6x128x128 .f32) (harg34 :
  arg34.IsWhole) (arg35 : Memref sig .tc .vmem S1x6x128x128 .f32) (harg35 : arg35.IsWhole) (arg36 : Memref sig .tc
  .vmem S1x6x128x128 .f32) (harg36 : arg36.IsWhole) (arg37 : Memref sig .tc .vmem S1x512x128 .bf16) (harg37 :
  arg37.IsWhole) (arg38 : Memref sig .tc .vmem S1x1x768 .f32) (harg38 : arg38.IsWhole) (arg39 : Memref sig .tc .vmem
  S1x1x256 .f32) (harg39 : arg39.IsWhole) (arg40 : Memref sig .tc .vmem S16x128 .f32) (harg40 : arg40.IsWhole) (arg41
  : Memref sig .tc .vmem S16x128 .f32) (harg41 : arg41.IsWhole) (arg42 : Memref sig .tc .vmem S16x768 .f32) (harg42 :
  arg42.IsWhole)
variable (x0 : Vec F S1x512x128 .bf16) (x1 : Vec F S1x1x4096x128 .bf16) (x2 : Vec F S1x1x4096x128 .bf16) (x3 : Vec F S8x128
  .f32) (x4 : Vec F S1x128 .f32) (x5 : Vec F S1x1x768 .f32) (x6 : Vec F S1x1x768 .f32) (x7 : Vec F S1x1x768 .f32) (x8
  : Vec F S1x1x256 .f32) (x9 : Vec F S1x1x256x256 .f32) (x10 : Vec F S1x1x256x256 .f32) (x11 : Vec F S1x6x128x128
  .f32) (x12 : Vec F S1x6x128x128 .f32) (x13 : Vec F S1x6x128x128 .f32) (x14 : Vec F S1x6x128x128 .f32) (x15 : Vec F
  S1x6x128x128 .f32) (x16 : Vec F S1x6x128x128 .f32) (x17 : Vec F S1x6x128x128 .f32) (x18 : Vec F S1x6x128x128 .f32)
  (x19 : Vec F S1x6x128x128 .f32) (x20 : Vec F S1x6x128x128 .f32) (x21 : Vec F S1x6x128x128 .f32) (x22 : Vec F
  S1x6x128x128 .f32) (x23 : Vec F S1x6x128x128 .f32) (x24 : Vec F S1x6x128x128 .f32) (x25 : Vec F S1x6x128x128 .f32)
  (x26 : Vec F S1x6x128x128 .f32) (x27 : Vec F S1x6x128x128 .f32) (x28 : Vec F S1x6x128x128 .f32) (x29 : Vec F
  S1x6x128x128 .f32) (x30 : Vec F S1x6x128x128 .f32) (x31 : Vec F S1x6x128x128 .f32) (x32 : Vec F S1x6x128x128 .f32)
  (xt0 : TbBuf0 (F := F) c tbM0_0)

set_option maxHeartbeats 40000000 in
/-- The body runs at the point that starts a group of six: the decode accumulators are set up. -/
theorem runA (hc0 : cond0_0 i) (hc1 : ¬cond0_1 i) (E : Set ℕ) (K : PUnit → sProp 𝕄) :
      iprop(owns (c : Thread nD τ) arg4 fullShare x0 ∗ owns (c : Thread nD τ) arg5 fullShare x1 ∗ owns (c : Thread nD
      τ) arg6 fullShare x2 ∗ owns (c : Thread nD τ) arg7 fullShare x3 ∗ owns (c : Thread nD τ) arg8 fullShare x4 ∗
      owns (c : Thread nD τ) arg9 fullShare x5 ∗ owns (c : Thread nD τ) arg10 fullShare x6 ∗ owns (c : Thread nD τ)
      arg11 fullShare x7 ∗ owns (c : Thread nD τ) arg12 fullShare x8 ∗ owns (c : Thread nD τ) arg13 fullShare x9 ∗
      owns (c : Thread nD τ) arg14 fullShare x10 ∗ owns (c : Thread nD τ) arg15 fullShare x11 ∗ owns (c : Thread nD τ)
      arg16 fullShare x12 ∗ owns (c : Thread nD τ) arg17 fullShare x13 ∗ owns (c : Thread nD τ) arg18 fullShare x14 ∗
      owns (c : Thread nD τ) arg19 fullShare x15 ∗ owns (c : Thread nD τ) arg20 fullShare x16 ∗ owns (c : Thread nD τ)
      arg21 fullShare x17 ∗ owns (c : Thread nD τ) arg22 fullShare x18 ∗ owns (c : Thread nD τ) arg23 fullShare x19 ∗
      owns (c : Thread nD τ) arg24 fullShare x20 ∗ owns (c : Thread nD τ) arg25 fullShare x21 ∗ owns (c : Thread nD τ)
      arg26 fullShare x22 ∗ owns (c : Thread nD τ) arg27 fullShare x23 ∗ owns (c : Thread nD τ) arg28 fullShare x24 ∗
      owns (c : Thread nD τ) arg29 fullShare x25 ∗ owns (c : Thread nD τ) arg30 fullShare x26 ∗ owns (c : Thread nD τ)
      arg31 fullShare x27 ∗ owns (c : Thread nD τ) arg32 fullShare x28 ∗ owns (c : Thread nD τ) arg33 fullShare x29 ∗
      owns (c : Thread nD τ) arg34 fullShare x30 ∗ owns (c : Thread nD τ) arg35 fullShare x31 ∗ owns (c : Thread nD τ)
      arg36 fullShare x32 ∗ (∃ d, owns (c : Thread nD τ) arg37 fullShare d) ∗ (∃ d, owns (c : Thread nD τ) arg38
      fullShare d) ∗ (∃ d, owns (c : Thread nD τ) arg39 fullShare d) ∗ (∃ d, owns (c : Thread nD τ) arg40 fullShare d)
      ∗ (∃ d, owns (c : Thread nD τ) arg41 fullShare d) ∗ (∃ d, owns (c : Thread nD τ) arg42 fullShare d) ∗ tbPt0 c
      tbM0_0 xt0
        ∗ (iprop(owns (c : Thread nD τ) arg4 fullShare x0 ∗ owns (c : Thread nD τ) arg5 fullShare x1 ∗ owns (c :
        Thread nD τ) arg6 fullShare x2 ∗ owns (c : Thread nD τ) arg7 fullShare x3 ∗ owns (c : Thread nD τ) arg8
        fullShare x4 ∗ owns (c : Thread nD τ) arg9 fullShare x5 ∗ owns (c : Thread nD τ) arg10 fullShare x6 ∗ owns (c
        : Thread nD τ) arg11 fullShare x7 ∗ owns (c : Thread nD τ) arg12 fullShare x8 ∗ owns (c : Thread nD τ) arg13
        fullShare x9 ∗ owns (c : Thread nD τ) arg14 fullShare x10 ∗ owns (c : Thread nD τ) arg15 fullShare x11 ∗ owns
        (c : Thread nD τ) arg16 fullShare x12 ∗ owns (c : Thread nD τ) arg17 fullShare x13 ∗ owns (c : Thread nD τ)
        arg18 fullShare x14 ∗ owns (c : Thread nD τ) arg19 fullShare x15 ∗ owns (c : Thread nD τ) arg20 fullShare x16
        ∗ owns (c : Thread nD τ) arg21 fullShare x17 ∗ owns (c : Thread nD τ) arg22 fullShare x18 ∗ owns (c : Thread
        nD τ) arg23 fullShare x19 ∗ owns (c : Thread nD τ) arg24 fullShare x20 ∗ owns (c : Thread nD τ) arg25
        fullShare x21 ∗ owns (c : Thread nD τ) arg26 fullShare x22 ∗ owns (c : Thread nD τ) arg27 fullShare x23 ∗ owns
        (c : Thread nD τ) arg28 fullShare x24 ∗ owns (c : Thread nD τ) arg29 fullShare x25 ∗ owns (c : Thread nD τ)
        arg30 fullShare x26 ∗ owns (c : Thread nD τ) arg31 fullShare x27 ∗ owns (c : Thread nD τ) arg32 fullShare x28
        ∗ owns (c : Thread nD τ) arg33 fullShare x29 ∗ owns (c : Thread nD τ) arg34 fullShare x30 ∗ owns (c : Thread
        nD τ) arg35 fullShare x31 ∗ owns (c : Thread nD τ) arg36 fullShare x32 ∗ owns (c : Thread nD τ) arg37
        fullShare (promptOut i x0 x1 x2 x3 x4) ∗ (∃ d, owns (c : Thread nD τ) arg38 fullShare d) ∗ (∃ d, owns (c :
        Thread nD τ) arg39 fullShare d) ∗ (∃ d, owns (c : Thread nD τ) arg40 fullShare d) ∗ (∃ d, owns (c : Thread nD
        τ) arg41 fullShare d) ∗ (∃ d, owns (c : Thread nD τ) arg42 fullShare d) ∗ tbPt0 c tbM0_0 xt0) -∗ K ⟨⟩))
      ⊢ wp frame (wpE (defs₀ (F := F)) Variants.none c none) E
          (cc0_attn_diff i tbM0_0 htbM0_0 arg4 harg4 arg5 harg5 arg6 harg6 arg7 harg7 arg8 harg8 arg9 harg9 arg10
          harg10 arg11 harg11 arg12 harg12 arg13 harg13 arg14 harg14 arg15 harg15 arg16 harg16 arg17 harg17 arg18
          harg18 arg19 harg19 arg20 harg20 arg21 harg21 arg22 harg22 arg23 harg23 arg24 harg24 arg25 harg25 arg26
          harg26 arg27 harg27 arg28 harg28 arg29 harg29 arg30 harg30 arg31 harg31 arg32 harg32 arg33 harg33 arg34
          harg34 arg35 harg35 arg36 harg36 arg37 harg37 arg38 harg38 arg39 harg39 arg40 harg40 arg41 harg41 arg42
          harg42) K := by
  simp only [cc0_attn_diff_eq_skeleton]; unfold cc0_attn_diff_skel
  simp only [k0_part9_eq_skeleton, k0_part10_eq_skeleton, k0_part11_eq_skeleton, k0_part12_eq_skeleton,
  k0_part13_eq_skeleton, k0_part14_eq_skeleton, k0_part15_eq_skeleton, k0_part16_eq_skeleton, k0_part17_eq_skeleton,
  k0_part18_eq_skeleton, k0_part19_eq_skeleton, k0_part20_eq_skeleton, k0_part21_eq_skeleton, k0_part22_eq_skeleton,
  k0_part23_eq_skeleton, k0_part24_eq_skeleton, k0_part25_eq_skeleton, k0_part26_eq_skeleton, k0_part27_eq_skeleton,
  k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
  %hf6, H6⟩, ⟨%f7, %hf7, H7⟩, ⟨%f8, %hf8, H8⟩, ⟨%f9, %hf9, H9⟩, ⟨%f10, %hf10, H10⟩, ⟨%f11, %hf11, H11⟩, ⟨%f12, %hf12,
  H12⟩, ⟨%f13, %hf13, H13⟩, ⟨%f14, %hf14, H14⟩, ⟨%f15, %hf15, H15⟩, ⟨%f16, %hf16, H16⟩, ⟨%f17, %hf17, H17⟩, ⟨%f18,
  %hf18, H18⟩, ⟨%f19, %hf19, H19⟩, ⟨%f20, %hf20, H20⟩, ⟨%f21, %hf21, H21⟩, ⟨%f22, %hf22, H22⟩, ⟨%f23, %hf23, H23⟩,
  ⟨%f24, %hf24, H24⟩, ⟨%f25, %hf25, H25⟩, ⟨%f26, %hf26, H26⟩, ⟨%f27, %hf27, H27⟩, ⟨%f28, %hf28, H28⟩, ⟨%f29, %hf29,
  H29⟩, ⟨%f30, %hf30, H30⟩, ⟨%f31, %hf31, H31⟩, ⟨%f32, %hf32, H32⟩, ⟨%d33, %f33, -, H33⟩, ⟨%d34, %f34, -, H34⟩, ⟨%d35,
  %f35, -, H35⟩, ⟨%d36, %f36, -, H36⟩, ⟨%d37, %f37, -, H37⟩, ⟨%d38, %f38, -, H38⟩, HT0, Hk⟩
  obtain rfl := harg4.eq_unread hf0; obtain rfl := harg5.eq_unread hf1; obtain rfl := harg6.eq_unread hf2; obtain rfl
  := harg7.eq_unread hf3; obtain rfl := harg8.eq_unread hf4; obtain rfl := harg9.eq_unread hf5; obtain rfl :=
  harg10.eq_unread hf6; obtain rfl := harg11.eq_unread hf7; obtain rfl := harg12.eq_unread hf8; obtain rfl :=
  harg13.eq_unread hf9; obtain rfl := harg14.eq_unread hf10; obtain rfl := harg15.eq_unread hf11; obtain rfl :=
  harg16.eq_unread hf12; obtain rfl := harg17.eq_unread hf13; obtain rfl := harg18.eq_unread hf14; obtain rfl :=
  harg19.eq_unread hf15; obtain rfl := harg20.eq_unread hf16; obtain rfl := harg21.eq_unread hf17; obtain rfl :=
  harg22.eq_unread hf18; obtain rfl := harg23.eq_unread hf19; obtain rfl := harg24.eq_unread hf20; obtain rfl :=
  harg25.eq_unread hf21; obtain rfl := harg26.eq_unread hf22; obtain rfl := harg27.eq_unread hf23; obtain rfl :=
  harg28.eq_unread hf24; obtain rfl := harg29.eq_unread hf25; obtain rfl := harg30.eq_unread hf26; obtain rfl :=
  harg31.eq_unread hf27; obtain rfl := harg32.eq_unread hf28; obtain rfl := harg33.eq_unread hf29; obtain rfl :=
  harg34.eq_unread hf30; obtain rfl := harg35.eq_unread hf31; obtain rfl := harg36.eq_unread hf32
  sl_exec (disch := first | sl_exact hc0 | sl_exact hc1)
  sl_step
  iapply Hk
  isplitl [H0]
  · iexists _; isplitr
    · ipureintro; exact harg4.read_unread _
    iexact H0
  isplitl [H1]
  · iexists _; isplitr
    · ipureintro; exact harg5.read_unread _
    iexact H1
  isplitl [H2]
  · iexists _; isplitr
    · ipureintro; exact harg6.read_unread _
    iexact H2
  isplitl [H3]
  · iexists _; isplitr
    · ipureintro; exact harg7.read_unread _
    iexact H3
  isplitl [H4]
  · iexists _; isplitr
    · ipureintro; exact harg8.read_unread _
    iexact H4
  isplitl [H5]
  · iexists _; isplitr
    · ipureintro; exact harg9.read_unread _
    iexact H5
  isplitl [H6]
  · iexists _; isplitr
    · ipureintro; exact harg10.read_unread _
    iexact H6
  isplitl [H7]
  · iexists _; isplitr
    · ipureintro; exact harg11.read_unread _
    iexact H7
  isplitl [H8]
  · iexists _; isplitr
    · ipureintro; exact harg12.read_unread _
    iexact H8
  isplitl [H9]
  · iexists _; isplitr
    · ipureintro; exact harg13.read_unread _
    iexact H9
  isplitl [H10]
  · iexists _; isplitr
    · ipureintro; exact harg14.read_unread _
    iexact H10
  isplitl [H11]
  · iexists _; isplitr
    · ipureintro; exact harg15.read_unread _
    iexact H11
  isplitl [H12]
  · iexists _; isplitr
    · ipureintro; exact harg16.read_unread _
    iexact H12
  isplitl [H13]
  · iexists _; isplitr
    · ipureintro; exact harg17.read_unread _
    iexact H13
  isplitl [H14]
  · iexists _; isplitr
    · ipureintro; exact harg18.read_unread _
    iexact H14
  isplitl [H15]
  · iexists _; isplitr
    · ipureintro; exact harg19.read_unread _
    iexact H15
  isplitl [H16]
  · iexists _; isplitr
    · ipureintro; exact harg20.read_unread _
    iexact H16
  isplitl [H17]
  · iexists _; isplitr
    · ipureintro; exact harg21.read_unread _
    iexact H17
  isplitl [H18]
  · iexists _; isplitr
    · ipureintro; exact harg22.read_unread _
    iexact H18
  isplitl [H19]
  · iexists _; isplitr
    · ipureintro; exact harg23.read_unread _
    iexact H19
  isplitl [H20]
  · iexists _; isplitr
    · ipureintro; exact harg24.read_unread _
    iexact H20
  isplitl [H21]
  · iexists _; isplitr
    · ipureintro; exact harg25.read_unread _
    iexact H21
  isplitl [H22]
  · iexists _; isplitr
    · ipureintro; exact harg26.read_unread _
    iexact H22
  isplitl [H23]
  · iexists _; isplitr
    · ipureintro; exact harg27.read_unread _
    iexact H23
  isplitl [H24]
  · iexists _; isplitr
    · ipureintro; exact harg28.read_unread _
    iexact H24
  isplitl [H25]
  · iexists _; isplitr
    · ipureintro; exact harg29.read_unread _
    iexact H25
  isplitl [H26]
  · iexists _; isplitr
    · ipureintro; exact harg30.read_unread _
    iexact H26
  isplitl [H27]
  · iexists _; isplitr
    · ipureintro; exact harg31.read_unread _
    iexact H27
  isplitl [H28]
  · iexists _; isplitr
    · ipureintro; exact harg32.read_unread _
    iexact H28
  isplitl [H29]
  · iexists _; isplitr
    · ipureintro; exact harg33.read_unread _
    iexact H29
  isplitl [H30]
  · iexists _; isplitr
    · ipureintro; exact harg34.read_unread _
    iexact H30
  isplitl [H31]
  · iexists _; isplitr
    · ipureintro; exact harg35.read_unread _
    iexact H31
  isplitl [H32]
  · iexists _; isplitr
    · ipureintro; exact harg36.read_unread _
    iexact H32
  isplitl [H33]
  · iapply (owned_of_stored c arg37 _ (written_eq c i arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37
      arg38 harg38 arg39 harg39 arg40 harg40 arg41 harg41 arg42 harg42 x0 x1 x2 x3 x4 _ _ _))
    iexact H33
  isplitl [H34]
  · iapply owned_of_elements c arg38; iexact H34
  isplitl [H35]
  · iapply owned_of_elements c arg39; iexact H35
  isplitl [H36]
  · iapply owned_of_elements c arg40; iexact H36
  isplitl [H37]
  · iapply owned_of_elements c arg41; iexact H37
  isplitl [H38]
  · iapply owned_of_elements c arg42; iexact H38
  iexact HT0

set_option maxHeartbeats 40000000 in
/-- The body runs at a point in the middle of its group of six. -/
theorem runB (hc0 : ¬cond0_0 i) (hc1 : ¬cond0_1 i) (E : Set ℕ) (K : PUnit → sProp 𝕄) :
      iprop(owns (c : Thread nD τ) arg4 fullShare x0 ∗ owns (c : Thread nD τ) arg5 fullShare x1 ∗ owns (c : Thread nD
      τ) arg6 fullShare x2 ∗ owns (c : Thread nD τ) arg7 fullShare x3 ∗ owns (c : Thread nD τ) arg8 fullShare x4 ∗
      owns (c : Thread nD τ) arg9 fullShare x5 ∗ owns (c : Thread nD τ) arg10 fullShare x6 ∗ owns (c : Thread nD τ)
      arg11 fullShare x7 ∗ owns (c : Thread nD τ) arg12 fullShare x8 ∗ owns (c : Thread nD τ) arg13 fullShare x9 ∗
      owns (c : Thread nD τ) arg14 fullShare x10 ∗ owns (c : Thread nD τ) arg15 fullShare x11 ∗ owns (c : Thread nD τ)
      arg16 fullShare x12 ∗ owns (c : Thread nD τ) arg17 fullShare x13 ∗ owns (c : Thread nD τ) arg18 fullShare x14 ∗
      owns (c : Thread nD τ) arg19 fullShare x15 ∗ owns (c : Thread nD τ) arg20 fullShare x16 ∗ owns (c : Thread nD τ)
      arg21 fullShare x17 ∗ owns (c : Thread nD τ) arg22 fullShare x18 ∗ owns (c : Thread nD τ) arg23 fullShare x19 ∗
      owns (c : Thread nD τ) arg24 fullShare x20 ∗ owns (c : Thread nD τ) arg25 fullShare x21 ∗ owns (c : Thread nD τ)
      arg26 fullShare x22 ∗ owns (c : Thread nD τ) arg27 fullShare x23 ∗ owns (c : Thread nD τ) arg28 fullShare x24 ∗
      owns (c : Thread nD τ) arg29 fullShare x25 ∗ owns (c : Thread nD τ) arg30 fullShare x26 ∗ owns (c : Thread nD τ)
      arg31 fullShare x27 ∗ owns (c : Thread nD τ) arg32 fullShare x28 ∗ owns (c : Thread nD τ) arg33 fullShare x29 ∗
      owns (c : Thread nD τ) arg34 fullShare x30 ∗ owns (c : Thread nD τ) arg35 fullShare x31 ∗ owns (c : Thread nD τ)
      arg36 fullShare x32 ∗ (∃ d, owns (c : Thread nD τ) arg37 fullShare d) ∗ (∃ d, owns (c : Thread nD τ) arg38
      fullShare d) ∗ (∃ d, owns (c : Thread nD τ) arg39 fullShare d) ∗ (∃ d, owns (c : Thread nD τ) arg40 fullShare d)
      ∗ (∃ d, owns (c : Thread nD τ) arg41 fullShare d) ∗ (∃ d, owns (c : Thread nD τ) arg42 fullShare d) ∗ tbPt0 c
      tbM0_0 xt0
        ∗ (iprop(owns (c : Thread nD τ) arg4 fullShare x0 ∗ owns (c : Thread nD τ) arg5 fullShare x1 ∗ owns (c :
        Thread nD τ) arg6 fullShare x2 ∗ owns (c : Thread nD τ) arg7 fullShare x3 ∗ owns (c : Thread nD τ) arg8
        fullShare x4 ∗ owns (c : Thread nD τ) arg9 fullShare x5 ∗ owns (c : Thread nD τ) arg10 fullShare x6 ∗ owns (c
        : Thread nD τ) arg11 fullShare x7 ∗ owns (c : Thread nD τ) arg12 fullShare x8 ∗ owns (c : Thread nD τ) arg13
        fullShare x9 ∗ owns (c : Thread nD τ) arg14 fullShare x10 ∗ owns (c : Thread nD τ) arg15 fullShare x11 ∗ owns
        (c : Thread nD τ) arg16 fullShare x12 ∗ owns (c : Thread nD τ) arg17 fullShare x13 ∗ owns (c : Thread nD τ)
        arg18 fullShare x14 ∗ owns (c : Thread nD τ) arg19 fullShare x15 ∗ owns (c : Thread nD τ) arg20 fullShare x16
        ∗ owns (c : Thread nD τ) arg21 fullShare x17 ∗ owns (c : Thread nD τ) arg22 fullShare x18 ∗ owns (c : Thread
        nD τ) arg23 fullShare x19 ∗ owns (c : Thread nD τ) arg24 fullShare x20 ∗ owns (c : Thread nD τ) arg25
        fullShare x21 ∗ owns (c : Thread nD τ) arg26 fullShare x22 ∗ owns (c : Thread nD τ) arg27 fullShare x23 ∗ owns
        (c : Thread nD τ) arg28 fullShare x24 ∗ owns (c : Thread nD τ) arg29 fullShare x25 ∗ owns (c : Thread nD τ)
        arg30 fullShare x26 ∗ owns (c : Thread nD τ) arg31 fullShare x27 ∗ owns (c : Thread nD τ) arg32 fullShare x28
        ∗ owns (c : Thread nD τ) arg33 fullShare x29 ∗ owns (c : Thread nD τ) arg34 fullShare x30 ∗ owns (c : Thread
        nD τ) arg35 fullShare x31 ∗ owns (c : Thread nD τ) arg36 fullShare x32 ∗ owns (c : Thread nD τ) arg37
        fullShare (promptOut i x0 x1 x2 x3 x4) ∗ (∃ d, owns (c : Thread nD τ) arg38 fullShare d) ∗ (∃ d, owns (c :
        Thread nD τ) arg39 fullShare d) ∗ (∃ d, owns (c : Thread nD τ) arg40 fullShare d) ∗ (∃ d, owns (c : Thread nD
        τ) arg41 fullShare d) ∗ (∃ d, owns (c : Thread nD τ) arg42 fullShare d) ∗ tbPt0 c tbM0_0 xt0) -∗ K ⟨⟩))
      ⊢ wp frame (wpE (defs₀ (F := F)) Variants.none c none) E
          (cc0_attn_diff i tbM0_0 htbM0_0 arg4 harg4 arg5 harg5 arg6 harg6 arg7 harg7 arg8 harg8 arg9 harg9 arg10
          harg10 arg11 harg11 arg12 harg12 arg13 harg13 arg14 harg14 arg15 harg15 arg16 harg16 arg17 harg17 arg18
          harg18 arg19 harg19 arg20 harg20 arg21 harg21 arg22 harg22 arg23 harg23 arg24 harg24 arg25 harg25 arg26
          harg26 arg27 harg27 arg28 harg28 arg29 harg29 arg30 harg30 arg31 harg31 arg32 harg32 arg33 harg33 arg34
          harg34 arg35 harg35 arg36 harg36 arg37 harg37 arg38 harg38 arg39 harg39 arg40 harg40 arg41 harg41 arg42
          harg42) K := by
  simp only [cc0_attn_diff_eq_skeleton]; unfold cc0_attn_diff_skel
  simp only [k0_part9_eq_skeleton, k0_part10_eq_skeleton, k0_part11_eq_skeleton, k0_part12_eq_skeleton,
  k0_part13_eq_skeleton, k0_part14_eq_skeleton, k0_part15_eq_skeleton, k0_part16_eq_skeleton, k0_part17_eq_skeleton,
  k0_part18_eq_skeleton, k0_part19_eq_skeleton, k0_part20_eq_skeleton, k0_part21_eq_skeleton, k0_part22_eq_skeleton,
  k0_part23_eq_skeleton, k0_part24_eq_skeleton, k0_part25_eq_skeleton, k0_part26_eq_skeleton, k0_part27_eq_skeleton,
  k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
  %hf6, H6⟩, ⟨%f7, %hf7, H7⟩, ⟨%f8, %hf8, H8⟩, ⟨%f9, %hf9, H9⟩, ⟨%f10, %hf10, H10⟩, ⟨%f11, %hf11, H11⟩, ⟨%f12, %hf12,
  H12⟩, ⟨%f13, %hf13, H13⟩, ⟨%f14, %hf14, H14⟩, ⟨%f15, %hf15, H15⟩, ⟨%f16, %hf16, H16⟩, ⟨%f17, %hf17, H17⟩, ⟨%f18,
  %hf18, H18⟩, ⟨%f19, %hf19, H19⟩, ⟨%f20, %hf20, H20⟩, ⟨%f21, %hf21, H21⟩, ⟨%f22, %hf22, H22⟩, ⟨%f23, %hf23, H23⟩,
  ⟨%f24, %hf24, H24⟩, ⟨%f25, %hf25, H25⟩, ⟨%f26, %hf26, H26⟩, ⟨%f27, %hf27, H27⟩, ⟨%f28, %hf28, H28⟩, ⟨%f29, %hf29,
  H29⟩, ⟨%f30, %hf30, H30⟩, ⟨%f31, %hf31, H31⟩, ⟨%f32, %hf32, H32⟩, ⟨%d33, %f33, -, H33⟩, ⟨%d34, %f34, -, H34⟩, ⟨%d35,
  %f35, -, H35⟩, ⟨%d36, %f36, -, H36⟩, ⟨%d37, %f37, -, H37⟩, ⟨%d38, %f38, -, H38⟩, HT0, Hk⟩
  obtain rfl := harg4.eq_unread hf0; obtain rfl := harg5.eq_unread hf1; obtain rfl := harg6.eq_unread hf2; obtain rfl
  := harg7.eq_unread hf3; obtain rfl := harg8.eq_unread hf4; obtain rfl := harg9.eq_unread hf5; obtain rfl :=
  harg10.eq_unread hf6; obtain rfl := harg11.eq_unread hf7; obtain rfl := harg12.eq_unread hf8; obtain rfl :=
  harg13.eq_unread hf9; obtain rfl := harg14.eq_unread hf10; obtain rfl := harg15.eq_unread hf11; obtain rfl :=
  harg16.eq_unread hf12; obtain rfl := harg17.eq_unread hf13; obtain rfl := harg18.eq_unread hf14; obtain rfl :=
  harg19.eq_unread hf15; obtain rfl := harg20.eq_unread hf16; obtain rfl := harg21.eq_unread hf17; obtain rfl :=
  harg22.eq_unread hf18; obtain rfl := harg23.eq_unread hf19; obtain rfl := harg24.eq_unread hf20; obtain rfl :=
  harg25.eq_unread hf21; obtain rfl := harg26.eq_unread hf22; obtain rfl := harg27.eq_unread hf23; obtain rfl :=
  harg28.eq_unread hf24; obtain rfl := harg29.eq_unread hf25; obtain rfl := harg30.eq_unread hf26; obtain rfl :=
  harg31.eq_unread hf27; obtain rfl := harg32.eq_unread hf28; obtain rfl := harg33.eq_unread hf29; obtain rfl :=
  harg34.eq_unread hf30; obtain rfl := harg35.eq_unread hf31; obtain rfl := harg36.eq_unread hf32
  sl_exec (disch := first | sl_exact hc0 | sl_exact hc1)
  sl_step
  iapply Hk
  isplitl [H0]
  · iexists _; isplitr
    · ipureintro; exact harg4.read_unread _
    iexact H0
  isplitl [H1]
  · iexists _; isplitr
    · ipureintro; exact harg5.read_unread _
    iexact H1
  isplitl [H2]
  · iexists _; isplitr
    · ipureintro; exact harg6.read_unread _
    iexact H2
  isplitl [H3]
  · iexists _; isplitr
    · ipureintro; exact harg7.read_unread _
    iexact H3
  isplitl [H4]
  · iexists _; isplitr
    · ipureintro; exact harg8.read_unread _
    iexact H4
  isplitl [H5]
  · iexists _; isplitr
    · ipureintro; exact harg9.read_unread _
    iexact H5
  isplitl [H6]
  · iexists _; isplitr
    · ipureintro; exact harg10.read_unread _
    iexact H6
  isplitl [H7]
  · iexists _; isplitr
    · ipureintro; exact harg11.read_unread _
    iexact H7
  isplitl [H8]
  · iexists _; isplitr
    · ipureintro; exact harg12.read_unread _
    iexact H8
  isplitl [H9]
  · iexists _; isplitr
    · ipureintro; exact harg13.read_unread _
    iexact H9
  isplitl [H10]
  · iexists _; isplitr
    · ipureintro; exact harg14.read_unread _
    iexact H10
  isplitl [H11]
  · iexists _; isplitr
    · ipureintro; exact harg15.read_unread _
    iexact H11
  isplitl [H12]
  · iexists _; isplitr
    · ipureintro; exact harg16.read_unread _
    iexact H12
  isplitl [H13]
  · iexists _; isplitr
    · ipureintro; exact harg17.read_unread _
    iexact H13
  isplitl [H14]
  · iexists _; isplitr
    · ipureintro; exact harg18.read_unread _
    iexact H14
  isplitl [H15]
  · iexists _; isplitr
    · ipureintro; exact harg19.read_unread _
    iexact H15
  isplitl [H16]
  · iexists _; isplitr
    · ipureintro; exact harg20.read_unread _
    iexact H16
  isplitl [H17]
  · iexists _; isplitr
    · ipureintro; exact harg21.read_unread _
    iexact H17
  isplitl [H18]
  · iexists _; isplitr
    · ipureintro; exact harg22.read_unread _
    iexact H18
  isplitl [H19]
  · iexists _; isplitr
    · ipureintro; exact harg23.read_unread _
    iexact H19
  isplitl [H20]
  · iexists _; isplitr
    · ipureintro; exact harg24.read_unread _
    iexact H20
  isplitl [H21]
  · iexists _; isplitr
    · ipureintro; exact harg25.read_unread _
    iexact H21
  isplitl [H22]
  · iexists _; isplitr
    · ipureintro; exact harg26.read_unread _
    iexact H22
  isplitl [H23]
  · iexists _; isplitr
    · ipureintro; exact harg27.read_unread _
    iexact H23
  isplitl [H24]
  · iexists _; isplitr
    · ipureintro; exact harg28.read_unread _
    iexact H24
  isplitl [H25]
  · iexists _; isplitr
    · ipureintro; exact harg29.read_unread _
    iexact H25
  isplitl [H26]
  · iexists _; isplitr
    · ipureintro; exact harg30.read_unread _
    iexact H26
  isplitl [H27]
  · iexists _; isplitr
    · ipureintro; exact harg31.read_unread _
    iexact H27
  isplitl [H28]
  · iexists _; isplitr
    · ipureintro; exact harg32.read_unread _
    iexact H28
  isplitl [H29]
  · iexists _; isplitr
    · ipureintro; exact harg33.read_unread _
    iexact H29
  isplitl [H30]
  · iexists _; isplitr
    · ipureintro; exact harg34.read_unread _
    iexact H30
  isplitl [H31]
  · iexists _; isplitr
    · ipureintro; exact harg35.read_unread _
    iexact H31
  isplitl [H32]
  · iexists _; isplitr
    · ipureintro; exact harg36.read_unread _
    iexact H32
  isplitl [H33]
  · iapply (owned_of_stored c arg37 _ (written_eq c i arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37
      arg38 harg38 arg39 harg39 arg40 harg40 arg41 harg41 arg42 harg42 x0 x1 x2 x3 x4 _ _ _))
    iexact H33
  isplitl [H34]
  · iapply owned_of_elements c arg38; iexact H34
  isplitl [H35]
  · iapply owned_of_elements c arg39; iexact H35
  isplitl [H36]
  · iapply owned_of_elements c arg40; iexact H36
  isplitl [H37]
  · iapply owned_of_elements c arg41; iexact H37
  isplitl [H38]
  · iapply owned_of_elements c arg42; iexact H38
  iexact HT0

set_option maxHeartbeats 40000000 in
/-- The body runs at the point that ends a group of six: the decode outputs are stored. -/
theorem runC (hc0 : ¬cond0_0 i) (hc1 : cond0_1 i) (E : Set ℕ) (K : PUnit → sProp 𝕄) :
      iprop(owns (c : Thread nD τ) arg4 fullShare x0 ∗ owns (c : Thread nD τ) arg5 fullShare x1 ∗ owns (c : Thread nD
      τ) arg6 fullShare x2 ∗ owns (c : Thread nD τ) arg7 fullShare x3 ∗ owns (c : Thread nD τ) arg8 fullShare x4 ∗
      owns (c : Thread nD τ) arg9 fullShare x5 ∗ owns (c : Thread nD τ) arg10 fullShare x6 ∗ owns (c : Thread nD τ)
      arg11 fullShare x7 ∗ owns (c : Thread nD τ) arg12 fullShare x8 ∗ owns (c : Thread nD τ) arg13 fullShare x9 ∗
      owns (c : Thread nD τ) arg14 fullShare x10 ∗ owns (c : Thread nD τ) arg15 fullShare x11 ∗ owns (c : Thread nD τ)
      arg16 fullShare x12 ∗ owns (c : Thread nD τ) arg17 fullShare x13 ∗ owns (c : Thread nD τ) arg18 fullShare x14 ∗
      owns (c : Thread nD τ) arg19 fullShare x15 ∗ owns (c : Thread nD τ) arg20 fullShare x16 ∗ owns (c : Thread nD τ)
      arg21 fullShare x17 ∗ owns (c : Thread nD τ) arg22 fullShare x18 ∗ owns (c : Thread nD τ) arg23 fullShare x19 ∗
      owns (c : Thread nD τ) arg24 fullShare x20 ∗ owns (c : Thread nD τ) arg25 fullShare x21 ∗ owns (c : Thread nD τ)
      arg26 fullShare x22 ∗ owns (c : Thread nD τ) arg27 fullShare x23 ∗ owns (c : Thread nD τ) arg28 fullShare x24 ∗
      owns (c : Thread nD τ) arg29 fullShare x25 ∗ owns (c : Thread nD τ) arg30 fullShare x26 ∗ owns (c : Thread nD τ)
      arg31 fullShare x27 ∗ owns (c : Thread nD τ) arg32 fullShare x28 ∗ owns (c : Thread nD τ) arg33 fullShare x29 ∗
      owns (c : Thread nD τ) arg34 fullShare x30 ∗ owns (c : Thread nD τ) arg35 fullShare x31 ∗ owns (c : Thread nD τ)
      arg36 fullShare x32 ∗ (∃ d, owns (c : Thread nD τ) arg37 fullShare d) ∗ (∃ d, owns (c : Thread nD τ) arg38
      fullShare d) ∗ (∃ d, owns (c : Thread nD τ) arg39 fullShare d) ∗ (∃ d, owns (c : Thread nD τ) arg40 fullShare d)
      ∗ (∃ d, owns (c : Thread nD τ) arg41 fullShare d) ∗ (∃ d, owns (c : Thread nD τ) arg42 fullShare d) ∗ tbPt0 c
      tbM0_0 xt0
        ∗ (iprop(owns (c : Thread nD τ) arg4 fullShare x0 ∗ owns (c : Thread nD τ) arg5 fullShare x1 ∗ owns (c :
        Thread nD τ) arg6 fullShare x2 ∗ owns (c : Thread nD τ) arg7 fullShare x3 ∗ owns (c : Thread nD τ) arg8
        fullShare x4 ∗ owns (c : Thread nD τ) arg9 fullShare x5 ∗ owns (c : Thread nD τ) arg10 fullShare x6 ∗ owns (c
        : Thread nD τ) arg11 fullShare x7 ∗ owns (c : Thread nD τ) arg12 fullShare x8 ∗ owns (c : Thread nD τ) arg13
        fullShare x9 ∗ owns (c : Thread nD τ) arg14 fullShare x10 ∗ owns (c : Thread nD τ) arg15 fullShare x11 ∗ owns
        (c : Thread nD τ) arg16 fullShare x12 ∗ owns (c : Thread nD τ) arg17 fullShare x13 ∗ owns (c : Thread nD τ)
        arg18 fullShare x14 ∗ owns (c : Thread nD τ) arg19 fullShare x15 ∗ owns (c : Thread nD τ) arg20 fullShare x16
        ∗ owns (c : Thread nD τ) arg21 fullShare x17 ∗ owns (c : Thread nD τ) arg22 fullShare x18 ∗ owns (c : Thread
        nD τ) arg23 fullShare x19 ∗ owns (c : Thread nD τ) arg24 fullShare x20 ∗ owns (c : Thread nD τ) arg25
        fullShare x21 ∗ owns (c : Thread nD τ) arg26 fullShare x22 ∗ owns (c : Thread nD τ) arg27 fullShare x23 ∗ owns
        (c : Thread nD τ) arg28 fullShare x24 ∗ owns (c : Thread nD τ) arg29 fullShare x25 ∗ owns (c : Thread nD τ)
        arg30 fullShare x26 ∗ owns (c : Thread nD τ) arg31 fullShare x27 ∗ owns (c : Thread nD τ) arg32 fullShare x28
        ∗ owns (c : Thread nD τ) arg33 fullShare x29 ∗ owns (c : Thread nD τ) arg34 fullShare x30 ∗ owns (c : Thread
        nD τ) arg35 fullShare x31 ∗ owns (c : Thread nD τ) arg36 fullShare x32 ∗ owns (c : Thread nD τ) arg37
        fullShare (promptOut i x0 x1 x2 x3 x4) ∗ (∃ d, owns (c : Thread nD τ) arg38 fullShare d) ∗ (∃ d, owns (c :
        Thread nD τ) arg39 fullShare d) ∗ (∃ d, owns (c : Thread nD τ) arg40 fullShare d) ∗ (∃ d, owns (c : Thread nD
        τ) arg41 fullShare d) ∗ (∃ d, owns (c : Thread nD τ) arg42 fullShare d) ∗ tbPt0 c tbM0_0 xt0) -∗ K ⟨⟩))
      ⊢ wp frame (wpE (defs₀ (F := F)) Variants.none c none) E
          (cc0_attn_diff i tbM0_0 htbM0_0 arg4 harg4 arg5 harg5 arg6 harg6 arg7 harg7 arg8 harg8 arg9 harg9 arg10
          harg10 arg11 harg11 arg12 harg12 arg13 harg13 arg14 harg14 arg15 harg15 arg16 harg16 arg17 harg17 arg18
          harg18 arg19 harg19 arg20 harg20 arg21 harg21 arg22 harg22 arg23 harg23 arg24 harg24 arg25 harg25 arg26
          harg26 arg27 harg27 arg28 harg28 arg29 harg29 arg30 harg30 arg31 harg31 arg32 harg32 arg33 harg33 arg34
          harg34 arg35 harg35 arg36 harg36 arg37 harg37 arg38 harg38 arg39 harg39 arg40 harg40 arg41 harg41 arg42
          harg42) K := by
  simp only [cc0_attn_diff_eq_skeleton]; unfold cc0_attn_diff_skel
  simp only [k0_part9_eq_skeleton, k0_part10_eq_skeleton, k0_part11_eq_skeleton, k0_part12_eq_skeleton,
  k0_part13_eq_skeleton, k0_part14_eq_skeleton, k0_part15_eq_skeleton, k0_part16_eq_skeleton, k0_part17_eq_skeleton,
  k0_part18_eq_skeleton, k0_part19_eq_skeleton, k0_part20_eq_skeleton, k0_part21_eq_skeleton, k0_part22_eq_skeleton,
  k0_part23_eq_skeleton, k0_part24_eq_skeleton, k0_part25_eq_skeleton, k0_part26_eq_skeleton, k0_part27_eq_skeleton,
  k0_part28_eq_skeleton, k0_part3_eq_skeleton, k0_part4_eq_skeleton, k0_part5_eq_skeleton, k0_part6_eq_skeleton,
  k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
  %hf6, H6⟩, ⟨%f7, %hf7, H7⟩, ⟨%f8, %hf8, H8⟩, ⟨%f9, %hf9, H9⟩, ⟨%f10, %hf10, H10⟩, ⟨%f11, %hf11, H11⟩, ⟨%f12, %hf12,
  H12⟩, ⟨%f13, %hf13, H13⟩, ⟨%f14, %hf14, H14⟩, ⟨%f15, %hf15, H15⟩, ⟨%f16, %hf16, H16⟩, ⟨%f17, %hf17, H17⟩, ⟨%f18,
  %hf18, H18⟩, ⟨%f19, %hf19, H19⟩, ⟨%f20, %hf20, H20⟩, ⟨%f21, %hf21, H21⟩, ⟨%f22, %hf22, H22⟩, ⟨%f23, %hf23, H23⟩,
  ⟨%f24, %hf24, H24⟩, ⟨%f25, %hf25, H25⟩, ⟨%f26, %hf26, H26⟩, ⟨%f27, %hf27, H27⟩, ⟨%f28, %hf28, H28⟩, ⟨%f29, %hf29,
  H29⟩, ⟨%f30, %hf30, H30⟩, ⟨%f31, %hf31, H31⟩, ⟨%f32, %hf32, H32⟩, ⟨%d33, %f33, -, H33⟩, ⟨%d34, %f34, -, H34⟩, ⟨%d35,
  %f35, -, H35⟩, ⟨%d36, %f36, -, H36⟩, ⟨%d37, %f37, -, H37⟩, ⟨%d38, %f38, -, H38⟩, HT0, Hk⟩
  obtain rfl := harg4.eq_unread hf0; obtain rfl := harg5.eq_unread hf1; obtain rfl := harg6.eq_unread hf2; obtain rfl
  := harg7.eq_unread hf3; obtain rfl := harg8.eq_unread hf4; obtain rfl := harg9.eq_unread hf5; obtain rfl :=
  harg10.eq_unread hf6; obtain rfl := harg11.eq_unread hf7; obtain rfl := harg12.eq_unread hf8; obtain rfl :=
  harg13.eq_unread hf9; obtain rfl := harg14.eq_unread hf10; obtain rfl := harg15.eq_unread hf11; obtain rfl :=
  harg16.eq_unread hf12; obtain rfl := harg17.eq_unread hf13; obtain rfl := harg18.eq_unread hf14; obtain rfl :=
  harg19.eq_unread hf15; obtain rfl := harg20.eq_unread hf16; obtain rfl := harg21.eq_unread hf17; obtain rfl :=
  harg22.eq_unread hf18; obtain rfl := harg23.eq_unread hf19; obtain rfl := harg24.eq_unread hf20; obtain rfl :=
  harg25.eq_unread hf21; obtain rfl := harg26.eq_unread hf22; obtain rfl := harg27.eq_unread hf23; obtain rfl :=
  harg28.eq_unread hf24; obtain rfl := harg29.eq_unread hf25; obtain rfl := harg30.eq_unread hf26; obtain rfl :=
  harg31.eq_unread hf27; obtain rfl := harg32.eq_unread hf28; obtain rfl := harg33.eq_unread hf29; obtain rfl :=
  harg34.eq_unread hf30; obtain rfl := harg35.eq_unread hf31; obtain rfl := harg36.eq_unread hf32
  sl_exec (disch := first | sl_exact hc0 | sl_exact hc1)
  sl_step
  iapply Hk
  isplitl [H0]
  · iexists _; isplitr
    · ipureintro; exact harg4.read_unread _
    iexact H0
  isplitl [H1]
  · iexists _; isplitr
    · ipureintro; exact harg5.read_unread _
    iexact H1
  isplitl [H2]
  · iexists _; isplitr
    · ipureintro; exact harg6.read_unread _
    iexact H2
  isplitl [H3]
  · iexists _; isplitr
    · ipureintro; exact harg7.read_unread _
    iexact H3
  isplitl [H4]
  · iexists _; isplitr
    · ipureintro; exact harg8.read_unread _
    iexact H4
  isplitl [H5]
  · iexists _; isplitr
    · ipureintro; exact harg9.read_unread _
    iexact H5
  isplitl [H6]
  · iexists _; isplitr
    · ipureintro; exact harg10.read_unread _
    iexact H6
  isplitl [H7]
  · iexists _; isplitr
    · ipureintro; exact harg11.read_unread _
    iexact H7
  isplitl [H8]
  · iexists _; isplitr
    · ipureintro; exact harg12.read_unread _
    iexact H8
  isplitl [H9]
  · iexists _; isplitr
    · ipureintro; exact harg13.read_unread _
    iexact H9
  isplitl [H10]
  · iexists _; isplitr
    · ipureintro; exact harg14.read_unread _
    iexact H10
  isplitl [H11]
  · iexists _; isplitr
    · ipureintro; exact harg15.read_unread _
    iexact H11
  isplitl [H12]
  · iexists _; isplitr
    · ipureintro; exact harg16.read_unread _
    iexact H12
  isplitl [H13]
  · iexists _; isplitr
    · ipureintro; exact harg17.read_unread _
    iexact H13
  isplitl [H14]
  · iexists _; isplitr
    · ipureintro; exact harg18.read_unread _
    iexact H14
  isplitl [H15]
  · iexists _; isplitr
    · ipureintro; exact harg19.read_unread _
    iexact H15
  isplitl [H16]
  · iexists _; isplitr
    · ipureintro; exact harg20.read_unread _
    iexact H16
  isplitl [H17]
  · iexists _; isplitr
    · ipureintro; exact harg21.read_unread _
    iexact H17
  isplitl [H18]
  · iexists _; isplitr
    · ipureintro; exact harg22.read_unread _
    iexact H18
  isplitl [H19]
  · iexists _; isplitr
    · ipureintro; exact harg23.read_unread _
    iexact H19
  isplitl [H20]
  · iexists _; isplitr
    · ipureintro; exact harg24.read_unread _
    iexact H20
  isplitl [H21]
  · iexists _; isplitr
    · ipureintro; exact harg25.read_unread _
    iexact H21
  isplitl [H22]
  · iexists _; isplitr
    · ipureintro; exact harg26.read_unread _
    iexact H22
  isplitl [H23]
  · iexists _; isplitr
    · ipureintro; exact harg27.read_unread _
    iexact H23
  isplitl [H24]
  · iexists _; isplitr
    · ipureintro; exact harg28.read_unread _
    iexact H24
  isplitl [H25]
  · iexists _; isplitr
    · ipureintro; exact harg29.read_unread _
    iexact H25
  isplitl [H26]
  · iexists _; isplitr
    · ipureintro; exact harg30.read_unread _
    iexact H26
  isplitl [H27]
  · iexists _; isplitr
    · ipureintro; exact harg31.read_unread _
    iexact H27
  isplitl [H28]
  · iexists _; isplitr
    · ipureintro; exact harg32.read_unread _
    iexact H28
  isplitl [H29]
  · iexists _; isplitr
    · ipureintro; exact harg33.read_unread _
    iexact H29
  isplitl [H30]
  · iexists _; isplitr
    · ipureintro; exact harg34.read_unread _
    iexact H30
  isplitl [H31]
  · iexists _; isplitr
    · ipureintro; exact harg35.read_unread _
    iexact H31
  isplitl [H32]
  · iexists _; isplitr
    · ipureintro; exact harg36.read_unread _
    iexact H32
  isplitl [H33]
  · iapply (owned_of_stored c arg37 _ (written_eq c i arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20
      arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37
      arg38 harg38 arg39 harg39 arg40 harg40 arg41 harg41 arg42 harg42 x0 x1 x2 x3 x4 _ _ _))
    iexact H33
  isplitl [H34]
  · iapply owned_of_elements c arg38; iexact H34
  isplitl [H35]
  · iapply owned_of_elements c arg39; iexact H35
  isplitl [H36]
  · iapply owned_of_elements c arg40; iexact H36
  isplitl [H37]
  · iapply owned_of_elements c arg41; iexact H37
  isplitl [H38]
  · iapply owned_of_elements c arg42; iexact H38
  iexact HT0

/-- The body runs at every point. -/
theorem run (hcase : ¬(cond0_0 i ∧ cond0_1 i)) (E : Set ℕ) (K : PUnit → sProp 𝕄) :
      iprop(owns (c : Thread nD τ) arg4 fullShare x0 ∗ owns (c : Thread nD τ) arg5 fullShare x1 ∗ owns (c : Thread nD
      τ) arg6 fullShare x2 ∗ owns (c : Thread nD τ) arg7 fullShare x3 ∗ owns (c : Thread nD τ) arg8 fullShare x4 ∗
      owns (c : Thread nD τ) arg9 fullShare x5 ∗ owns (c : Thread nD τ) arg10 fullShare x6 ∗ owns (c : Thread nD τ)
      arg11 fullShare x7 ∗ owns (c : Thread nD τ) arg12 fullShare x8 ∗ owns (c : Thread nD τ) arg13 fullShare x9 ∗
      owns (c : Thread nD τ) arg14 fullShare x10 ∗ owns (c : Thread nD τ) arg15 fullShare x11 ∗ owns (c : Thread nD τ)
      arg16 fullShare x12 ∗ owns (c : Thread nD τ) arg17 fullShare x13 ∗ owns (c : Thread nD τ) arg18 fullShare x14 ∗
      owns (c : Thread nD τ) arg19 fullShare x15 ∗ owns (c : Thread nD τ) arg20 fullShare x16 ∗ owns (c : Thread nD τ)
      arg21 fullShare x17 ∗ owns (c : Thread nD τ) arg22 fullShare x18 ∗ owns (c : Thread nD τ) arg23 fullShare x19 ∗
      owns (c : Thread nD τ) arg24 fullShare x20 ∗ owns (c : Thread nD τ) arg25 fullShare x21 ∗ owns (c : Thread nD τ)
      arg26 fullShare x22 ∗ owns (c : Thread nD τ) arg27 fullShare x23 ∗ owns (c : Thread nD τ) arg28 fullShare x24 ∗
      owns (c : Thread nD τ) arg29 fullShare x25 ∗ owns (c : Thread nD τ) arg30 fullShare x26 ∗ owns (c : Thread nD τ)
      arg31 fullShare x27 ∗ owns (c : Thread nD τ) arg32 fullShare x28 ∗ owns (c : Thread nD τ) arg33 fullShare x29 ∗
      owns (c : Thread nD τ) arg34 fullShare x30 ∗ owns (c : Thread nD τ) arg35 fullShare x31 ∗ owns (c : Thread nD τ)
      arg36 fullShare x32 ∗ (∃ d, owns (c : Thread nD τ) arg37 fullShare d) ∗ (∃ d, owns (c : Thread nD τ) arg38
      fullShare d) ∗ (∃ d, owns (c : Thread nD τ) arg39 fullShare d) ∗ (∃ d, owns (c : Thread nD τ) arg40 fullShare d)
      ∗ (∃ d, owns (c : Thread nD τ) arg41 fullShare d) ∗ (∃ d, owns (c : Thread nD τ) arg42 fullShare d) ∗ tbPt0 c
      tbM0_0 xt0
        ∗ (iprop(owns (c : Thread nD τ) arg4 fullShare x0 ∗ owns (c : Thread nD τ) arg5 fullShare x1 ∗ owns (c :
        Thread nD τ) arg6 fullShare x2 ∗ owns (c : Thread nD τ) arg7 fullShare x3 ∗ owns (c : Thread nD τ) arg8
        fullShare x4 ∗ owns (c : Thread nD τ) arg9 fullShare x5 ∗ owns (c : Thread nD τ) arg10 fullShare x6 ∗ owns (c
        : Thread nD τ) arg11 fullShare x7 ∗ owns (c : Thread nD τ) arg12 fullShare x8 ∗ owns (c : Thread nD τ) arg13
        fullShare x9 ∗ owns (c : Thread nD τ) arg14 fullShare x10 ∗ owns (c : Thread nD τ) arg15 fullShare x11 ∗ owns
        (c : Thread nD τ) arg16 fullShare x12 ∗ owns (c : Thread nD τ) arg17 fullShare x13 ∗ owns (c : Thread nD τ)
        arg18 fullShare x14 ∗ owns (c : Thread nD τ) arg19 fullShare x15 ∗ owns (c : Thread nD τ) arg20 fullShare x16
        ∗ owns (c : Thread nD τ) arg21 fullShare x17 ∗ owns (c : Thread nD τ) arg22 fullShare x18 ∗ owns (c : Thread
        nD τ) arg23 fullShare x19 ∗ owns (c : Thread nD τ) arg24 fullShare x20 ∗ owns (c : Thread nD τ) arg25
        fullShare x21 ∗ owns (c : Thread nD τ) arg26 fullShare x22 ∗ owns (c : Thread nD τ) arg27 fullShare x23 ∗ owns
        (c : Thread nD τ) arg28 fullShare x24 ∗ owns (c : Thread nD τ) arg29 fullShare x25 ∗ owns (c : Thread nD τ)
        arg30 fullShare x26 ∗ owns (c : Thread nD τ) arg31 fullShare x27 ∗ owns (c : Thread nD τ) arg32 fullShare x28
        ∗ owns (c : Thread nD τ) arg33 fullShare x29 ∗ owns (c : Thread nD τ) arg34 fullShare x30 ∗ owns (c : Thread
        nD τ) arg35 fullShare x31 ∗ owns (c : Thread nD τ) arg36 fullShare x32 ∗ owns (c : Thread nD τ) arg37
        fullShare (promptOut i x0 x1 x2 x3 x4) ∗ (∃ d, owns (c : Thread nD τ) arg38 fullShare d) ∗ (∃ d, owns (c :
        Thread nD τ) arg39 fullShare d) ∗ (∃ d, owns (c : Thread nD τ) arg40 fullShare d) ∗ (∃ d, owns (c : Thread nD
        τ) arg41 fullShare d) ∗ (∃ d, owns (c : Thread nD τ) arg42 fullShare d) ∗ tbPt0 c tbM0_0 xt0) -∗ K ⟨⟩))
      ⊢ wp frame (wpE (defs₀ (F := F)) Variants.none c none) E
          (cc0_attn_diff i tbM0_0 htbM0_0 arg4 harg4 arg5 harg5 arg6 harg6 arg7 harg7 arg8 harg8 arg9 harg9 arg10
          harg10 arg11 harg11 arg12 harg12 arg13 harg13 arg14 harg14 arg15 harg15 arg16 harg16 arg17 harg17 arg18
          harg18 arg19 harg19 arg20 harg20 arg21 harg21 arg22 harg22 arg23 harg23 arg24 harg24 arg25 harg25 arg26
          harg26 arg27 harg27 arg28 harg28 arg29 harg29 arg30 harg30 arg31 harg31 arg32 harg32 arg33 harg33 arg34
          harg34 arg35 harg35 arg36 harg36 arg37 harg37 arg38 harg38 arg39 harg39 arg40 harg40 arg41 harg41 arg42
          harg42) K := by
  by_cases hc0 : cond0_0 i
  · exact runA c i arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21
        harg21 arg22 harg22 arg23 harg23 arg24 harg24 arg25 harg25 arg26 harg26 arg27 harg27 arg28 harg28 arg29 harg29
        arg30 harg30 arg31 harg31 arg32 harg32 arg33 harg33 arg34 harg34 arg35 harg35 arg36 harg36 arg37 harg37 arg38
        harg38 arg39 harg39 arg40 harg40 arg41 harg41 arg42 harg42 x0 x1 x2 x3 x4 x5 x6 x7 x8 x9 x10 x11 x12 x13 x14
        x15 x16 x17 x18 x19 x20 x21 x22 x23 x24 x25 x26 x27 x28 x29 x30 x31 x32 xt0
      hc0 (fun h => hcase ⟨hc0, h⟩) E K
  · by_cases hc1 : cond0_1 i
    · exact runC c i arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21
        harg21 arg22 harg22 arg23 harg23 arg24 harg24 arg25 harg25 arg26 harg26 arg27 harg27 arg28 harg28 arg29 harg29
        arg30 harg30 arg31 harg31 arg32 harg32 arg33 harg33 arg34 harg34 arg35 harg35 arg36 harg36 arg37 harg37 arg38
        harg38 arg39 harg39 arg40 harg40 arg41 harg41 arg42 harg42 x0 x1 x2 x3 x4 x5 x6 x7 x8 x9 x10 x11 x12 x13 x14
        x15 x16 x17 x18 x19 x20 x21 x22 x23 x24 x25 x26 x27 x28 x29 x30 x31 x32 xt0
        hc0 hc1 E K
    · exact runB c i arg4 harg4 arg5 harg5 arg6 harg6 arg7 harg7 arg8 harg8 arg9 harg9 arg10 harg10 arg11 harg11 arg12 harg12
        arg13 harg13 arg14 harg14 arg15 harg15 arg16 harg16 arg17 harg17 arg18 harg18 arg19 harg19 arg20 harg20 arg21
        harg21 arg22 harg22 arg23 harg23 arg24 harg24 arg25 harg25 arg26 harg26 arg27 harg27 arg28 harg28 arg29 harg29
        arg30 harg30 arg31 harg31 arg32 harg32 arg33 harg33 arg34 harg34 arg35 harg35 arg36 harg36 arg37 harg37 arg38
        harg38 arg39 harg39 arg40 harg40 arg41 harg41 arg42 harg42 x0 x1 x2 x3 x4 x5 x6 x7 x8 x9 x10 x11 x12 x13 x14
        x15 x16 x17 x18 x19 x20 x21 x22 x23 x24 x25 x26 x27 x28 x29 x30 x31 x32 xt0
        hc0 hc1 E K

end Cert.KernelIdeal.Attn

end
-- ==== Proof.Attn.IdealFrame.lean ====
/-
The launch of the differential attention kernel over the extended reals, for any contents of the page table that keep its
windows inside the cache: every execution ends, the argument arrays are unchanged, every semaphore is back at zero,
and the prompt's output array holds what the body leaves block by block.
-/
module

public import proofs.«01_k».proof.Proof.Attn.IdealRun
public import Idealize.ShloMosaic.Lib.Claim
public import Idealize.ShloMosaic.Lib.Pipeline.Value

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output windows whose contents are not stated: 34, 35. -/
def unstated : Fin 36 → Bool := fun w => w.val == 34 || w.val == 35

/-- The block of the prompt's output the body leaves at point `t`: `promptOut` of the five blocks it reads. -/
def leftAt (hO : Ok m) (c : Dev nD) (t : Fin (cfgM m hO).N) : Vec F S1x512x128 .bf16 :=
  promptOut (grid0.coords t) (iblk m hO c 0 t) (iblk m hO c 1 t) (iblk m hO c 2 t) (iblk m hO c 3 t) (iblk m hO c 4 t)

/-- The launch's data: an input's staging buffer holds its block; between points the scratch buffers and the generator
register are at anything and the page table is as it was. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => leftAt m hO c t
    | ⟨34, h⟩ => Pipeline.Dat.unnamed (cfg := (cfgM m hO)) ⟨34, h⟩ t
    | ⟨35, h⟩ => Pipeline.Dat.unnamed (cfg := (cfgM m hO)) ⟨35, h⟩ t
    | ⟨_ + 36, h⟩ => absurd h (Nat.not_lt.2 (Nat.le_add_left _ _))
  Φ _ := iprop(Pipeline.ΦA spec0 c ∗ Pipeline.ΦT pre0 (tbl m) c)
  q w := Pipeline.shareOf spec0 w
  owed _ := 0

/-- The arrays are what the launch finds. -/
theorem A_eq (hO : Ok m) (c : Dev nD) (w : Fin (cfgM m hO).W) : (dats m hO 0 c).A w = V m c (Pipeline.arrRef spec0 w) := by
  dsimp only [dats]

section blocks

variable (hO : Ok m) (c : Dev nD) (t : Fin (cfgM m hO).N)

/-! Each input's staging buffer holds its block after the body, before it, and is handed back so. -/

theorem after_0 : (dats m hO 0 c).after 0 t = iblk m hO c 0 t := by dsimp only [dats]; try rfl
theorem before_0 (d) : (dats m hO 0 c).before 0 t d = iblk m hO c 0 t :=
  before0_0_of m hO (dats m hO 0 c) (A_eq m hO c 0) (after_0 m hO c) t d
theorem leaves_0 : (dats m hO 0 c).leavesExact 0 t = owns (c : Thread nD τ) (ms0_0 m hO t) fullShare (iblk m hO c 0 t) := by
  rw [show (dats m hO 0 c).leavesExact 0 t = owns (c : Thread nD τ) (ms0_0 m hO t) fullShare ((dats m hO 0 c).after 0 t) from by
    unfold Dat.leavesExact; rw [liveAt0_0 m hO t]; try rfl, after_0]
theorem after_1 : (dats m hO 0 c).after 1 t = iblk m hO c 1 t := by dsimp only [dats]; try rfl
theorem before_1 (d) : (dats m hO 0 c).before 1 t d = iblk m hO c 1 t :=
  before0_1_of m hO (dats m hO 0 c) (A_eq m hO c 1) (after_1 m hO c) t d
theorem leaves_1 : (dats m hO 0 c).leavesExact 1 t = owns (c : Thread nD τ) (ms0_1 m hO t) fullShare (iblk m hO c 1 t) := by
  rw [show (dats m hO 0 c).leavesExact 1 t = owns (c : Thread nD τ) (ms0_1 m hO t) fullShare ((dats m hO 0 c).after 1 t) from by
    unfold Dat.leavesExact; rw [liveAt0_1 m hO t]; try rfl, after_1]
theorem after_2 : (dats m hO 0 c).after 2 t = iblk m hO c 2 t := by dsimp only [dats]; try rfl
theorem before_2 (d) : (dats m hO 0 c).before 2 t d = iblk m hO c 2 t :=
  before0_2_of m hO (dats m hO 0 c) (A_eq m hO c 2) (after_2 m hO c) t d
theorem leaves_2 : (dats m hO 0 c).leavesExact 2 t = owns (c : Thread nD τ) (ms0_2 m hO t) fullShare (iblk m hO c 2 t) := by
  rw [show (dats m hO 0 c).leavesExact 2 t = owns (c : Thread nD τ) (ms0_2 m hO t) fullShare ((dats m hO 0 c).after 2 t) from by
    unfold Dat.leavesExact; rw [liveAt0_2 m hO t]; try rfl, after_2]
theorem after_3 : (dats m hO 0 c).after 3 t = iblk m hO c 3 t := by dsimp only [dats]; try rfl
theorem before_3 (d) : (dats m hO 0 c).before 3 t d = iblk m hO c 3 t :=
  before0_3_of m hO (dats m hO 0 c) (A_eq m hO c 3) (after_3 m hO c) t d
theorem leaves_3 : (dats m hO 0 c).leavesExact 3 t = owns (c : Thread nD τ) (ms0_3 m hO t) fullShare (iblk m hO c 3 t) := by
  rw [show (dats m hO 0 c).leavesExact 3 t = owns (c : Thread nD τ) (ms0_3 m hO t) fullShare ((dats m hO 0 c).after 3 t) from by
    unfold Dat.leavesExact; rw [liveAt0_3 m hO t]; try rfl, after_3]
theorem after_4 : (dats m hO 0 c).after 4 t = iblk m hO c 4 t := by dsimp only [dats]; try rfl
theorem before_4 (d) : (dats m hO 0 c).before 4 t d = iblk m hO c 4 t :=
  before0_4_of m hO (dats m hO 0 c) (A_eq m hO c 4) (after_4 m hO c) t d
theorem leaves_4 : (dats m hO 0 c).leavesExact 4 t = owns (c : Thread nD τ) (ms0_4 m hO t) fullShare (iblk m hO c 4 t) := by
  rw [show (dats m hO 0 c).leavesExact 4 t = owns (c : Thread nD τ) (ms0_4 m hO t) fullShare ((dats m hO 0 c).after 4 t) from by
    unfold Dat.leavesExact; rw [liveAt0_4 m hO t]; try rfl, after_4]
theorem after_5 : (dats m hO 0 c).after 5 t = iblk m hO c 5 t := by dsimp only [dats]; try rfl
theorem before_5 (d) : (dats m hO 0 c).before 5 t d = iblk m hO c 5 t :=
  before0_5_of m hO (dats m hO 0 c) (A_eq m hO c 5) (after_5 m hO c) t d
theorem leaves_5 : (dats m hO 0 c).leavesExact 5 t = owns (c : Thread nD τ) (ms0_5 m hO t) fullShare (iblk m hO c 5 t) := by
  rw [show (dats m hO 0 c).leavesExact 5 t = owns (c : Thread nD τ) (ms0_5 m hO t) fullShare ((dats m hO 0 c).after 5 t) from by
    unfold Dat.leavesExact; rw [liveAt0_5 m hO t]; try rfl, after_5]
theorem after_6 : (dats m hO 0 c).after 6 t = iblk m hO c 6 t := by dsimp only [dats]; try rfl
theorem before_6 (d) : (dats m hO 0 c).before 6 t d = iblk m hO c 6 t :=
  before0_6_of m hO (dats m hO 0 c) (A_eq m hO c 6) (after_6 m hO c) t d
theorem leaves_6 : (dats m hO 0 c).leavesExact 6 t = owns (c : Thread nD τ) (ms0_6 m hO t) fullShare (iblk m hO c 6 t) := by
  rw [show (dats m hO 0 c).leavesExact 6 t = owns (c : Thread nD τ) (ms0_6 m hO t) fullShare ((dats m hO 0 c).after 6 t) from by
    unfold Dat.leavesExact; rw [liveAt0_6 m hO t]; try rfl, after_6]
theorem after_7 : (dats m hO 0 c).after 7 t = iblk m hO c 7 t := by dsimp only [dats]; try rfl
theorem before_7 (d) : (dats m hO 0 c).before 7 t d = iblk m hO c 7 t :=
  before0_7_of m hO (dats m hO 0 c) (A_eq m hO c 7) (after_7 m hO c) t d
theorem leaves_7 : (dats m hO 0 c).leavesExact 7 t = owns (c : Thread nD τ) (ms0_7 m hO t) fullShare (iblk m hO c 7 t) := by
  rw [show (dats m hO 0 c).leavesExact 7 t = owns (c : Thread nD τ) (ms0_7 m hO t) fullShare ((dats m hO 0 c).after 7 t) from by
    unfold Dat.leavesExact; rw [liveAt0_7 m hO t]; try rfl, after_7]
theorem after_8 : (dats m hO 0 c).after 8 t = iblk m hO c 8 t := by dsimp only [dats]; try rfl
theorem before_8 (d) : (dats m hO 0 c).before 8 t d = iblk m hO c 8 t :=
  before0_8_of m hO (dats m hO 0 c) (A_eq m hO c 8) (after_8 m hO c) t d
theorem leaves_8 : (dats m hO 0 c).leavesExact 8 t = owns (c : Thread nD τ) (ms0_8 m hO t) fullShare (iblk m hO c 8 t) := by
  rw [show (dats m hO 0 c).leavesExact 8 t = owns (c : Thread nD τ) (ms0_8 m hO t) fullShare ((dats m hO 0 c).after 8 t) from by
    unfold Dat.leavesExact; rw [liveAt0_8 m hO t]; try rfl, after_8]
theorem after_9 : (dats m hO 0 c).after 9 t = iblk m hO c 9 t := by dsimp only [dats]; try rfl
theorem before_9 (d) : (dats m hO 0 c).before 9 t d = iblk m hO c 9 t :=
  before0_9_of m hO (dats m hO 0 c) (A_eq m hO c 9) (after_9 m hO c) t d
theorem leaves_9 : (dats m hO 0 c).leavesExact 9 t = owns (c : Thread nD τ) (ms0_9 m hO t) fullShare (iblk m hO c 9 t) := by
  rw [show (dats m hO 0 c).leavesExact 9 t = owns (c : Thread nD τ) (ms0_9 m hO t) fullShare ((dats m hO 0 c).after 9 t) from by
    unfold Dat.leavesExact; rw [liveAt0_9 m hO t]; try rfl, after_9]
theorem after_10 : (dats m hO 0 c).after 10 t = iblk m hO c 10 t := by dsimp only [dats]; try rfl
theorem before_10 (d) : (dats m hO 0 c).before 10 t d = iblk m hO c 10 t :=
  before0_10_of m hO (dats m hO 0 c) (A_eq m hO c 10) (after_10 m hO c) t d
theorem leaves_10 : (dats m hO 0 c).leavesExact 10 t = owns (c : Thread nD τ) (ms0_10 m hO t) fullShare (iblk m hO c 10 t) := by
  rw [show (dats m hO 0 c).leavesExact 10 t = owns (c : Thread nD τ) (ms0_10 m hO t) fullShare ((dats m hO 0 c).after 10 t) from by
    unfold Dat.leavesExact; rw [liveAt0_10 m hO t]; try rfl, after_10]
theorem after_11 : (dats m hO 0 c).after 11 t = iblk m hO c 11 t := by dsimp only [dats]; try rfl
theorem before_11 (d) : (dats m hO 0 c).before 11 t d = iblk m hO c 11 t :=
  before0_11_of m hO (dats m hO 0 c) (A_eq m hO c 11) (after_11 m hO c) t d
theorem leaves_11 : (dats m hO 0 c).leavesExact 11 t = owns (c : Thread nD τ) (ms0_11 m hO t) fullShare (iblk m hO c 11 t) := by
  rw [show (dats m hO 0 c).leavesExact 11 t = owns (c : Thread nD τ) (ms0_11 m hO t) fullShare ((dats m hO 0 c).after 11 t) from by
    unfold Dat.leavesExact; rw [liveAt0_11 m hO t]; try rfl, after_11]
theorem after_12 : (dats m hO 0 c).after 12 t = iblk m hO c 12 t := by dsimp only [dats]; try rfl
theorem before_12 (d) : (dats m hO 0 c).before 12 t d = iblk m hO c 12 t :=
  before0_12_of m hO (dats m hO 0 c) (A_eq m hO c 12) (after_12 m hO c) t d
theorem leaves_12 : (dats m hO 0 c).leavesExact 12 t = owns (c : Thread nD τ) (ms0_12 m hO t) fullShare (iblk m hO c 12 t) := by
  rw [show (dats m hO 0 c).leavesExact 12 t = owns (c : Thread nD τ) (ms0_12 m hO t) fullShare ((dats m hO 0 c).after 12 t) from by
    unfold Dat.leavesExact; rw [liveAt0_12 m hO t]; try rfl, after_12]
theorem after_13 : (dats m hO 0 c).after 13 t = iblk m hO c 13 t := by dsimp only [dats]; try rfl
theorem before_13 (d) : (dats m hO 0 c).before 13 t d = iblk m hO c 13 t :=
  before0_13_of m hO (dats m hO 0 c) (A_eq m hO c 13) (after_13 m hO c) t d
theorem leaves_13 : (dats m hO 0 c).leavesExact 13 t = owns (c : Thread nD τ) (ms0_13 m hO t) fullShare (iblk m hO c 13 t) := by
  rw [show (dats m hO 0 c).leavesExact 13 t = owns (c : Thread nD τ) (ms0_13 m hO t) fullShare ((dats m hO 0 c).after 13 t) from by
    unfold Dat.leavesExact; rw [liveAt0_13 m hO t]; try rfl, after_13]
theorem after_14 : (dats m hO 0 c).after 14 t = iblk m hO c 14 t := by dsimp only [dats]; try rfl
theorem before_14 (d) : (dats m hO 0 c).before 14 t d = iblk m hO c 14 t :=
  before0_14_of m hO (dats m hO 0 c) (A_eq m hO c 14) (after_14 m hO c) t d
theorem leaves_14 : (dats m hO 0 c).leavesExact 14 t = owns (c : Thread nD τ) (ms0_14 m hO t) fullShare (iblk m hO c 14 t) := by
  rw [show (dats m hO 0 c).leavesExact 14 t = owns (c : Thread nD τ) (ms0_14 m hO t) fullShare ((dats m hO 0 c).after 14 t) from by
    unfold Dat.leavesExact; rw [liveAt0_14 m hO t]; try rfl, after_14]
theorem after_15 : (dats m hO 0 c).after 15 t = iblk m hO c 15 t := by dsimp only [dats]; try rfl
theorem before_15 (d) : (dats m hO 0 c).before 15 t d = iblk m hO c 15 t :=
  before0_15_of m hO (dats m hO 0 c) (A_eq m hO c 15) (after_15 m hO c) t d
theorem leaves_15 : (dats m hO 0 c).leavesExact 15 t = owns (c : Thread nD τ) (ms0_15 m hO t) fullShare (iblk m hO c 15 t) := by
  rw [show (dats m hO 0 c).leavesExact 15 t = owns (c : Thread nD τ) (ms0_15 m hO t) fullShare ((dats m hO 0 c).after 15 t) from by
    unfold Dat.leavesExact; rw [liveAt0_15 m hO t]; try rfl, after_15]
theorem after_16 : (dats m hO 0 c).after 16 t = iblk m hO c 16 t := by dsimp only [dats]; try rfl
theorem before_16 (d) : (dats m hO 0 c).before 16 t d = iblk m hO c 16 t :=
  before0_16_of m hO (dats m hO 0 c) (A_eq m hO c 16) (after_16 m hO c) t d
theorem leaves_16 : (dats m hO 0 c).leavesExact 16 t = owns (c : Thread nD τ) (ms0_16 m hO t) fullShare (iblk m hO c 16 t) := by
  rw [show (dats m hO 0 c).leavesExact 16 t = owns (c : Thread nD τ) (ms0_16 m hO t) fullShare ((dats m hO 0 c).after 16 t) from by
    unfold Dat.leavesExact; rw [liveAt0_16 m hO t]; try rfl, after_16]
theorem after_17 : (dats m hO 0 c).after 17 t = iblk m hO c 17 t := by dsimp only [dats]; try rfl
theorem before_17 (d) : (dats m hO 0 c).before 17 t d = iblk m hO c 17 t :=
  before0_17_of m hO (dats m hO 0 c) (A_eq m hO c 17) (after_17 m hO c) t d
theorem leaves_17 : (dats m hO 0 c).leavesExact 17 t = owns (c : Thread nD τ) (ms0_17 m hO t) fullShare (iblk m hO c 17 t) := by
  rw [show (dats m hO 0 c).leavesExact 17 t = owns (c : Thread nD τ) (ms0_17 m hO t) fullShare ((dats m hO 0 c).after 17 t) from by
    unfold Dat.leavesExact; rw [liveAt0_17 m hO t]; try rfl, after_17]
theorem after_18 : (dats m hO 0 c).after 18 t = iblk m hO c 18 t := by dsimp only [dats]; try rfl
theorem before_18 (d) : (dats m hO 0 c).before 18 t d = iblk m hO c 18 t :=
  before0_18_of m hO (dats m hO 0 c) (A_eq m hO c 18) (after_18 m hO c) t d
theorem leaves_18 : (dats m hO 0 c).leavesExact 18 t = owns (c : Thread nD τ) (ms0_18 m hO t) fullShare (iblk m hO c 18 t) := by
  rw [show (dats m hO 0 c).leavesExact 18 t = owns (c : Thread nD τ) (ms0_18 m hO t) fullShare ((dats m hO 0 c).after 18 t) from by
    unfold Dat.leavesExact; rw [liveAt0_18 m hO t]; try rfl, after_18]
theorem after_19 : (dats m hO 0 c).after 19 t = iblk m hO c 19 t := by dsimp only [dats]; try rfl
theorem before_19 (d) : (dats m hO 0 c).before 19 t d = iblk m hO c 19 t :=
  before0_19_of m hO (dats m hO 0 c) (A_eq m hO c 19) (after_19 m hO c) t d
theorem leaves_19 : (dats m hO 0 c).leavesExact 19 t = owns (c : Thread nD τ) (ms0_19 m hO t) fullShare (iblk m hO c 19 t) := by
  rw [show (dats m hO 0 c).leavesExact 19 t = owns (c : Thread nD τ) (ms0_19 m hO t) fullShare ((dats m hO 0 c).after 19 t) from by
    unfold Dat.leavesExact; rw [liveAt0_19 m hO t]; try rfl, after_19]
theorem after_20 : (dats m hO 0 c).after 20 t = iblk m hO c 20 t := by dsimp only [dats]; try rfl
theorem before_20 (d) : (dats m hO 0 c).before 20 t d = iblk m hO c 20 t :=
  before0_20_of m hO (dats m hO 0 c) (A_eq m hO c 20) (after_20 m hO c) t d
theorem leaves_20 : (dats m hO 0 c).leavesExact 20 t = owns (c : Thread nD τ) (ms0_20 m hO t) fullShare (iblk m hO c 20 t) := by
  rw [show (dats m hO 0 c).leavesExact 20 t = owns (c : Thread nD τ) (ms0_20 m hO t) fullShare ((dats m hO 0 c).after 20 t) from by
    unfold Dat.leavesExact; rw [liveAt0_20 m hO t]; try rfl, after_20]
theorem after_21 : (dats m hO 0 c).after 21 t = iblk m hO c 21 t := by dsimp only [dats]; try rfl
theorem before_21 (d) : (dats m hO 0 c).before 21 t d = iblk m hO c 21 t :=
  before0_21_of m hO (dats m hO 0 c) (A_eq m hO c 21) (after_21 m hO c) t d
theorem leaves_21 : (dats m hO 0 c).leavesExact 21 t = owns (c : Thread nD τ) (ms0_21 m hO t) fullShare (iblk m hO c 21 t) := by
  rw [show (dats m hO 0 c).leavesExact 21 t = owns (c : Thread nD τ) (ms0_21 m hO t) fullShare ((dats m hO 0 c).after 21 t) from by
    unfold Dat.leavesExact; rw [liveAt0_21 m hO t]; try rfl, after_21]
theorem after_22 : (dats m hO 0 c).after 22 t = iblk m hO c 22 t := by dsimp only [dats]; try rfl
theorem before_22 (d) : (dats m hO 0 c).before 22 t d = iblk m hO c 22 t :=
  before0_22_of m hO (dats m hO 0 c) (A_eq m hO c 22) (after_22 m hO c) t d
theorem leaves_22 : (dats m hO 0 c).leavesExact 22 t = owns (c : Thread nD τ) (ms0_22 m hO t) fullShare (iblk m hO c 22 t) := by
  rw [show (dats m hO 0 c).leavesExact 22 t = owns (c : Thread nD τ) (ms0_22 m hO t) fullShare ((dats m hO 0 c).after 22 t) from by
    unfold Dat.leavesExact; rw [liveAt0_22 m hO t]; try rfl, after_22]
theorem after_23 : (dats m hO 0 c).after 23 t = iblk m hO c 23 t := by dsimp only [dats]; try rfl
theorem before_23 (d) : (dats m hO 0 c).before 23 t d = iblk m hO c 23 t :=
  before0_23_of m hO (dats m hO 0 c) (A_eq m hO c 23) (after_23 m hO c) t d
theorem leaves_23 : (dats m hO 0 c).leavesExact 23 t = owns (c : Thread nD τ) (ms0_23 m hO t) fullShare (iblk m hO c 23 t) := by
  rw [show (dats m hO 0 c).leavesExact 23 t = owns (c : Thread nD τ) (ms0_23 m hO t) fullShare ((dats m hO 0 c).after 23 t) from by
    unfold Dat.leavesExact; rw [liveAt0_23 m hO t]; try rfl, after_23]
theorem after_24 : (dats m hO 0 c).after 24 t = iblk m hO c 24 t := by dsimp only [dats]; try rfl
theorem before_24 (d) : (dats m hO 0 c).before 24 t d = iblk m hO c 24 t :=
  before0_24_of m hO (dats m hO 0 c) (A_eq m hO c 24) (after_24 m hO c) t d
theorem leaves_24 : (dats m hO 0 c).leavesExact 24 t = owns (c : Thread nD τ) (ms0_24 m hO t) fullShare (iblk m hO c 24 t) := by
  rw [show (dats m hO 0 c).leavesExact 24 t = owns (c : Thread nD τ) (ms0_24 m hO t) fullShare ((dats m hO 0 c).after 24 t) from by
    unfold Dat.leavesExact; rw [liveAt0_24 m hO t]; try rfl, after_24]
theorem after_25 : (dats m hO 0 c).after 25 t = iblk m hO c 25 t := by dsimp only [dats]; try rfl
theorem before_25 (d) : (dats m hO 0 c).before 25 t d = iblk m hO c 25 t :=
  before0_25_of m hO (dats m hO 0 c) (A_eq m hO c 25) (after_25 m hO c) t d
theorem leaves_25 : (dats m hO 0 c).leavesExact 25 t = owns (c : Thread nD τ) (ms0_25 m hO t) fullShare (iblk m hO c 25 t) := by
  rw [show (dats m hO 0 c).leavesExact 25 t = owns (c : Thread nD τ) (ms0_25 m hO t) fullShare ((dats m hO 0 c).after 25 t) from by
    unfold Dat.leavesExact; rw [liveAt0_25 m hO t]; try rfl, after_25]
theorem after_26 : (dats m hO 0 c).after 26 t = iblk m hO c 26 t := by dsimp only [dats]; try rfl
theorem before_26 (d) : (dats m hO 0 c).before 26 t d = iblk m hO c 26 t :=
  before0_26_of m hO (dats m hO 0 c) (A_eq m hO c 26) (after_26 m hO c) t d
theorem leaves_26 : (dats m hO 0 c).leavesExact 26 t = owns (c : Thread nD τ) (ms0_26 m hO t) fullShare (iblk m hO c 26 t) := by
  rw [show (dats m hO 0 c).leavesExact 26 t = owns (c : Thread nD τ) (ms0_26 m hO t) fullShare ((dats m hO 0 c).after 26 t) from by
    unfold Dat.leavesExact; rw [liveAt0_26 m hO t]; try rfl, after_26]
theorem after_27 : (dats m hO 0 c).after 27 t = iblk m hO c 27 t := by dsimp only [dats]; try rfl
theorem before_27 (d) : (dats m hO 0 c).before 27 t d = iblk m hO c 27 t :=
  before0_27_of m hO (dats m hO 0 c) (A_eq m hO c 27) (after_27 m hO c) t d
theorem leaves_27 : (dats m hO 0 c).leavesExact 27 t = owns (c : Thread nD τ) (ms0_27 m hO t) fullShare (iblk m hO c 27 t) := by
  rw [show (dats m hO 0 c).leavesExact 27 t = owns (c : Thread nD τ) (ms0_27 m hO t) fullShare ((dats m hO 0 c).after 27 t) from by
    unfold Dat.leavesExact; rw [liveAt0_27 m hO t]; try rfl, after_27]
theorem after_28 : (dats m hO 0 c).after 28 t = iblk m hO c 28 t := by dsimp only [dats]; try rfl
theorem before_28 (d) : (dats m hO 0 c).before 28 t d = iblk m hO c 28 t :=
  before0_28_of m hO (dats m hO 0 c) (A_eq m hO c 28) (after_28 m hO c) t d
theorem leaves_28 : (dats m hO 0 c).leavesExact 28 t = owns (c : Thread nD τ) (ms0_28 m hO t) fullShare (iblk m hO c 28 t) := by
  rw [show (dats m hO 0 c).leavesExact 28 t = owns (c : Thread nD τ) (ms0_28 m hO t) fullShare ((dats m hO 0 c).after 28 t) from by
    unfold Dat.leavesExact; rw [liveAt0_28 m hO t]; try rfl, after_28]
theorem after_29 : (dats m hO 0 c).after 29 t = iblk m hO c 29 t := by dsimp only [dats]; try rfl
theorem before_29 (d) : (dats m hO 0 c).before 29 t d = iblk m hO c 29 t :=
  before0_29_of m hO (dats m hO 0 c) (A_eq m hO c 29) (after_29 m hO c) t d
theorem leaves_29 : (dats m hO 0 c).leavesExact 29 t = owns (c : Thread nD τ) (ms0_29 m hO t) fullShare (iblk m hO c 29 t) := by
  rw [show (dats m hO 0 c).leavesExact 29 t = owns (c : Thread nD τ) (ms0_29 m hO t) fullShare ((dats m hO 0 c).after 29 t) from by
    unfold Dat.leavesExact; rw [liveAt0_29 m hO t]; try rfl, after_29]
theorem after_30 : (dats m hO 0 c).after 30 t = iblk m hO c 30 t := by dsimp only [dats]; try rfl
theorem before_30 (d) : (dats m hO 0 c).before 30 t d = iblk m hO c 30 t :=
  before0_30_of m hO (dats m hO 0 c) (A_eq m hO c 30) (after_30 m hO c) t d
theorem leaves_30 : (dats m hO 0 c).leavesExact 30 t = owns (c : Thread nD τ) (ms0_30 m hO t) fullShare (iblk m hO c 30 t) := by
  rw [show (dats m hO 0 c).leavesExact 30 t = owns (c : Thread nD τ) (ms0_30 m hO t) fullShare ((dats m hO 0 c).after 30 t) from by
    unfold Dat.leavesExact; rw [liveAt0_30 m hO t]; try rfl, after_30]
theorem after_31 : (dats m hO 0 c).after 31 t = iblk m hO c 31 t := by dsimp only [dats]; try rfl
theorem before_31 (d) : (dats m hO 0 c).before 31 t d = iblk m hO c 31 t :=
  before0_31_of m hO (dats m hO 0 c) (A_eq m hO c 31) (after_31 m hO c) t d
theorem leaves_31 : (dats m hO 0 c).leavesExact 31 t = owns (c : Thread nD τ) (ms0_31 m hO t) fullShare (iblk m hO c 31 t) := by
  rw [show (dats m hO 0 c).leavesExact 31 t = owns (c : Thread nD τ) (ms0_31 m hO t) fullShare ((dats m hO 0 c).after 31 t) from by
    unfold Dat.leavesExact; rw [liveAt0_31 m hO t]; try rfl, after_31]
theorem after_32 : (dats m hO 0 c).after 32 t = iblk m hO c 32 t := by dsimp only [dats]; try rfl
theorem before_32 (d) : (dats m hO 0 c).before 32 t d = iblk m hO c 32 t :=
  before0_32_of m hO (dats m hO 0 c) (A_eq m hO c 32) (after_32 m hO c) t d
theorem leaves_32 : (dats m hO 0 c).leavesExact 32 t = owns (c : Thread nD τ) (ms0_32 m hO t) fullShare (iblk m hO c 32 t) := by
  rw [show (dats m hO 0 c).leavesExact 32 t = owns (c : Thread nD τ) (ms0_32 m hO t) fullShare ((dats m hO 0 c).after 32 t) from by
    unfold Dat.leavesExact; rw [liveAt0_32 m hO t]; try rfl, after_32]
theorem after_33 : (dats m hO 0 c).after 33 t = leftAt m hO c t := by dsimp only [dats]; try rfl
theorem leaves_33 : (dats m hO 0 c).leavesExact 33 t = owns (c : Thread nD τ) (ms0_33 m hO t) fullShare (leftAt m hO c t) := by
  rw [show (dats m hO 0 c).leavesExact 33 t = owns (c : Thread nD τ) (ms0_33 m hO t) fullShare ((dats m hO 0 c).after 33 t) from by
    unfold Dat.leavesExact; rw [liveAt0_33 m hO t]; try rfl, after_33]

/-- What the body starts from at a point. -/
def bodyPre : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare d)
    ∗ (∃ d, owns (c : Thread nD τ) (ms0_35 m hO t) fullShare d))

/-- What it ends with. -/
def bodyPost : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO
    0 c).leavesExact 3 t ∗ (dats m hO 0 c).leavesExact 4 t ∗ (dats m hO 0 c).leavesExact 5 t ∗ (dats m hO 0
    c).leavesExact 6 t ∗ (dats m hO 0 c).leavesExact 7 t ∗ (dats m hO 0 c).leavesExact 8 t ∗ (dats m hO 0
    c).leavesExact 9 t ∗ (dats m hO 0 c).leavesExact 10 t ∗ (dats m hO 0 c).leavesExact 11 t ∗ (dats m hO 0
    c).leavesExact 12 t ∗ (dats m hO 0 c).leavesExact 13 t ∗ (dats m hO 0 c).leavesExact 14 t ∗ (dats m hO 0
    c).leavesExact 15 t ∗ (dats m hO 0 c).leavesExact 16 t ∗ (dats m hO 0 c).leavesExact 17 t ∗ (dats m hO 0
    c).leavesExact 18 t ∗ (dats m hO 0 c).leavesExact 19 t ∗ (dats m hO 0 c).leavesExact 20 t ∗ (dats m hO 0
    c).leavesExact 21 t ∗ (dats m hO 0 c).leavesExact 22 t ∗ (dats m hO 0 c).leavesExact 23 t ∗ (dats m hO 0
    c).leavesExact 24 t ∗ (dats m hO 0 c).leavesExact 25 t ∗ (dats m hO 0 c).leavesExact 26 t ∗ (dats m hO 0
    c).leavesExact 27 t ∗ (dats m hO 0 c).leavesExact 28 t ∗ (dats m hO 0 c).leavesExact 29 t ∗ (dats m hO 0
    c).leavesExact 30 t ∗ (dats m hO 0 c).leavesExact 31 t ∗ (dats m hO 0 c).leavesExact 32 t ∗ (dats m hO 0
    c).leavesExact 33 t
    ∗ (∃ d, owns (c : Thread nD τ) (ms0_34 m hO t) fullShare d)
    ∗ (∃ d, owns (c : Thread nD τ) (ms0_35 m hO t) fullShare d))

end blocks

set_option maxHeartbeats 40000000 in
/-- The body at any point: every input's buffer holds its block, so the run applies. -/
theorem body_runs (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hcase : ¬(cond0_0 (grid0.coords t) ∧ cond0_1 (grid0.coords t)) := fun h => by
    have h0 := (hcond0_0 t).mp h.1
    have h1 := (hcond0_1 t).mp h.2
    omega
  unfold bodyPre bodyPost bodyAt0
  simp only [before_0, before_1, before_2, before_3, before_4, before_5, before_6, before_7, before_8, before_9,
  before_10, before_11, before_12, before_13, before_14, before_15, before_16, before_17, before_18, before_19,
  before_20, before_21, before_22, before_23, before_24, before_25, before_26, before_27, before_28, before_29,
  before_30, before_31, before_32]
  rw [leaves_0, leaves_1, leaves_2, leaves_3, leaves_4, leaves_5, leaves_6, leaves_7, leaves_8, leaves_9, leaves_10,
  leaves_11, leaves_12, leaves_13, leaves_14, leaves_15, leaves_16, leaves_17, leaves_18, leaves_19, leaves_20,
  leaves_21, leaves_22, leaves_23, leaves_24, leaves_25, leaves_26, leaves_27, leaves_28, leaves_29, leaves_30,
  leaves_31, leaves_32, leaves_33]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6,
  H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩,
  ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩,
  ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩,
  ⟨%d34, H34⟩, ⟨%d35, H35⟩⟩
  iapply (run c (grid0.coords t) _ _ _ _ _ _ _ _ _ _ _ _ _ _ _ _ _ _ _ _ _ _ _ _ _ _ _ _ _ _ _ _ _ _ _ _ _ _ _ _ _ _ _
  _ _ _ _ _ _ _ _ _ _ _ _ _ _ _ _ _ _ _ _ _ _ _ _ _ _ _ _ _ _ _ _ _ _ _ (iblk m hO c 0 t) (iblk m hO c 1 t) (iblk m hO
  c 2 t) (iblk m hO c 3 t) (iblk m hO c 4 t) (iblk m hO c 5 t) (iblk m hO c 6 t) (iblk m hO c 7 t) (iblk m hO c 8 t)
  (iblk m hO c 9 t) (iblk m hO c 10 t) (iblk m hO c 11 t) (iblk m hO c 12 t) (iblk m hO c 13 t) (iblk m hO c 14 t)
  (iblk m hO c 15 t) (iblk m hO c 16 t) (iblk m hO c 17 t) (iblk m hO c 18 t) (iblk m hO c 19 t) (iblk m hO c 20 t)
  (iblk m hO c 21 t) (iblk m hO c 22 t) (iblk m hO c 23 t) (iblk m hO c 24 t) (iblk m hO c 25 t) (iblk m hO c 26 t)
  (iblk m hO c 27 t) (iblk m hO c 28 t) (iblk m hO c 29 t) (iblk m hO c 30 t) (iblk m hO c 31 t) (iblk m hO c 32 t)
  (tbl m 0) hcase Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [H34]; · iexists _; iexact H34
  isplitl [H35]; · iexists _; iexact H35
  isplitl [HS0]; · iexact HS0
  isplitl [HS1]; · iexact HS1
  isplitl [HS2]; · iexact HS2
  isplitl [HT0]; · iexact HT0
  iintro ⟨H0, H1, H2, H3, H4, H5, H6, H7, H8, H9, H10, H11, H12, H13, H14, H15, H16, H17, H18, H19, H20, H21, H22,
  H23, H24, H25, H26, H27, H28, H29, H30, H31, H32, H33, H34, H35, HS0, HS1, HS2, HT0⟩
  isplitl [HS0 HS1 HS2 Hg HT0]
  · isplitl [HS0 HS1 HS2 Hg]
    · isplitl [HS0 HS1 HS2]
      · isplitl [HS0]; · iexact HS0
        isplitl [HS1]; · iexact HS1
        iexact HS2
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact H35

/-- The body the launch calls at point `t` is the body at its staging buffers. -/
theorem body_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 20000000 in
/-- The body meets the launch's obligation at every point. -/
theorem obligation (hO : Ok m) (c : Dev nD) :
    BodyObligation (dats (F := F) m hO 0 c) (defs₀ (F := F)) Variants.none () Set.univ unstated := fun t => by
  rw [bigSep_W0, bigSep_W0, body_row m hO]
  exact triple_restated (body_runs m hO c t) rfl .rfl fun _ => .rfl

/-- After the last point the scratch buffers and the register are at anything. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

set_option backward.isDefEq.respectTransparency.types false in
/-- The launch: every execution ends with the arrays as the data says and every counter at zero. -/
theorem launched (hO : Ok m) : θ_run defs (onTc (τ := τ) (main (F := F))) (s₀ m ρ) (fun r =>
    (Pipeline.RDat.FramePost ((Pipeline.pin pcfgs fun _ => adm m hO) 0) (fun c => (dats m hO 0 c).toRForget unstated) (V m)) r
      ∧ r.2.sem = fun _ => 0) :=
  Pipeline.θ_run_frameP_track_forget_shared (Q' := _) pcfgs (fun _ => adm m hO) (dats m hO) (0 : Fin 1) launch₀0 defs₀ Variants.none unstated m ρ main
    (hbody := fun c => (obligation m hO c).loose) (hq := fun _ _ _ => rfl) (howed := fun _ _ => rfl) (V := V m)
    (hmain := hmain m Variants.none) (hA := A_eq m hO) (hpf := V_pre m) (hin := fun _ => .rfl) (hout := hout m hO)

set_option maxHeartbeats 4000000 in
/-- The arguments at the end of a run, read off the launch's post. -/
theorem args_of_post (hO : Ok m) {r : PUnit × MemSt nD τ sig (Elt F)}
    (h : Pipeline.RDat.FramePost ((Pipeline.pin pcfgs fun _ => adm m hO) 0) (fun c => (dats m hO 0 c).toRForget unstated) (V m) r)
    (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    (Pipeline.RDat.FramePost.arr_in h c 3 rfl).trans ((A_eq m hO c 3).trans (V_main_arg3 m c)),
    (Pipeline.RDat.FramePost.arr_in h c 4 rfl).trans ((A_eq m hO c 4).trans (V_main_arg4 m c)),
    ((h c).2 main_arg5 (by decide : main_arg5 ∈ Pipeline.restRefs sig spec0)).trans (V_main_arg5 m c),
    (Pipeline.RDat.FramePost.arr_in h c 5 rfl).trans ((A_eq m hO c 5).trans (V_main_arg6 m c)),
    (Pipeline.RDat.FramePost.arr_in h c 6 rfl).trans ((A_eq m hO c 6).trans (V_main_arg7 m c)),
    (Pipeline.RDat.FramePost.arr_in h c 7 rfl).trans ((A_eq m hO c 7).trans (V_main_arg8 m c)),
    (Pipeline.RDat.FramePost.arr_in h c 8 rfl).trans ((A_eq m hO c 8).trans (V_main_arg9 m c)),
    (Pipeline.RDat.FramePost.arr_in h c 9 rfl).trans ((A_eq m hO c 9).trans (V_main_arg10 m c)),
    (Pipeline.RDat.FramePost.arr_in h c 10 rfl).trans ((A_eq m hO c 10).trans (V_main_arg11 m c)),
    (Pipeline.RDat.FramePost.arr_in h c 21 rfl).trans ((A_eq m hO c 21).trans (V_main_arg12 m c)),
    (Pipeline.RDat.FramePost.arr_in h c 32 rfl).trans ((A_eq m hO c 32).trans (V_main_arg13 m c))⟩

set_option maxHeartbeats 4000000 in
/-- The frame: the program ends with its arguments unchanged and every counter at zero. -/
theorem framed (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨args_of_post m hO h.1, h.2⟩) (launched m ρ hO)

end Cert.KernelIdeal.Attn

end
-- ==== Proof.Attn.Array.lean ====
/-
What the attention call leaves in its result array: every point writes its own block, the blocks cover the array, and
each is the reference's.
-/
module

public import proofs.«01_k».proof.Proof.Attn.Windows
public import proofs.«01_k».proof.Proof.Attn.IdealFrame

@[expose] public section

set_option maxRecDepth 16384

noncomputable section

namespace Cert.Attn

open Idealize.ShloMosaic Idealize.ShloMosaic.TcCoe Idealize.SL.Sem Cert.KernelIdeal Cert.KernelIdeal.Gen
open Cert.KernelIdeal.Attn (dats leftAt after_33)
open Idealize.ShloMosaic.Pipeline (Dat)

variable (m : (ℓ : Loc nD τ sig) → Buf (Elt Ideal) ℓ) (hO : Ok m) (c : Dev nD)

/-- What a point writes back is the result read through its block. -/
theorem flushed_eq (hR : Real4 m c) (t : Fin (cfgM m hO).N) (_ : ((cfgM m hO).win 33).flush t = true) :
    (dats m hO 0 c).flushed 33 t = (((cfgM m hO).win 33).blk t).view.read (Elt Ideal) (result m c) := by
  show ((cfgM m hO).win 33).cut (grid0.coords t) ((dats m hO 0 c).after 33 t) = _
  rw [after_33]
  refine funext fun (j : S1x512x128.Idx) => ?_
  obtain ⟨a, r, l, rfl⟩ : ∃ (a : Fin 1) (r : Fin 512) (l : Fin 128), j = ix3 a r l := ⟨_, _, _, eq_ix3 j⟩
  obtain rfl : a = 0 := Subsingleton.elim _ _
  refine Eq.trans ?_ (View.read_apply ..).symm
  have h0 := lt0 (grid0.coords t)
  have h1 := lt1 (grid0.coords t)
  have h2 := lt2 (grid0.coords t)
  have e : ((((cfgM m hO).win 33).blk t).view.emb (ix3 0 r l : S1x512x128.Idx) : S4x4096x768.Idx)
      = ix3 (⟨(grid0.coords t 0).val, h0⟩ : Fin 4) (⟨512 * (grid0.coords t 2).val + r.val, by omega⟩ : Fin 4096)
        (⟨(grid0.coords t 1).val * 128 + l.val, by omega⟩ : Fin 768) := by
    funext a
    apply Fin.ext
    match a with
    | ⟨0, _⟩ => show (BitVec.ofNat 32 (grid0.coords t 0).val).toNat * 1 + 1 * 0 = (grid0.coords t 0).val; rw [c0]; omega
    | ⟨1, _⟩ => show (BitVec.ofNat 32 (grid0.coords t 2).val).toNat * 512 + 1 * r.val = 512 * (grid0.coords t 2).val + r.val; rw [c2]; omega
    | ⟨2, _⟩ => show (BitVec.ofNat 32 (grid0.coords t 1).val).toNat * 128 + 1 * l.val = (grid0.coords t 1).val * 128 + l.val; rw [c1]; omega
  have e' : (result m c : S4x4096x768.Idx → EReal) ((((cfgM m hO).win 33).blk t).view.emb (ix3 0 r l : S1x512x128.Idx) : S4x4096x768.Idx)
      = (result m c : S4x4096x768.Idx → EReal) _ := congrArg (result m c : S4x4096x768.Idx → EReal) e
  exact (left_eq m hO c t hR r l _ _ _ rfl rfl rfl).trans e'.symm

/-- So the result array holds the reference's numbers. -/
theorem final (hR : Real4 m c) : (dats m hO 0 c).arrAt 33 (cfgM m hO).N = result m c :=
  (dats m hO 0 c).arrAt_eq_of_cover 33 (result m c) (flushed_eq m hO c hR) fun (i : S4x4096x768.Idx) => by
    have h0 : (i 0).val < 4 := (i 0).isLt
    have h1 : (i 1).val < 4096 := (i 1).isLt
    have h2 : (i 2).val < 768 := (i 2).isLt
    have hN : grid0.N = 192 := by decide
    let t : Fin grid0.N := ⟨((i 0).val * 6 + (i 2).val / 128) * 8 + (i 1).val / 512, by omega⟩
    obtain ⟨h3, h4, h5⟩ := coords_eq t
    have ht : t.val = ((i 0).val * 6 + (i 2).val / 128) * 8 + (i 1).val / 512 := rfl
    refine ⟨t, flush0_33 (adm m hO) t, ?_⟩
    refine (Finset.ext_iff.mp (View.set_slice_whole main_v8_0 (((cfgM m hO).win 33).rect t)) i).mpr ?_
    refine Rect.mem_set_unit.mpr fun (a : Fin 3) => ?_
    match a with
    | ⟨0, _⟩ =>
      show (BitVec.ofNat 32 (grid0.coords t 0).val).toNat * 1 ≤ (i 0).val
        ∧ (i 0).val < (BitVec.ofNat 32 (grid0.coords t 0).val).toNat * 1 + 1
      rw [c0]; omega
    | ⟨1, _⟩ =>
      show (BitVec.ofNat 32 (grid0.coords t 2).val).toNat * 512 ≤ (i 1).val
        ∧ (i 1).val < (BitVec.ofNat 32 (grid0.coords t 2).val).toNat * 512 + 512
      rw [c2]; omega
    | ⟨2, _⟩ =>
      show (BitVec.ofNat 32 (grid0.coords t 1).val).toNat * 128 ≤ (i 2).val
        ∧ (i 2).val < (BitVec.ofNat 32 (grid0.coords t 1).val).toNat * 128 + 128
      rw [c1]; omega

end Cert.Attn

end
-- ==== Proof.Attn.Pre.lean ====
/-
What the attention's preconditions say: every word of the page table names a page of the pool, so every block index the
kernel reads from it stays inside the pool; and the queries, keys, values and the difference's weights are real numbers.
-/
module

public import proofs.«01_k».proof.Pre_in_pool
public import proofs.«01_k».proof.Pre_finite_in_pool
public import proofs.«01_k».proof.Proof.Gen.Kernel.Frame.Runs
public import proofs.«01_k».proof.Proof.Gen.KernelIdeal.Frame.Runs
public import Idealize.ShloMosaic.Lib.ReduceAll

@[expose] public section

set_option maxRecDepth 16384

noncomputable section

namespace Cert.Attn

open Idealize.ShloMosaic Idealize.ShloMosaic.TcCoe

theorem both : ∀ p q : BitVec 1, IntOp.andi p q = 1#1 → p = 1#1 ∧ q = 1#1 := by decide

instance : Subsingleton Cert.Pre_in_pool.S_.Idx := ⟨fun a b => funext fun i => i.elim0⟩
instance : Subsingleton Cert.Pre_finite_in_pool.S_.Idx := ⟨fun a b => funext fun i => i.elim0⟩

/-- A word between 0 and 2559 as a signed word is so as an unsigned one. -/
theorem word (v : BitVec 32) (e : IntOp.andi (IntOp.cmpi .sge v 0#32) (IntOp.cmpi .slt v 2560#32) = 1#1) : v.toNat < 2560 := by
  have ofBool_eq_one (p : Bool) : (BitVec.ofBool p = 1#1) ↔ p = true := by cases p <;> decide
  obtain ⟨e0, e1⟩ := both _ _ e
  simp only [IntOp.cmpi, ofBool_eq_one, BitVec.sle_eq_decide, BitVec.slt_eq_decide, decide_eq_true_eq,
    BitVec.toInt_eq_toNat_cond, BitVec.toNat_ofNat, Nat.reducePow, Nat.reduceMod] at e0 e1
  omega

section
variable {F : FTy → Type} [FloatOps F]

open Cert.Pre_in_pool in
/-- The page table's words, from `in_pool`. -/
theorem words [Cert.Pre_in_pool.Facts] (x0 : FVec F S4x4096x768 .f32) (x1 x2 : FVec F S4x6x4096x128 .f32) (x3 : FVec F S8x128 .f32)
    (x4 : FVec F S1x128 .f32) (x5 : IVec S32x64 32) (x6 x7 x8 : FVec F S32x1x768 .f32) (x9 : FVec F S32x1x256 .f32)
    (x10 x11 : FVec F S2x32x256x256 .f32) (x12 x13 : FVec F S2560x6x128x128 .f32)
    (h : Cert.Pre_in_pool.fn (F := F) x0 x1 x2 x3 x4 x5 x6 x7 x8 x9 x10 x11 x12 x13 = fun _ => 1#1) (y : S32x64.Idx) :
    (x5 y).toNat < 2560 :=
  word _ (Host.reduce_andi_all _ _ _ _ (fun a => a.elim0) (congrFun h fun a => a.elim0) y)
end

/-- A number whose magnitude is below infinity is real. -/
theorem real (v : EReal) (e : Ideal.cmp .olt (max v (-v)) (Ideal.ofBits .f32 0x7F800000#32) = 1#1) : ∃ r : ℝ, v = r := by
  have hi : Ideal.ofBits .f32 0x7F800000#32 = ⊤ := by simp [Ideal.ofBits, Ideal.ieee]
  have ofBool_eq_one (p : Bool) : (BitVec.ofBool p = 1#1) ↔ p = true := by cases p <;> decide
  rw [hi] at e
  simp only [Ideal.cmp, ofBool_eq_one, decide_eq_true_eq] at e
  induction v with
  | bot => simp at e
  | top => simp at e
  | coe r => exact ⟨r, rfl⟩

open Cert.Pre_finite_in_pool in
/-- The page table's words and the arguments' numbers, from `finite_in_pool`. -/
theorem reals [Cert.Pre_finite_in_pool.Facts] (x0 : FVec Ideal S4x4096x768 .f32) (x1 x2 : FVec Ideal S4x6x4096x128 .f32)
    (x3 : FVec Ideal S8x128 .f32) (x4 : FVec Ideal S1x128 .f32) (x5 : IVec S32x64 32) (x6 x7 x8 : FVec Ideal S32x1x768 .f32)
    (x9 : FVec Ideal S32x1x256 .f32) (x10 x11 : FVec Ideal S2x32x256x256 .f32) (x12 x13 : FVec Ideal S2560x6x128x128 .f32)
    (h : Cert.Pre_finite_in_pool.fn (F := Ideal) x0 x1 x2 x3 x4 x5 x6 x7 x8 x9 x10 x11 x12 x13 = fun _ => 1#1) :
    (∀ y : S32x64.Idx, (x5 y).toNat < 2560) ∧ (∀ y : S4x4096x768.Idx, ∃ r : ℝ, (x0 y : EReal) = r)
      ∧ (∀ y : S4x6x4096x128.Idx, ∃ r : ℝ, (x1 y : EReal) = r) ∧ (∀ y : S4x6x4096x128.Idx, ∃ r : ℝ, (x2 y : EReal) = r)
      ∧ ∀ y : S8x128.Idx, ∃ r : ℝ, (x3 y : EReal) = r := by
  obtain ⟨h, e3⟩ := both _ _ (congrFun h fun a => a.elim0)
  obtain ⟨h, e2⟩ := both _ _ h
  obtain ⟨h, e1⟩ := both _ _ h
  obtain ⟨e5, e0⟩ := both _ _ h
  exact ⟨fun y => word _ (Host.reduce_andi_all _ _ _ _ (fun a => a.elim0) e5 y),
    fun y => real _ (Host.reduce_andi_all _ _ _ _ (fun a => a.elim0) e0 y),
    fun y => real _ (Host.reduce_andi_all _ _ _ _ (fun a => a.elim0) e1 y),
    fun y => real _ (Host.reduce_andi_all _ _ _ _ (fun a => a.elim0) e2 y),
    fun y => real _ (Host.reduce_andi_all _ _ _ _ (fun a => a.elim0) e3 y)⟩

section

open Cert.Kernel Cert.Kernel.Gen
variable {F : FTy → Type} [FloatOps F]

theorem inside_Kernel (w : BitVec 32) (h : w.toNat < 2560) :
    ∀ a : Fin 4, ((![w.toNat, (0#32).toNat, (0#32).toNat, (0#32).toNat] : Fin 4 → ℕ) a + 1) * S1x6x128x128.size a ≤ S2560x6x128x128.size a := by
  intro a
  match a with
  | ⟨0, _⟩ => show (w.toNat + 1) * 1 ≤ 2560; omega
  | ⟨1, _⟩ => show (0 + 1) * 6 ≤ 6; omega
  | ⟨2, _⟩ => show (0 + 1) * 128 ≤ 128; omega
  | ⟨3, _⟩ => show (0 + 1) * 128 ≤ 128; omega

/-- When every word of the page table names a page of the pool, so does every block index read from it. -/
theorem ok_Kernel (m : (ℓ : Loc nD τ sig) → Buf (Elt F) ℓ)
    (h : ∀ y : S32x64.Idx, ((m (((0 : Dev nD) : Thread nD τ).loc main_arg5) : S32x64.Idx → BitVec 32) y).toNat < 2560) : Ok m := by
  have hw : ∀ (r : Rect (pre0.ref 0).ty.shape) (hr : r.shape.numel = 1), ((tbl m).at 0 r hr : BitVec 32).toNat < 2560 := by
    intro r hr
    show ((V m 0 main_arg5 : S32x64.Idx → BitVec 32) _).toNat < 2560
    rw [V_main_arg5]
    exact h _
  unfold Ok ok0
  exact ⟨fun i => ⟨by unfold cc0_transform_11; exact inside_Kernel _ (hw _ _), .inl rfl⟩,
    fun i => ⟨by unfold cc0_transform_12; exact inside_Kernel _ (hw _ _), .inl rfl⟩,
    fun i => ⟨by unfold cc0_transform_13; exact inside_Kernel _ (hw _ _), .inl rfl⟩,
    fun i => ⟨by unfold cc0_transform_14; exact inside_Kernel _ (hw _ _), .inl rfl⟩,
    fun i => ⟨by unfold cc0_transform_15; exact inside_Kernel _ (hw _ _), .inl rfl⟩,
    fun i => ⟨by unfold cc0_transform_16; exact inside_Kernel _ (hw _ _), .inl rfl⟩,
    fun i => ⟨by unfold cc0_transform_17; exact inside_Kernel _ (hw _ _), .inl rfl⟩,
    fun i => ⟨by unfold cc0_transform_18; exact inside_Kernel _ (hw _ _), .inl rfl⟩,
    fun i => ⟨by unfold cc0_transform_19; exact inside_Kernel _ (hw _ _), .inl rfl⟩,
    fun i => ⟨by unfold cc0_transform_20; exact inside_Kernel _ (hw _ _), .inl rfl⟩,
    fun i => ⟨by unfold cc0_transform_21; exact inside_Kernel _ (hw _ _), .inl rfl⟩,
    fun i => ⟨by unfold cc0_transform_22; exact inside_Kernel _ (hw _ _), .inl rfl⟩,
    fun i => ⟨by unfold cc0_transform_23; exact inside_Kernel _ (hw _ _), .inl rfl⟩,
    fun i => ⟨by unfold cc0_transform_24; exact inside_Kernel _ (hw _ _), .inl rfl⟩,
    fun i => ⟨by unfold cc0_transform_25; exact inside_Kernel _ (hw _ _), .inl rfl⟩,
    fun i => ⟨by unfold cc0_transform_26; exact inside_Kernel _ (hw _ _), .inl rfl⟩,
    fun i => ⟨by unfold cc0_transform_27; exact inside_Kernel _ (hw _ _), .inl rfl⟩,
    fun i => ⟨by unfold cc0_transform_28; exact inside_Kernel _ (hw _ _), .inl rfl⟩,
    fun i => ⟨by unfold cc0_transform_29; exact inside_Kernel _ (hw _ _), .inl rfl⟩,
    fun i => ⟨by unfold cc0_transform_30; exact inside_Kernel _ (hw _ _), .inl rfl⟩,
    fun i => ⟨by unfold cc0_transform_31; exact inside_Kernel _ (hw _ _), .inl rfl⟩,
    fun i => ⟨by unfold cc0_transform_32; exact inside_Kernel _ (hw _ _), .inl rfl⟩⟩

end

section

open Cert.KernelIdeal Cert.KernelIdeal.Gen
variable {F : FTy → Type} [FloatOps F] [Named F]

theorem inside_KernelIdeal (w : BitVec 32) (h : w.toNat < 2560) :
    ∀ a : Fin 4, ((![w.toNat, (0#32).toNat, (0#32).toNat, (0#32).toNat] : Fin 4 → ℕ) a + 1) * S1x6x128x128.size a ≤ S2560x6x128x128.size a := by
  intro a
  match a with
  | ⟨0, _⟩ => show (w.toNat + 1) * 1 ≤ 2560; omega
  | ⟨1, _⟩ => show (0 + 1) * 6 ≤ 6; omega
  | ⟨2, _⟩ => show (0 + 1) * 128 ≤ 128; omega
  | ⟨3, _⟩ => show (0 + 1) * 128 ≤ 128; omega

/-- When every word of the page table names a page of the pool, so does every block index read from it. -/
theorem ok_KernelIdeal (m : (ℓ : Loc nD τ sig) → Buf (Elt F) ℓ)
    (h : ∀ y : S32x64.Idx, ((m (((0 : Dev nD) : Thread nD τ).loc main_arg5) : S32x64.Idx → BitVec 32) y).toNat < 2560) : Ok m := by
  have hw : ∀ (r : Rect (pre0.ref 0).ty.shape) (hr : r.shape.numel = 1), ((tbl m).at 0 r hr : BitVec 32).toNat < 2560 := by
    intro r hr
    show ((V m 0 main_arg5 : S32x64.Idx → BitVec 32) _).toNat < 2560
    rw [V_main_arg5]
    exact h _
  unfold Ok ok0
  exact ⟨fun i => ⟨by unfold cc0_transform_11; exact inside_KernelIdeal _ (hw _ _), .inl rfl⟩,
    fun i => ⟨by unfold cc0_transform_12; exact inside_KernelIdeal _ (hw _ _), .inl rfl⟩,
    fun i => ⟨by unfold cc0_transform_13; exact inside_KernelIdeal _ (hw _ _), .inl rfl⟩,
    fun i => ⟨by unfold cc0_transform_14; exact inside_KernelIdeal _ (hw _ _), .inl rfl⟩,
    fun i => ⟨by unfold cc0_transform_15; exact inside_KernelIdeal _ (hw _ _), .inl rfl⟩,
    fun i => ⟨by unfold cc0_transform_16; exact inside_KernelIdeal _ (hw _ _), .inl rfl⟩,
    fun i => ⟨by unfold cc0_transform_17; exact inside_KernelIdeal _ (hw _ _), .inl rfl⟩,
    fun i => ⟨by unfold cc0_transform_18; exact inside_KernelIdeal _ (hw _ _), .inl rfl⟩,
    fun i => ⟨by unfold cc0_transform_19; exact inside_KernelIdeal _ (hw _ _), .inl rfl⟩,
    fun i => ⟨by unfold cc0_transform_20; exact inside_KernelIdeal _ (hw _ _), .inl rfl⟩,
    fun i => ⟨by unfold cc0_transform_21; exact inside_KernelIdeal _ (hw _ _), .inl rfl⟩,
    fun i => ⟨by unfold cc0_transform_22; exact inside_KernelIdeal _ (hw _ _), .inl rfl⟩,
    fun i => ⟨by unfold cc0_transform_23; exact inside_KernelIdeal _ (hw _ _), .inl rfl⟩,
    fun i => ⟨by unfold cc0_transform_24; exact inside_KernelIdeal _ (hw _ _), .inl rfl⟩,
    fun i => ⟨by unfold cc0_transform_25; exact inside_KernelIdeal _ (hw _ _), .inl rfl⟩,
    fun i => ⟨by unfold cc0_transform_26; exact inside_KernelIdeal _ (hw _ _), .inl rfl⟩,
    fun i => ⟨by unfold cc0_transform_27; exact inside_KernelIdeal _ (hw _ _), .inl rfl⟩,
    fun i => ⟨by unfold cc0_transform_28; exact inside_KernelIdeal _ (hw _ _), .inl rfl⟩,
    fun i => ⟨by unfold cc0_transform_29; exact inside_KernelIdeal _ (hw _ _), .inl rfl⟩,
    fun i => ⟨by unfold cc0_transform_30; exact inside_KernelIdeal _ (hw _ _), .inl rfl⟩,
    fun i => ⟨by unfold cc0_transform_31; exact inside_KernelIdeal _ (hw _ _), .inl rfl⟩,
    fun i => ⟨by unfold cc0_transform_32; exact inside_KernelIdeal _ (hw _ _), .inl rfl⟩⟩

end

end Cert.Attn

end
-- ==== Proof.Attn.Claims.lean ====
/-
The attention kernel and its reference: each ends with its arguments unchanged, the only constant replaced is the mask's,
and over the extended reals both end with the same array.
-/
module

public import proofs.«01_k».proof.Proof.Attn.Array
public import proofs.«01_k».proof.Proof.Attn.Pre
public import proofs.«01_k».proof.Proof.Attn.KernelFrame
public import proofs.«01_k».proof.Proof.Attn.Reference
public import proofs.«01_k».proof.Defs
public import Idealize.ShloMosaic.Lib.Quiescent

@[expose] public section

set_option maxRecDepth 16384

noncomputable section

namespace Cert.Attn

open Idealize.ShloMosaic Idealize.ShloMosaic.TcCoe

/-- The kernel ends with its arguments unchanged, when its page table names pages of the pool. -/
theorem kernel_framed [Cert.Pre_in_pool.Facts] : Cert.quiescent_Kernel := fun m ρ h =>
  Cert.Kernel.Attn.framed m ρ (ok_Kernel m (words _ _ _ _ _ _ _ _ _ _ _ _ _ _ (h 0)))

/-- So does its ideal form. -/
theorem ideal_framed [Cert.Pre_in_pool.Facts] : Cert.quiescent_KernelIdeal := fun m ρ h =>
  Cert.KernelIdeal.Attn.framed m ρ (ok_KernelIdeal m (words _ _ _ _ _ _ _ _ _ _ _ _ _ _ (h 0)))

/-- So does its ideal form on finite queries, keys, values and weights. -/
theorem ideal_framed_finite [Cert.Pre_finite_in_pool.Facts] : Cert.quiescent_KernelIdeal_pre_finite_in_pool := fun m ρ h =>
  Cert.KernelIdeal.Attn.framed m ρ (ok_KernelIdeal m (reals _ _ _ _ _ _ _ _ _ _ _ _ _ _ (h 0)).1)

/-- The reference ends with its arguments unchanged. -/
theorem reference_framed : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same on finite arguments. -/
theorem reference_framed_finite [Cert.Pre_finite_in_pool.Facts] : Cert.quiescent_ReferenceIdeal_pre_finite_in_pool :=
  fun m ρ _ => reference_framed m ρ trivial

/-- The mask's large negative number stands for `−∞`. -/
theorem preserved : Cert.preserves_Kernel_KernelIdeal :=
  IdealRules.named_const.statement Cert.KernelIdeal.κ "mask" .f32 0xF149F2CA#32 ⊥ rfl

/-- The reference's array, at the kernel's arguments, is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Read.val_main_v82 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = result m c := by
  rw [h0, h1, h2, h3, h4]
  rfl

/-- Kernel and reference end with the same array. -/
theorem equal [Cert.Pre_finite_in_pool.Facts] : Cert.algebraic_KernelIdeal_ReferenceIdeal_pre_finite_in_pool := by
  intro m ρ m' ρ' hpre hagree
  have hO : Cert.KernelIdeal.Gen.Ok m := ok_KernelIdeal m (reals _ _ _ _ _ _ _ _ _ _ _ _ _ _ (hpre 0)).1
  have hR : ∀ c, Real4 m c := fun c => (reals _ _ _ _ _ _ _ _ _ _ _ _ _ _ (hpre c)).2
  refine ⟨fun c => result m c, ?_, ?_⟩
  · exact (θ_run Cert.KernelIdeal.defs _ _).mono
      (fun _ h c => ⟨(((Cert.KernelIdeal.Attn.dats m hO 0 c).toRForget_arrAt_iff rfl _ _).mp ((h.1 c).1 33)).trans (final m hO c (hR c)),
        Cert.KernelIdeal.Attn.args_of_post m hO h.1 c⟩)
      (Cert.KernelIdeal.Attn.launched m ρ hO)
  · exact (θ_run Cert.ReferenceIdeal.defs _ _).mono
      (fun _ h c => ⟨(h c).1.trans ((Cert.ReferenceIdeal.Read.val_main_v82_eq _ _).trans
          (same m m' c (hagree c).1 (hagree c).2.1 (hagree c).2.2.1 (hagree c).2.2.2.1 (hagree c).2.2.2.2.1)), (h c).2⟩)
      (Cert.ReferenceIdeal.Value.run (F := Ideal) m' ρ')

end Cert.Attn

end
-- ==== Proof.Rows.lean ====
/-
Rows of extended reals: the normalisation every call of the layer starts from, and sums taken in two parts.
-/
module

public import Idealize.ShloMosaic.Lib.Pointwise

@[expose] public section

noncomputable section

namespace Cert.Rows

open Idealize.ShloMosaic

/-- A row of 1024 values divided by the root of its mean square (with the small constant added), times a gain. -/
def rms (x g : Fin 1024 → EReal) (l : Fin 1024) : EReal :=
  x l * Ideal.rsqrt (Ideal.div (∑ k : Fin 1024, x k * x k) (Ideal.ofBits .f32 0x44800000#32)
    + Ideal.ofBits .f32 0x358637BD#32) * g l

/-- A sum over `n = a + b` values is the sum over the first `a` and that over the last `b`. -/
theorem sum_split {n : Nat} (a b : Nat) (h : n = a + b) (f : Fin n → EReal) :
    ∑ i, f i = (∑ i : Fin a, f ⟨i.val, by omega⟩) + ∑ i : Fin b, f ⟨a + i.val, by omega⟩ := by
  subst h
  exact Fin.sum_univ_add f

end Cert.Rows

end
-- ==== Proof.Ffn.Block.lean ====
/-
What one grid point of the feed-forward call computes, over the extended reals: each row of its block of the residual
stream is normalised, put through the gated layer a half of the inner width at a time, normalised again and added back.
-/
module

public import proofs.«01_k».proof.Proof.Gen.Kernel2Ideal.Frame
public import proofs.«01_k».proof.Proof.Rows

@[expose] public section

set_option maxRecDepth 16384

noncomputable section

namespace Cert.Ffn

open Idealize.ShloMosaic Cert.Rows Cert.Kernel2Ideal Cert.Kernel2Ideal.Gen

/-- The normalised row the gated layer reads. -/
theorem pay3_apply (v0 : Vec Ideal S1x512x1024 .f32) (v2 : Vec Ideal S1x1024 .f32) (r : Fin 512) (l : Fin 1024) :
    k0_pay3 (F := Ideal) v0 v2 (ix2 r l) = rms (fun k => v0 (ix3 0 r k)) (fun k => v2 (ix2 0 k)) l := by
  pointwise [k0_pay3, k0_pay2]
  rfl

/-- One inner value of the gated layer: the gate's product through its sigmoid, times the other product. -/
def act (x : Fin 1024 → EReal) (wg wu : Fin 1024 → EReal) : EReal :=
  (∑ k, x k * wg k) * Ideal.logistic (∑ k, x k * wg k) * ∑ k, x k * wu k

/-- The gate's product over the second half of the inner width. -/
theorem pay5_apply (v0 : Vec Ideal S1x512x1024 .f32) (v2 : Vec Ideal S1x1024 .f32) (v : Vec Ideal S1024x1408 .bf16)
    (r : Fin 512) (n : Fin 1408) : k0_pay5 (F := Ideal) v0 v2 v (ix2 r n)
      = ∑ k : Fin 1024, rms (fun k => v0 (ix3 0 r k)) (fun k => v2 (ix2 0 k)) k * v (ix2 k n) := by
  pointwise [k0_pay5]
  simp only [pay3_apply]

/-- The first half of the inner width, put through the way down. -/
theorem pay4_apply (v0 : Vec Ideal S1x512x1024 .f32) (v2 : Vec Ideal S1x1024 .f32)
    (vg vu : Vec Ideal S1024x1408 .bf16) (vd : Vec Ideal S1408x1024 .bf16)
    (r : Fin 512) (l : Fin 1024) : k0_pay4 (F := Ideal) v0 v2 vg vu vd (ix2 r l)
      = ∑ n : Fin 1408, act (rms (fun k => v0 (ix3 0 r k)) (fun k => v2 (ix2 0 k)))
          (fun k => vg (ix2 k n)) (fun k => vu (ix2 k n)) * vd (ix2 n l) := by
  pointwise [k0_pay4]
  simp only [pay3_apply]
  rfl

/-- What the point stores: the row plus the normalised sum of both halves. -/
theorem pay1_apply (v0 : Vec Ideal S1x512x1024 .f32) (v2 : Vec Ideal S1x1024 .f32)
    (vg vu vg' vu' : Vec Ideal S1024x1408 .bf16) (vd vd' : Vec Ideal S1408x1024 .bf16) (vp : Vec Ideal S1x1024 .f32)
    (r : Fin 512) (l : Fin 1024) :
    k0_pay1 (F := Ideal) (k0_pay2 v0) (k0_pay3 v0 v2) (k0_pay4 v0 v2 vg vu vd) (k0_pay5 v0 v2 vg') vu' vd' vp (ix3 0 r l)
      = v0 (ix3 0 r l) + rms (fun l => k0_pay4 (F := Ideal) v0 v2 vg vu vd (ix2 r l)
          + ∑ n : Fin 1408, act (rms (fun k => v0 (ix3 0 r k)) (fun k => v2 (ix2 0 k)))
          (fun k => vg' (ix2 k n)) (fun k => vu' (ix2 k n)) * vd' (ix2 n l)) (fun k => vp (ix2 0 k)) l := by
  pointwise [k0_pay1, k0_pay2]
  simp only [pay3_apply, pay5_apply]
  rfl

/-- A row of the feed-forward layer: the row plus its normalised gated image. `wg`, `wu` are the gate's and the other
    product's columns over the inner width, `wd` the way down. -/
def ffn (x gpre gpost : Fin 1024 → EReal) (wg wu : Fin 2816 → Fin 1024 → EReal) (wd : Fin 2816 → Fin 1024 → EReal)
    (l : Fin 1024) : EReal :=
  x l + rms (fun j => ∑ n : Fin 2816, act (rms x gpre) (wg n) (wu n) * wd n j) gpost l

/-- A sum over the inner width is the sum over its first half and that over its second. -/
theorem sum_halves (f : Fin 2816 → EReal) :
    ∑ n, f n = (∑ n : Fin 1408, f ⟨n.val, by omega⟩) + ∑ n : Fin 1408, f ⟨1408 + n.val, by omega⟩ :=
  sum_split 1408 1408 rfl f

/-- What a point leaves in its block, at row `r`: the layer's row of the block's row. -/
theorem out_apply (x0 : Vec Ideal S1x512x1024 .f32) (x1 x2 : Vec Ideal S1x1024 .f32)
    (x3 : Vec Ideal S1024x5632 .bf16) (x4 : Vec Ideal S2816x1024 .bf16) (r : Fin 512) (l : Fin 1024) :
    out0_5 (F := Ideal) x0 x1 x2 x3 x4 (ix3 0 r l)
      = ffn (fun k => x0 (ix3 0 r k)) (fun k => x1 (ix2 0 k)) (fun k => x2 (ix2 0 k))
          (fun n k => x3 (ix2 k ⟨n.val, by omega⟩)) (fun n k => x3 (ix2 k ⟨2816 + n.val, by omega⟩))
          (fun n j => x4 (ix2 n j)) l := by
  have hz : (![0, 0, 0] : Fin 3 → Nat) = fun _ => 0 := funext fun a => by fin_cases a <;> rfl
  unfold out0_5
  rw [View.canon_unit_zero hz, pay1_apply]
  simp only [pay4_apply]
  unfold ffn
  simp only [sum_halves]
  pointwise
  simp only [show ∀ x : Nat, 2816 + (1408 + x) = 4224 + x from fun x => by omega]

end Cert.Ffn

end
-- ==== Proof.Ffn.Array.lean ====
/-
What the feed-forward call leaves in its result array, over the extended reals: every row is the layer's row of the
argument's row. A point's input blocks are rows of the arguments; its output block covers its own rows.
-/
module

public import proofs.«01_k».proof.Proof.Gen.Kernel2Ideal.Value
public import proofs.«01_k».proof.Proof.Ffn.Block
public import Idealize.ShloMosaic.Lib.StableHlo.Run

@[expose] public section

set_option maxRecDepth 16384

noncomputable section

namespace Cert.Ffn

open Idealize.ShloMosaic Cert.Rows Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- The first gain, laid out as one row before the call. -/
theorem V_gpre (c : Dev nD) : (V m c main_v0 : Vec Ideal S1x1024 .f32)
    = shapeCast S1x1024 (m ((c : Thread nD τ).loc main_arg1)) shapeCasts_S1024_S1x1024 := by
  show StableHlo.after hostOps0 (fun b => m (c, b)) (Proc.devRef .tc main_v0) = _
  after_results_simp
  rfl

/-- The second gain. -/
theorem V_gpost (c : Dev nD) : (V m c main_v1 : Vec Ideal S1x1024 .f32)
    = shapeCast S1x1024 (m ((c : Thread nD τ).loc main_arg2)) shapeCasts_S1024_S1x1024 := by
  show StableHlo.after hostOps0 (fun b => m (c, b)) (Proc.devRef .tc main_v1) = _
  after_results_simp
  rfl

/-- The gated layer's matrix, narrowed before the call. -/
theorem V_wgu (c : Dev nD) : (V m c main_v2 : Vec Ideal S1024x5632 .bf16)
    = fun i => m ((c : Thread nD τ).loc main_arg3) i := by
  show StableHlo.after hostOps0 (fun b => m (c, b)) (Proc.devRef .tc main_v2) = _
  after_results_simp
  rfl

/-- The way down, narrowed before the call. -/
theorem V_wdown (c : Dev nD) : (V m c main_v3 : Vec Ideal S2816x1024 .bf16)
    = fun i => m ((c : Thread nD τ).loc main_arg4) i := by
  show StableHlo.after hostOps0 (fun b => m (c, b)) (Proc.devRef .tc main_v3) = _
  after_results_simp
  rfl

/-- Where each window's block lies at a point: the residual stream and the result by batch and row tile, the others whole. -/
theorem index_facts : ∀ t : Fin grid0.N,
    (win0_0.index t 0 = win0_5.index t 0 ∧ win0_0.index t 1 = win0_5.index t 1 ∧ win0_0.index t 2 = 0)
      ∧ (win0_1.index t 0 = 0 ∧ win0_1.index t 1 = 0) ∧ (win0_2.index t 0 = 0 ∧ win0_2.index t 1 = 0)
      ∧ (win0_3.index t 0 = 0 ∧ win0_3.index t 1 = 0) ∧ (win0_4.index t 0 = 0 ∧ win0_4.index t 1 = 0)
      ∧ (win0_5.index t 0 = t.val / 8 ∧ win0_5.index t 1 = t.val % 8 ∧ win0_5.index t 2 = 0) := by
  decide +kernel

/-- The result array: the layer, row by row. -/
def result (c : Dev nD) : Buf (Elt Ideal) ((c : Thread nD τ).loc main_v4) := fun i =>
  ffn (fun k => m ((c : Thread nD τ).loc main_arg0) (ix3 (i 0) (i 1) k))
    (fun k => m ((c : Thread nD τ).loc main_arg1) (ix1 k)) (fun k => m ((c : Thread nD τ).loc main_arg2) (ix1 k))
    (fun n k => m ((c : Thread nD τ).loc main_arg3) (ix2 k ⟨n.val, by omega⟩))
    (fun n k => m ((c : Thread nD τ).loc main_arg3) (ix2 k ⟨2816 + n.val, by omega⟩))
    (fun n j => m ((c : Thread nD τ).loc main_arg4) (ix2 n j)) (i 2)

/-- Row `r` of the residual stream's block at point `t` is row `512 (t mod 8) + r` of batch `t / 8`. -/
theorem block_h (c : Dev nD) (t : Fin cfg0.N) (r : Fin 512) (k : Fin 1024) (b : Fin 4) (r' : Fin 4096)
    (hb : b.val = t.val / 8) (hr : r'.val = t.val % 8 * 512 + r.val) :
    (iblk m c 0 t : Vec Ideal S1x512x1024 .f32) (ix3 0 r k)
      = m ((c : Thread nD τ).loc main_arg0) (ix3 b r' k) := by
  obtain ⟨⟨h0, h1, h2⟩, -, -, -, -, ⟨h3, h4, -⟩⟩ := index_facts t
  unfold iblk
  rw [View.read_apply]
  show V m c main_arg0 _ = _
  rw [V_main_arg0]
  congr 1
  funext a
  apply Fin.ext
  match a with
  | ⟨0, _⟩ => show win0_0.index t 0 * 1 + 1 * 0 = b.val; omega
  | ⟨1, _⟩ => show win0_0.index t 1 * 512 + 1 * r.val = r'.val; omega
  | ⟨2, _⟩ => show win0_0.index t 2 * 1024 + 1 * k.val = k.val; omega

theorem block_gpre (c : Dev nD) (t : Fin cfg0.N) (k : Fin 1024) :
    (iblk m c 1 t : Vec Ideal S1x1024 .f32) (ix2 0 k) = m ((c : Thread nD τ).loc main_arg1) (ix1 k) := by
  obtain ⟨-, ⟨h0, h1⟩, -⟩ := index_facts t
  unfold iblk
  rw [View.read_apply]
  show V m c main_v0 _ = _
  rw [V_gpre, show ∀ j : S1x1024.Idx, j = ix2 (0 : Fin 1) k → shapeCast S1x1024 (m ((c : Thread nD τ).loc main_arg1) : Vec Ideal S1024 .f32) shapeCasts_S1024_S1x1024 j = m ((c : Thread nD τ).loc main_arg1) (ix1 k) from by
    intro j hj; subst hj; pointwise]
  funext a
  apply Fin.ext
  match a with
  | ⟨0, _⟩ => show win0_1.index t 0 * 1 + 1 * 0 = 0; omega
  | ⟨1, _⟩ => show win0_1.index t 1 * 1024 + 1 * k.val = k.val; omega

theorem block_gpost (c : Dev nD) (t : Fin cfg0.N) (k : Fin 1024) :
    (iblk m c 2 t : Vec Ideal S1x1024 .f32) (ix2 0 k) = m ((c : Thread nD τ).loc main_arg2) (ix1 k) := by
  obtain ⟨-, -, ⟨h0, h1⟩, -⟩ := index_facts t
  unfold iblk
  rw [View.read_apply]
  show V m c main_v1 _ = _
  rw [V_gpost, show ∀ j : S1x1024.Idx, j = ix2 (0 : Fin 1) k → shapeCast S1x1024 (m ((c : Thread nD τ).loc main_arg2) : Vec Ideal S1024 .f32) shapeCasts_S1024_S1x1024 j = m ((c : Thread nD τ).loc main_arg2) (ix1 k) from by
    intro j hj; subst hj; pointwise]
  funext a
  apply Fin.ext
  match a with
  | ⟨0, _⟩ => show win0_2.index t 0 * 1 + 1 * 0 = 0; omega
  | ⟨1, _⟩ => show win0_2.index t 1 * 1024 + 1 * k.val = k.val; omega

theorem block_wgu (c : Dev nD) (t : Fin cfg0.N) (k : Fin 1024) (n : Fin 5632) :
    (iblk m c 3 t : Vec Ideal S1024x5632 .bf16) (ix2 k n) = m ((c : Thread nD τ).loc main_arg3) (ix2 k n) := by
  obtain ⟨-, -, -, ⟨h0, h1⟩, -⟩ := index_facts t
  unfold iblk
  rw [View.read_apply]
  show V m c main_v2 _ = _
  rw [V_wgu]
  congr 1
  funext a
  apply Fin.ext
  match a with
  | ⟨0, _⟩ => show win0_3.index t 0 * 1024 + 1 * k.val = k.val; omega
  | ⟨1, _⟩ => show win0_3.index t 1 * 5632 + 1 * n.val = n.val; omega

theorem block_wdown (c : Dev nD) (t : Fin cfg0.N) (n : Fin 2816) (l : Fin 1024) :
    (iblk m c 4 t : Vec Ideal S2816x1024 .bf16) (ix2 n l) = m ((c : Thread nD τ).loc main_arg4) (ix2 n l) := by
  obtain ⟨-, -, -, -, ⟨h0, h1⟩, -⟩ := index_facts t
  unfold iblk
  rw [View.read_apply]
  show V m c main_v3 _ = _
  rw [V_wdown]
  congr 1
  funext a
  apply Fin.ext
  match a with
  | ⟨0, _⟩ => show win0_4.index t 0 * 2816 + 1 * n.val = n.val; omega
  | ⟨1, _⟩ => show win0_4.index t 1 * 1024 + 1 * l.val = l.val; omega

/-- What a point writes back is the result read through its block. -/
theorem flushed_eq (c : Dev nD) (t : Fin cfg0.N) (_ : (cfg0.win 5).flush t = true) :
    (dats m 0 c).flushed 5 t = ((cfg0.win 5).blk t).view.read (Elt Ideal) (result m c) := by
  have hN : t.val < 32 := t.isLt
  obtain ⟨-, -, -, -, -, ⟨h3, h4, h5⟩⟩ := index_facts t
  rw [Value.flushed5]
  refine funext fun (j : S1x512x1024.Idx) => ?_
  obtain ⟨a, r, l, rfl⟩ : ∃ (a : Fin 1) (r : Fin 512) (l : Fin 1024), j = ix3 a r l := ⟨_, _, _, eq_ix3 j⟩
  obtain rfl : a = 0 := Subsingleton.elim _ _
  rw [View.read_apply]
  have e : (((cfg0.win 5).blk t).view.emb (ix3 0 r l : S1x512x1024.Idx) : S4x4096x1024.Idx)
      = ix3 (⟨t.val / 8, by omega⟩ : Fin 4) (⟨t.val % 8 * 512 + r.val, by omega⟩ : Fin 4096) l := by
    funext a
    apply Fin.ext
    match a with
    | ⟨0, _⟩ => show win0_5.index t 0 * 1 + 1 * 0 = t.val / 8; omega
    | ⟨1, _⟩ => show win0_5.index t 1 * 512 + 1 * r.val = t.val % 8 * 512 + r.val; omega
    | ⟨2, _⟩ => show win0_5.index t 2 * 1024 + 1 * l.val = l.val; omega
  show out0_5 _ _ _ _ _ (ix3 0 r l) = result m c _
  rw [e, out_apply]
  unfold result
  simp only [block_gpre, block_gpost, block_wgu, block_wdown]
  have hb := fun k => block_h m c t r k ⟨t.val / 8, by omega⟩ ⟨t.val % 8 * 512 + r.val, by omega⟩ rfl rfl
  simp only [hb]
  rfl

/-- So the result array holds the layer's rows. -/
theorem final (c : Dev nD) : (dats m 0 c).arrAt 5 cfg0.N = result m c :=
  (dats m 0 c).arrAt_eq_of_cover 5 (result m c) (flushed_eq m c) fun (i : S4x4096x1024.Idx) => by
    have h0 : (i 0).val < 4 := (i 0).isLt
    have h1 : (i 1).val < 4096 := (i 1).isLt
    have h2 : (i 2).val < 1024 := (i 2).isLt
    have hN : cfg0.N = 32 := by decide
    let t : Fin cfg0.N := ⟨(i 0).val * 8 + (i 1).val / 512, by omega⟩
    obtain ⟨-, -, -, -, -, ⟨h3, h4, h5⟩⟩ := index_facts t
    refine ⟨t, flush0_5 t, ?_⟩
    show i ∈ ((View.whole main_v4).slice (win0_5.rect t)).set
    rw [View.set_slice_whole, Rect.mem_set_unit]
    have ht : t.val = (i 0).val * 8 + (i 1).val / 512 := rfl
    intro a
    match a with
    | ⟨0, _⟩ => show win0_5.index t 0 * 1 ≤ (i 0).val ∧ (i 0).val < win0_5.index t 0 * 1 + 1; omega
    | ⟨1, _⟩ => show win0_5.index t 1 * 512 ≤ (i 1).val ∧ (i 1).val < win0_5.index t 1 * 512 + 512; omega
    | ⟨2, _⟩ => show win0_5.index t 2 * 1024 ≤ (i 2).val ∧ (i 2).val < win0_5.index t 2 * 1024 + 1024; omega

end Cert.Ffn

end
-- ==== Proof.Ffn.Reference.lean ====
/-
What the reference of the feed-forward layer computes, over the extended reals, row by row.
-/
module

public import proofs.«01_k».proof.Proof.Gen.Reference2Ideal.Read
public import proofs.«01_k».proof.Proof.Ffn.Block

@[expose] public section

set_option maxRecDepth 16384

noncomputable section

namespace Cert.Ffn

open Idealize.ShloMosaic Cert.Rows Cert.Reference2Ideal Cert.Reference2Ideal.Gen Cert.Reference2Ideal.Read

/-- The reference's normalised row. -/
theorem v12_apply (x0 : Vec Ideal S4x4096x1024 .f32) (x1 : Vec Ideal S1024 .f32) (b : Fin 4) (r : Fin 4096)
    (l : Fin 1024) : val_main_v12 (F := Ideal) x0 x1 (ix3 b r l)
      = rms (fun k => x0 (ix3 b r k)) (fun k => x1 (ix1 k)) l := by
  pointwise [val_main_v0, val_main_v1, val_main_v2, val_main_v3, val_main_v4, val_main_v5, val_main_v6, val_main_v7,
    val_main_v8, val_main_v9, val_main_v10, val_main_v11, val_main_v12, val_main_cst, val_main_cst_0, val_main_cst_1]
  rfl

/-- The reference's inner row. -/
theorem v17_apply (x0 : Vec Ideal S4x4096x1024 .f32) (x1 : Vec Ideal S1024 .f32) (x3 : Vec Ideal S1024x5632 .f32)
    (b : Fin 4) (r : Fin 4096) (n : Fin 2816) : val_main_v17 (F := Ideal) x0 x1 x3 (ix3 b r n)
      = act (rms (fun k => x0 (ix3 b r k)) (fun k => x1 (ix1 k))) (fun k => x3 (ix2 k ⟨n.val, by omega⟩))
          (fun k => x3 (ix2 k ⟨2816 + n.val, by omega⟩)) := by
  pointwise [val_main_v13, val_main_v14, val_main_v15, val_main_v16, val_main_v17, val_main_call0_v0,
    val_main_call0_v1, val_main_call0_v2, val_main_call0_v3, val_main_call0_v4, val_main_call0_v5, val_main_call0_cst,
    val_main_call0_cst_0]
  simp only [v12_apply]
  rfl

/-- The reference's result. -/
theorem v32_apply (x0 : Vec Ideal S4x4096x1024 .f32) (x1 x2 : Vec Ideal S1024 .f32) (x3 : Vec Ideal S1024x5632 .f32)
    (x4 : Vec Ideal S2816x1024 .f32) (b : Fin 4) (r : Fin 4096) (l : Fin 1024) :
    val_main_v32 (F := Ideal) x0 x1 x2 x3 x4 (ix3 b r l)
      = ffn (fun k => x0 (ix3 b r k)) (fun k => x1 (ix1 k)) (fun k => x2 (ix1 k))
          (fun n k => x3 (ix2 k ⟨n.val, by omega⟩)) (fun n k => x3 (ix2 k ⟨2816 + n.val, by omega⟩))
          (fun n j => x4 (ix2 n j)) l := by
  pointwise [val_main_v18, val_main_v19, val_main_v20, val_main_v21, val_main_v22, val_main_v23, val_main_v24,
    val_main_v25, val_main_v26, val_main_v27, val_main_v28, val_main_v29, val_main_v30, val_main_v31, val_main_v32,
    val_main_cst_2, val_main_cst_3, val_main_cst_4]
  simp only [v17_apply]
  rfl

end Cert.Ffn

end
-- ==== Proof.Ffn.Claims.lean ====
/-
The feed-forward block's kernel and its reference: each ends with its arguments unchanged, and over the extended reals both
end with the same array.
-/
module

public import proofs.«01_k».proof.Proof.Ffn.Array
public import proofs.«01_k».proof.Proof.Ffn.Reference
public import proofs.«01_k».proof.Proof.Gen.Kernel2.Frame
public import proofs.«01_k».proof.Defs
public import Idealize.ShloMosaic.Lib.Quiescent

@[expose] public section

noncomputable section

namespace Cert.Ffn

open Idealize.ShloMosaic Idealize.ShloMosaic.TcCoe

/-- The reference ends with its arguments unchanged. -/
theorem reference_framed : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The reference's array is the kernel's. -/
theorem same_value (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4)) :
    Cert.Reference2Ideal.Value.res_main_v32 (F := Ideal) m' c = result m c := by
  rw [Cert.Reference2Ideal.Read.val_main_v32_eq, h0, h1, h2, h3, h4]
  refine funext fun (j : Cert.Reference2Ideal.S4x4096x1024.Idx) => ?_
  rw [eq_ix3 j]
  exact (v32_apply _ _ _ _ _ _ _ _).trans rfl

/-- Kernel and reference end with the same array. -/
theorem equal : Cert.algebraic_Kernel2Ideal_Reference2Ideal := by
  intro m ρ m' ρ' _ hagree
  refine ⟨fun c => result m c, ?_, ?_⟩
  · exact (θ_run Cert.Kernel2Ideal.defs _ _).mono
      (fun _ h c => ⟨(h c).1.trans (final m c), (h c).2⟩) (Cert.Kernel2Ideal.Value.run_blocks (F := Ideal) m ρ)
  · exact (θ_run Cert.Reference2Ideal.defs _ _).mono
      (fun _ h c => ⟨(h c).1.trans (same_value m m' c (hagree c).1 (hagree c).2.1 (hagree c).2.2.1 (hagree c).2.2.2.1 (hagree c).2.2.2.2),
        (h c).2⟩)
      (Cert.Reference2Ideal.Value.run (F := Ideal) m' ρ')

end Cert.Ffn

end
-- ==== Proof.MemKv.Block.lean ====
/-
What one grid point of the memory call computes, over the extended reals: the keys and the values of one layer and one
batch, channels before tokens.
-/
module

public import proofs.«01_k».proof.Proof.Gen.Kernel3Ideal.Frame
public import proofs.«01_k».proof.Proof.Rows

@[expose] public section

set_option maxRecDepth 16384

noncomputable section

namespace Cert.MemKv

open Idealize.ShloMosaic Cert.Rows Cert.Kernel3Ideal Cert.Kernel3Ideal.Gen

/-- One channel of one token: the token's normalised row times the channel's column. -/
def channel (x g w : Fin 1024 → EReal) : EReal := ∑ k, rms x g k * w k

theorem pay3_apply (v0 : Vec Ideal S1x256x1024 .f32) (v2 : Vec Ideal S1x1x1024 .f32)
    (v17 : Vec Ideal S1x512x1024 .bf16) (ch : Fin 512) (tok : Fin 256) :
    k0_pay3 (F := Ideal) v0 v2 v17 (ix2 ch tok)
      = channel (fun k => v0 (ix3 0 tok k)) (fun k => v2 (ix3 0 0 k)) (fun k => v17 (ix3 0 ch k)) := by
  pointwise [k0_pay3]
  unfold channel rms
  exact Finset.sum_congr rfl fun k _ => mul_comm _ _

/-- The block of keys a point leaves. -/
theorem keys_apply (x0 : Vec Ideal S1x256x1024 .f32) (x1 : Vec Ideal S1x1x1024 .f32)
    (x2 : Vec Ideal S1x512x1024 .bf16) (ch : Fin 256) (tok : Fin 256) :
    out0_3 (F := Ideal) x0 x1 x2 (ix4 0 0 ch tok) = channel (fun k => x0 (ix3 0 tok k)) (fun k => x1 (ix3 0 0 k))
      (fun k => x2 (ix3 0 ⟨ch.val, by omega⟩ k)) := by
  have hz : (![0, 0, 0, 0] : Fin 4 → Nat) = fun _ => 0 := funext fun a => by fin_cases a <;> rfl
  unfold out0_3
  rw [View.canon_unit_zero hz]
  pointwise [k0_pay6, k0_pay4]
  rw [pay3_apply]
  pointwise

/-- The block of values a point leaves. -/
theorem values_apply (x0 : Vec Ideal S1x256x1024 .f32) (x1 : Vec Ideal S1x1x1024 .f32)
    (x2 : Vec Ideal S1x512x1024 .bf16) (ch : Fin 256) (tok : Fin 256) :
    out0_4 (F := Ideal) x0 x1 x2 (ix4 0 0 ch tok) = channel (fun k => x0 (ix3 0 tok k)) (fun k => x1 (ix3 0 0 k))
      (fun k => x2 (ix3 0 ⟨256 + ch.val, by omega⟩ k)) := by
  have hz : (![0, 0, 0, 0] : Fin 4 → Nat) = fun _ => 0 := funext fun a => by fin_cases a <;> rfl
  unfold out0_4
  rw [View.canon_unit_zero hz]
  pointwise [k0_pay7, k0_pay5]
  rw [pay3_apply]
  pointwise

end Cert.MemKv

end
-- ==== Proof.MemKv.Array.lean ====
/-
What the memory call leaves in its two result arrays, over the extended reals.
-/
module

public import proofs.«01_k».proof.Proof.Gen.Kernel3Ideal.Value
public import proofs.«01_k».proof.Proof.MemKv.Block
public import Idealize.ShloMosaic.Lib.StableHlo.Run

@[expose] public section

set_option maxRecDepth 16384

noncomputable section

namespace Cert.MemKv

open Idealize.ShloMosaic Idealize.ShloMosaic.TcCoe Idealize.SL.Sem Cert.Kernel3Ideal Cert.Kernel3Ideal.Gen
open Idealize.ShloMosaic.Pipeline (Dat)

variable (m : (ℓ : Loc nD τ sig) → Buf (Elt Ideal) ℓ)

/-- The weights, channels first, as the call reads them. -/
theorem V_weights (c : Dev nD) : (V m c main_v1 : Vec Ideal S2x512x1024 .bf16)
    = truncf (F := Ideal) .bf16 (transpose S2x512x1024 [0, 2, 1] (m ((c : Thread nD τ).loc main_arg2) : Vec Ideal S2x1024x512 .f32)
        transposes_S2x1024x512_S2x512x1024_0_2_1) bitsLt_bf16_f32 := by
  show StableHlo.after hostOps0 (fun b => m (c, b)) (Proc.devRef .tc main_v1) = _
  after_results_simp

/-- The gains, one row per layer. -/
theorem V_gain (c : Dev nD) : (V m c main_v2 : Vec Ideal S2x1x1024 .f32)
    = shapeCast S2x1x1024 (m ((c : Thread nD τ).loc main_arg1)) shapeCasts_S2x1024_S2x1x1024 := by
  show StableHlo.after hostOps0 (fun b => m (c, b)) (Proc.devRef .tc main_v2) = _
  after_results_simp
  rfl

/-- Where each window's block lies at a point: point `t` works on layer `t / 4` and batch `t mod 4`. -/
theorem index_facts : ∀ t : Fin grid0.N,
    (win0_0.index t 0 = t.val % 4 ∧ win0_0.index t 1 = 0 ∧ win0_0.index t 2 = 0)
      ∧ (win0_1.index t 0 = t.val / 4 ∧ win0_1.index t 1 = 0 ∧ win0_1.index t 2 = 0)
      ∧ (win0_2.index t 0 = t.val / 4 ∧ win0_2.index t 1 = 0 ∧ win0_2.index t 2 = 0)
      ∧ (win0_3.index t 0 = t.val / 4 ∧ win0_3.index t 1 = t.val % 4 ∧ win0_3.index t 2 = 0 ∧ win0_3.index t 3 = 0)
      ∧ (win0_4.index t 0 = t.val / 4 ∧ win0_4.index t 1 = t.val % 4 ∧ win0_4.index t 2 = 0 ∧ win0_4.index t 3 = 0) := by
  decide +kernel

/-- The channels of the memory at layer `i 0`, batch `i 1`, channel `ch` and token `i 3`. -/
def entry (c : Dev nD) (i : Fin 2) (b : Fin 4) (ch : Fin 512) (tok : Fin 256) : EReal :=
  channel (fun k => m ((c : Thread nD τ).loc main_arg0) (ix3 b tok k))
    (fun k => m ((c : Thread nD τ).loc main_arg1) (ix2 i k)) (fun k => m ((c : Thread nD τ).loc main_arg2) (ix3 i k ch))

/-- The keys. -/
def keys (c : Dev nD) : Buf (Elt Ideal) ((c : Thread nD τ).loc main_v3_0) := fun (i : S2x4x256x256.Idx) =>
  entry m c (i 0) (i 1) ⟨(i 2).val, Nat.lt_of_lt_of_le (show (i 2).val < 256 from (i 2).isLt) (by decide)⟩ (i 3)

/-- The values. -/
def values (c : Dev nD) : Buf (Elt Ideal) ((c : Thread nD τ).loc main_v3_1) := fun (i : S2x4x256x256.Idx) =>
  entry m c (i 0) (i 1) ⟨256 + (i 2).val, Nat.add_lt_add_left (m := 256) (show (i 2).val < 256 from (i 2).isLt) 256⟩ (i 3)

theorem block_mem (c : Dev nD) (t : Fin cfg0.N) (tok : Fin 256) (k : Fin 1024) (b : Fin 4) (hb : b.val = t.val % 4) :
    (iblk m c 0 t : Vec Ideal S1x256x1024 .f32) (ix3 0 tok k)
      = m ((c : Thread nD τ).loc main_arg0) (ix3 b tok k) := by
  obtain ⟨⟨h0, h1, h2⟩, -⟩ := index_facts t
  unfold iblk
  rw [View.read_apply]
  show V m c main_arg0 _ = _
  rw [V_main_arg0]
  congr 1
  funext a
  apply Fin.ext
  match a with
  | ⟨0, _⟩ => show win0_0.index t 0 * 1 + 1 * 0 = b.val; omega
  | ⟨1, _⟩ => show win0_0.index t 1 * 256 + 1 * tok.val = tok.val; omega
  | ⟨2, _⟩ => show win0_0.index t 2 * 1024 + 1 * k.val = k.val; omega

theorem block_gain (c : Dev nD) (t : Fin cfg0.N) (k : Fin 1024) (i : Fin 2) (hi : i.val = t.val / 4) :
    (iblk m c 1 t : Vec Ideal S1x1x1024 .f32) (ix3 0 0 k) = m ((c : Thread nD τ).loc main_arg1) (ix2 i k) := by
  obtain ⟨-, ⟨h0, h1, h2⟩, -⟩ := index_facts t
  unfold iblk
  rw [View.read_apply]
  show V m c main_v2 _ = _
  rw [V_gain]
  have e : ∀ j : S2x1x1024.Idx, j = ix3 i (0 : Fin 1) k →
      shapeCast S2x1x1024 (m ((c : Thread nD τ).loc main_arg1) : Vec Ideal S2x1024 .f32)
        shapeCasts_S2x1024_S2x1x1024 j = m ((c : Thread nD τ).loc main_arg1) (ix2 i k) := by
    intro j hj; subst hj; pointwise
  rw [e]
  funext a
  apply Fin.ext
  match a with
  | ⟨0, _⟩ => show win0_1.index t 0 * 1 + 1 * 0 = i.val; omega
  | ⟨1, _⟩ => show win0_1.index t 1 * 1 + 1 * 0 = 0; omega
  | ⟨2, _⟩ => show win0_1.index t 2 * 1024 + 1 * k.val = k.val; omega

theorem block_weights (c : Dev nD) (t : Fin cfg0.N) (ch : Fin 512) (k : Fin 1024) (i : Fin 2)
    (hi : i.val = t.val / 4) :
    (iblk m c 2 t : Vec Ideal S1x512x1024 .bf16) (ix3 0 ch k) = m ((c : Thread nD τ).loc main_arg2) (ix3 i k ch) := by
  obtain ⟨-, -, ⟨h0, h1, h2⟩, -⟩ := index_facts t
  unfold iblk
  rw [View.read_apply]
  show V m c main_v1 _ = _
  rw [V_weights]
  have e : ∀ j : S2x512x1024.Idx, j = ix3 i ch k →
      truncf (F := Ideal) .bf16 (transpose S2x512x1024 [0, 2, 1] (m ((c : Thread nD τ).loc main_arg2) : Vec Ideal S2x1024x512 .f32)
        transposes_S2x1024x512_S2x512x1024_0_2_1) bitsLt_bf16_f32 j
        = m ((c : Thread nD τ).loc main_arg2) (ix3 i k ch) := by
    intro j hj; subst hj; pointwise
  rw [e]
  funext a
  apply Fin.ext
  match a with
  | ⟨0, _⟩ => show win0_2.index t 0 * 1 + 1 * 0 = i.val; omega
  | ⟨1, _⟩ => show win0_2.index t 1 * 512 + 1 * ch.val = ch.val; omega
  | ⟨2, _⟩ => show win0_2.index t 2 * 1024 + 1 * k.val = k.val; omega

/-- What a point writes back to the array of keys is that array read through its block. -/
theorem flushed_keys (c : Dev nD) (t : Fin cfg0.N) (_ : (cfg0.win 3).flush t = true) :
    (dats m 0 c).flushed 3 t = ((cfg0.win 3).blk t).view.read (Elt Ideal) (keys m c) := by
  have hN : t.val < 8 := t.isLt
  obtain ⟨-, -, -, ⟨h0, h1, h2, h3⟩, -⟩ := index_facts t
  rw [Value.flushed3]
  refine funext fun (j : S1x1x256x256.Idx) => ?_
  obtain ⟨a, a', ch, tok, rfl⟩ : ∃ (a a' : Fin 1) (ch tok : Fin 256), j = ix4 a a' ch tok := ⟨_, _, _, _, eq_ix4 j⟩
  obtain rfl : a = 0 := Subsingleton.elim _ _
  obtain rfl : a' = 0 := Subsingleton.elim _ _
  rw [View.read_apply]
  have e : (((cfg0.win 3).blk t).view.emb (ix4 0 0 ch tok : S1x1x256x256.Idx) : S2x4x256x256.Idx)
      = ix4 (⟨t.val / 4, by omega⟩ : Fin 2) (⟨t.val % 4, by omega⟩ : Fin 4) ch tok := by
    funext a
    apply Fin.ext
    match a with
    | ⟨0, _⟩ => show win0_3.index t 0 * 1 + 1 * 0 = t.val / 4; omega
    | ⟨1, _⟩ => show win0_3.index t 1 * 1 + 1 * 0 = t.val % 4; omega
    | ⟨2, _⟩ => show win0_3.index t 2 * 256 + 1 * ch.val = ch.val; omega
    | ⟨3, _⟩ => show win0_3.index t 3 * 256 + 1 * tok.val = tok.val; omega
  show out0_3 _ _ _ (ix4 0 0 ch tok) = keys m c _
  rw [e, keys_apply]
  simp only [block_mem m c t tok _ ⟨t.val % 4, by omega⟩ rfl, block_gain m c t _ ⟨t.val / 4, by omega⟩ rfl,
    block_weights m c t _ _ ⟨t.val / 4, by omega⟩ rfl]
  rfl

/-- So the array ends holding the keys. -/
theorem final_keys (c : Dev nD) : (dats m 0 c).arrAt 3 cfg0.N = keys m c :=
  (dats m 0 c).arrAt_eq_of_cover 3 (keys m c) (flushed_keys m c) fun (i : S2x4x256x256.Idx) => by
    have e0 : (i 0).val < 2 := (i 0).isLt
    have e1 : (i 1).val < 4 := (i 1).isLt
    have e2 : (i 2).val < 256 := (i 2).isLt
    have e3 : (i 3).val < 256 := (i 3).isLt
    have hN : cfg0.N = 8 := by decide
    let t : Fin cfg0.N := ⟨(i 0).val * 4 + (i 1).val, by omega⟩
    obtain ⟨-, -, -, ⟨h0, h1, h2, h3⟩, -⟩ := index_facts t
    refine ⟨t, flush0_3 t, ?_⟩
    show i ∈ ((View.whole main_v3_0).slice (win0_3.rect t)).set
    rw [View.set_slice_whole, Rect.mem_set_unit]
    have ht : t.val = (i 0).val * 4 + (i 1).val := rfl
    intro a
    match a with
    | ⟨0, _⟩ => show win0_3.index t 0 * 1 ≤ (i 0).val ∧ (i 0).val < win0_3.index t 0 * 1 + 1; omega
    | ⟨1, _⟩ => show win0_3.index t 1 * 1 ≤ (i 1).val ∧ (i 1).val < win0_3.index t 1 * 1 + 1; omega
    | ⟨2, _⟩ => show win0_3.index t 2 * 256 ≤ (i 2).val ∧ (i 2).val < win0_3.index t 2 * 256 + 256; omega
    | ⟨3, _⟩ => show win0_3.index t 3 * 256 ≤ (i 3).val ∧ (i 3).val < win0_3.index t 3 * 256 + 256; omega

/-- What a point writes back to the array of values is that array read through its block. -/
theorem flushed_values (c : Dev nD) (t : Fin cfg0.N) (_ : (cfg0.win 4).flush t = true) :
    (dats m 0 c).flushed 4 t = ((cfg0.win 4).blk t).view.read (Elt Ideal) (values m c) := by
  have hN : t.val < 8 := t.isLt
  obtain ⟨-, -, -, -, ⟨h0, h1, h2, h3⟩⟩ := index_facts t
  rw [Value.flushed4]
  refine funext fun (j : S1x1x256x256.Idx) => ?_
  obtain ⟨a, a', ch, tok, rfl⟩ : ∃ (a a' : Fin 1) (ch tok : Fin 256), j = ix4 a a' ch tok := ⟨_, _, _, _, eq_ix4 j⟩
  obtain rfl : a = 0 := Subsingleton.elim _ _
  obtain rfl : a' = 0 := Subsingleton.elim _ _
  rw [View.read_apply]
  have e : (((cfg0.win 4).blk t).view.emb (ix4 0 0 ch tok : S1x1x256x256.Idx) : S2x4x256x256.Idx)
      = ix4 (⟨t.val / 4, by omega⟩ : Fin 2) (⟨t.val % 4, by omega⟩ : Fin 4) ch tok := by
    funext a
    apply Fin.ext
    match a with
    | ⟨0, _⟩ => show win0_4.index t 0 * 1 + 1 * 0 = t.val / 4; omega
    | ⟨1, _⟩ => show win0_4.index t 1 * 1 + 1 * 0 = t.val % 4; omega
    | ⟨2, _⟩ => show win0_4.index t 2 * 256 + 1 * ch.val = ch.val; omega
    | ⟨3, _⟩ => show win0_4.index t 3 * 256 + 1 * tok.val = tok.val; omega
  show out0_4 _ _ _ (ix4 0 0 ch tok) = values m c _
  rw [e, values_apply]
  simp only [block_mem m c t tok _ ⟨t.val % 4, by omega⟩ rfl, block_gain m c t _ ⟨t.val / 4, by omega⟩ rfl,
    block_weights m c t _ _ ⟨t.val / 4, by omega⟩ rfl]
  rfl

/-- So the array ends holding the values. -/
theorem final_values (c : Dev nD) : (dats m 0 c).arrAt 4 cfg0.N = values m c :=
  (dats m 0 c).arrAt_eq_of_cover 4 (values m c) (flushed_values m c) fun (i : S2x4x256x256.Idx) => by
    have e0 : (i 0).val < 2 := (i 0).isLt
    have e1 : (i 1).val < 4 := (i 1).isLt
    have e2 : (i 2).val < 256 := (i 2).isLt
    have e3 : (i 3).val < 256 := (i 3).isLt
    have hN : cfg0.N = 8 := by decide
    let t : Fin cfg0.N := ⟨(i 0).val * 4 + (i 1).val, by omega⟩
    obtain ⟨-, -, -, -, ⟨h0, h1, h2, h3⟩⟩ := index_facts t
    refine ⟨t, flush0_4 t, ?_⟩
    show i ∈ ((View.whole main_v3_1).slice (win0_4.rect t)).set
    rw [View.set_slice_whole, Rect.mem_set_unit]
    have ht : t.val = (i 0).val * 4 + (i 1).val := rfl
    intro a
    match a with
    | ⟨0, _⟩ => show win0_4.index t 0 * 1 ≤ (i 0).val ∧ (i 0).val < win0_4.index t 0 * 1 + 1; omega
    | ⟨1, _⟩ => show win0_4.index t 1 * 1 ≤ (i 1).val ∧ (i 1).val < win0_4.index t 1 * 1 + 1; omega
    | ⟨2, _⟩ => show win0_4.index t 2 * 256 ≤ (i 2).val ∧ (i 2).val < win0_4.index t 2 * 256 + 256; omega
    | ⟨3, _⟩ => show win0_4.index t 3 * 256 ≤ (i 3).val ∧ (i 3).val < win0_4.index t 3 * 256 + 256; omega

end Cert.MemKv

end
-- ==== Proof.MemKv.Reference.lean ====
/-
What the reference of the memory's keys and values computes, over the extended reals.
-/
module

public import proofs.«01_k».proof.Proof.Gen.Reference3Ideal.Read
public import proofs.«01_k».proof.Proof.MemKv.Block

@[expose] public section

set_option maxRecDepth 16384

noncomputable section

namespace Cert.MemKv

open Idealize.ShloMosaic Cert.Rows Cert.Reference3Ideal Cert.Reference3Ideal.Gen Cert.Reference3Ideal.Read

/-- The first layer's product, token by channel. -/
theorem v17_apply (x0 : Vec Ideal S4x256x1024 .f32) (x1 : Vec Ideal S2x1024 .f32) (x2 : Vec Ideal S2x1024x512 .f32)
    (b : Fin 4) (tok : Fin 256) (ch : Fin 512) : val_main_v17 (F := Ideal) x0 x1 x2 (ix3 b tok ch)
      = channel (fun k => x0 (ix3 b tok k)) (fun k => x1 (ix2 0 k)) (fun k => x2 (ix3 0 k ch)) := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_cst, val_main_cst_0, val_main_cst_1]
  rfl

/-- The second layer's product. -/
theorem v39_apply (x0 : Vec Ideal S4x256x1024 .f32) (x1 : Vec Ideal S2x1024 .f32) (x2 : Vec Ideal S2x1024x512 .f32)
    (b : Fin 4) (tok : Fin 256) (ch : Fin 512) : val_main_v39 (F := Ideal) x0 x1 x2 (ix3 b tok ch)
      = channel (fun k => x0 (ix3 b tok k)) (fun k => x1 (ix2 1 k)) (fun k => x2 (ix3 1 k ch)) := by
  pointwise [val_main_v22, val_main_v23, val_main_v24, val_main_v25, val_main_v26, val_main_v27,
    val_main_v28, val_main_v29, val_main_v30, val_main_v31, val_main_v32, val_main_v33, val_main_v34, val_main_v35,
    val_main_v36, val_main_v37, val_main_v38, val_main_v39, val_main_cst_2, val_main_cst_3, val_main_cst_4]
  rfl

/-- The keys of both layers. -/
theorem keys_eq (x0 : Vec Ideal S4x256x1024 .f32) (x1 : Vec Ideal S2x1024 .f32) (x2 : Vec Ideal S2x1024x512 .f32)
    (i : Fin 2) (b : Fin 4) (ch : Fin 256) (tok : Fin 256) :
    val_main_v46 (F := Ideal) x0 x1 x2 (ix4 i b ch tok)
      = channel (fun k => x0 (ix3 b tok k)) (fun k => x1 (ix2 i k)) (fun k => x2 (ix3 i k ⟨ch.val, by omega⟩)) := by
  fin_cases i
  · pointwise [val_main_v18, val_main_v19, val_main_v44, val_main_v46]
    rw [v17_apply]
  · pointwise [val_main_v40, val_main_v41, val_main_v45, val_main_v46]
    rw [v39_apply]

/-- The values of both layers. -/
theorem values_eq (x0 : Vec Ideal S4x256x1024 .f32) (x1 : Vec Ideal S2x1024 .f32) (x2 : Vec Ideal S2x1024x512 .f32)
    (i : Fin 2) (b : Fin 4) (ch : Fin 256) (tok : Fin 256) :
    val_main_v49 (F := Ideal) x0 x1 x2 (ix4 i b ch tok)
      = channel (fun k => x0 (ix3 b tok k)) (fun k => x1 (ix2 i k))
          (fun k => x2 (ix3 i k ⟨256 + ch.val, by omega⟩)) := by
  fin_cases i
  · pointwise [val_main_v20, val_main_v21, val_main_v47, val_main_v49]
    rw [v17_apply]
  · pointwise [val_main_v42, val_main_v43, val_main_v48, val_main_v49]
    rw [v39_apply]

end Cert.MemKv

end
-- ==== Proof.MemKv.Claims.lean ====
/-
The kernel of the memory's keys and values and its reference: each ends with its arguments unchanged, and over the extended
reals both end with the same two arrays.
-/
module

public import proofs.«01_k».proof.Proof.MemKv.Array
public import proofs.«01_k».proof.Proof.MemKv.Reference
public import proofs.«01_k».proof.Proof.Gen.Kernel3.Frame
public import proofs.«01_k».proof.Defs
public import Idealize.ShloMosaic.Lib.Quiescent

@[expose] public section

noncomputable section

namespace Cert.MemKv

open Idealize.ShloMosaic Idealize.ShloMosaic.TcCoe

/-- The reference ends with its arguments unchanged. -/
theorem reference_framed : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The reference's keys are the kernel's. -/
theorem same_keys (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2)) :
    Cert.Reference3Ideal.Read.val_main_v46 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = keys m c := by
  rw [h0, h1, h2]
  refine funext fun (j : Cert.Reference3Ideal.S2x4x256x256.Idx) => ?_
  rw [eq_ix4 j]
  exact (keys_eq _ _ _ _ _ _ _).trans rfl

/-- The reference's values are the kernel's. -/
theorem same_values (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2)
      = m ((c.tc : Thread Cert.Kernel3Ideal.nD Cert.Kernel3Ideal.τ).loc Cert.Kernel3Ideal.main_arg2)) :
    Cert.Reference3Ideal.Read.val_main_v49 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)) = values m c := by
  rw [h0, h1, h2]
  refine funext fun (j : Cert.Reference3Ideal.S2x4x256x256.Idx) => ?_
  rw [eq_ix4 j]
  exact (values_eq _ _ _ _ _ _ _).trans rfl

/-- Kernel and reference end with the same arrays. -/
theorem equal : Cert.algebraic_Kernel3Ideal_Reference3Ideal := by
  intro m ρ m' ρ' _ hagree
  refine ⟨fun c => keys m c, fun c => values m c, ?_, ?_⟩
  · exact (θ_run Cert.Kernel3Ideal.defs _ _).mono
      (fun _ h c => ⟨(h c).1.trans (final_keys m c), (h c).2.1.trans (final_values m c), (h c).2.2.2.2⟩)
      (Cert.Kernel3Ideal.Value.run_blocks (F := Ideal) m ρ)
  · exact (θ_run Cert.Reference3Ideal.defs _ _).mono
      (fun _ h c => ⟨(h c).1.trans ((Cert.Reference3Ideal.Read.val_main_v46_eq _ _ _).trans
          (same_keys m m' c (hagree c).1 (hagree c).2.1 (hagree c).2.2)),
        (h c).2.1.trans ((Cert.Reference3Ideal.Read.val_main_v49_eq _ _ _).trans
          (same_values m m' c (hagree c).1 (hagree c).2.1 (hagree c).2.2)), (h c).2.2⟩)
      (Cert.Reference3Ideal.Value.run (F := Ideal) m' ρ')

end Cert.MemKv

end
-- ==== Proof.Rope.Block.lean ====
/-
What one grid point of the differential attention's projection computes, over the extended reals: each row of its block of
the residual stream is normalised and put through the columns of the projection; the query and key columns of a head are
turned by the row's position.
-/
module

public import proofs.«01_k».proof.Proof.Gen.Kernel4Ideal.Frame
public import proofs.«01_k».proof.Proof.Rows

@[expose] public section

set_option maxRecDepth 16384

noncomputable section

namespace Cert.Rope

open Idealize.ShloMosaic Cert.Rows Cert.Kernel4Ideal Cert.Kernel4Ideal.Gen

/-- The lane a lane of 128 is turned against: 32 further in the first half of its 64, 32 back in the second. -/
def partner (l : Fin 128) : Fin 128 :=
  if l.val % 64 < 32 then ⟨(l.val + 32) % 128, Nat.mod_lt _ (by decide)⟩ else ⟨l.val - 32, by omega⟩

/-- A head's 128 lanes turned: each lane times its cosine plus its partner times its signed sine. -/
def turn (z cs sn : Fin 128 → EReal) (l : Fin 128) : EReal := z l * cs l + z (partner l) * sn l

/-- The angle of position `p` at frequency `e`: the position times 10000 to the power `-2e/64`. -/
def angle (p : Fin 4096) (e : Fin 32) : EReal :=
  FloatOps.sitofp (F := Ideal) .f32 (BitVec.ofNat 32 p.val)
    * Ideal.pow (Ideal.ofBits .f32 0x461C4000#32)
        (Ideal.div (-(Ideal.ofBits .f32 0x40000000#32 * FloatOps.sitofp (F := Ideal) .f32 (BitVec.ofNat 32 e.val)))
          (Ideal.ofBits .f32 0x42800000#32))

/-- A lane's cosine at position `p`. -/
def cosAt (p : Fin 4096) (l : Fin 128) : EReal := Ideal.cos (angle p ⟨l.val % 32, Nat.mod_lt _ (by decide)⟩)

/-- A lane's signed sine at position `p`. -/
def sinAt (p : Fin 4096) (l : Fin 128) : EReal :=
  if l.val % 64 < 32 then -Ideal.sin (angle p ⟨l.val % 32, Nat.mod_lt _ (by decide)⟩)
  else Ideal.sin (angle p ⟨l.val % 32, Nat.mod_lt _ (by decide)⟩)

/-- A head's rows turned, as the vector operations of the body. -/
def turned (z cs sn : FVec Ideal S512x128 .f32) (mask : IVec S1x128 1) : FVec Ideal S512x128 .f32 :=
  addf (mulf z cs) (mulf (select
    (broadcastTo S512x128 (shapeCast S1x128 mask shapeCasts_S1x128_S1x128) broadcasts_S1x128_S512x128)
    (dynamicRotate 1 96#32 none z rotates_S512x128_d1) (dynamicRotate 1 32#32 none z rotates_S512x128_d1)) sn)

/-- The mask holds on the first half of every 64 lanes. -/
theorem mask_apply : ∀ l : Fin 128,
    k0_pay8 k0_pay6 k0_pay7 (ix2 0 l) = if l.val % 64 < 32 then 1#1 else 0#1 := by decide +kernel

/-- The turned rows at an index. -/
theorem turned_apply (z cs sn : FVec Ideal S512x128 .f32) (r : Fin 512) (l : Fin 128) :
    turned z cs sn (k0_pay8 k0_pay6 k0_pay7) (ix2 r l)
      = turn (fun l => z (ix2 r l)) (fun l => cs (ix2 r l)) (fun l => sn (ix2 r l)) l := by
  pointwise [turned]
  rw [mask_apply]
  unfold turn partner
  by_cases h : l.val % 64 < 32
  · have e : (l.val + 128 - 96) % 128 = (l.val + 32) % 128 := by omega
    simp only [h, if_true, e]
    rfl
  · have e : (l.val + 128 - 32) % 128 = l.val - 32 := by omega
    simp only [h, if_false, e]
    rfl

/-- A row of the projection: the normalised row through one column. -/
def proj (x g w : Fin 1024 → EReal) : EReal := ∑ k, rms x g k * w k

/-- The normalised row the projections read. -/
theorem pay3_apply (v0 : Vec Ideal S1x512x1024 .f32) (v2 : Vec Ideal S1x1024 .f32) (r : Fin 512) (l : Fin 1024) :
    k0_pay3 (F := Ideal) v0 v2 (ix2 r l) = rms (fun k => v0 (ix3 0 r k)) (fun k => v2 (ix2 0 k)) l := by
  pointwise [k0_pay3]
  rfl

/-- The query columns of the projection. -/
theorem pay9_apply (v0 : Vec Ideal S1x512x1024 .f32) (v2 : Vec Ideal S1x1024 .f32) (w : Vec Ideal S1024x768 .bf16)
    (r : Fin 512) (n : Fin 768) : k0_pay9 (F := Ideal) (k0_pay3 v0 v2) w (ix2 r n)
      = proj (fun k => v0 (ix3 0 r k)) (fun k => v2 (ix2 0 k)) (fun k => w (ix2 k n)) := by
  pointwise [k0_pay9]
  simp only [pay3_apply]
  rfl

/-- The key columns of the projection. -/
theorem pay10_apply (v0 : Vec Ideal S1x512x1024 .f32) (v2 : Vec Ideal S1x1024 .f32) (w : Vec Ideal S1024x768 .bf16)
    (r : Fin 512) (n : Fin 768) : k0_pay10 (F := Ideal) (k0_pay3 v0 v2) w (ix2 r n)
      = proj (fun k => v0 (ix3 0 r k)) (fun k => v2 (ix2 0 k)) (fun k => w (ix2 k n)) := by
  pointwise [k0_pay10]
  simp only [pay3_apply]
  rfl

/-- The value columns of the projection. -/
theorem pay11_apply (v0 : Vec Ideal S1x512x1024 .f32) (v2 : Vec Ideal S1x1024 .f32) (w : Vec Ideal S1024x768 .bf16)
    (r : Fin 512) (n : Fin 768) : k0_pay11 (F := Ideal) (k0_pay3 v0 v2) w (ix2 r n)
      = proj (fun k => v0 (ix3 0 r k)) (fun k => v2 (ix2 0 k)) (fun k => w (ix2 k n)) := by
  pointwise [k0_pay11]
  simp only [pay3_apply]
  rfl

/-- The memory queries, scaled. -/
theorem pay2_apply (v0 : Vec Ideal S1x512x1024 .f32) (v2 : Vec Ideal S1x1024 .f32) (w : Vec Ideal S1024x256 .bf16)
    (r : Fin 512) (n : Fin 256) : k0_pay2 (F := Ideal) (k0_pay3 v0 v2) w (ix3 0 r n)
      = proj (fun k => v0 (ix3 0 r k)) (fun k => v2 (ix2 0 k)) (fun k => w (ix2 k n))
          * Ideal.ofBits .f32 0x3E000000#32 := by
  pointwise [k0_pay2]
  simp only [pay3_apply]
  rfl

/-- The columns of head `h`, from column `o` of the projection on, turned: what the point stores of the keys. -/
theorem key_piece (z : FVec Ideal S512x768 .f32) (cs sn : FVec Ideal S512x128 .f32) (o : Nat) (h : Fin 6)
    (hs : S512x768.Slices ![0, o] S512x128) (x : S1x1x512x128.Idx) (y : S1x6x512x128.Idx) (ho : o = h.val * 128)
    (h1 : (y 1).val = h.val + 1 * (x 1).val) (h2 : (y 2).val = 0 + 1 * (x 2).val)
    (h3 : (y 3).val = 0 + 1 * (x 3).val) :
    shapeCast S1x1x512x128 (turned (extractStridedSlice S512x128 ![0, o] z hs) cs sn (k0_pay8 k0_pay6 k0_pay7))
        shapeCasts_S512x128_S1x1x512x128 x
      = turn (fun l => z (ix2 (y 2) ⟨(y 1).val * 128 + l.val, by
            have : (y 1).val < 6 := (y 1).isLt; omega⟩))
          (fun l => cs (ix2 (y 2) l)) (fun l => sn (ix2 (y 2) l)) (y 3) := by
  have x1 : (x 1).val < 1 := (x 1).isLt
  obtain ⟨a, b, r, l, rfl⟩ : ∃ a b r l, x = ix4 a b r l := ⟨_, _, _, _, eq_ix4 x⟩
  obtain rfl : a = 0 := Subsingleton.elim _ _
  obtain rfl : b = 0 := Subsingleton.elim _ _
  have e2 : (y 2 : Fin 512) = r := Fin.ext (by rw [h2]; show 0 + 1 * r.val = r.val; omega)
  have e3 : (y 3 : Fin 128) = l := Fin.ext (by rw [h3]; show 0 + 1 * l.val = l.val; omega)
  have e1 : (y 1).val = h.val := by rw [h1]; show h.val + 1 * 0 = h.val; omega
  rw [e2, e3]
  simp only [e1]
  subst ho
  pointwise [turned_apply]

/-- The columns of head `h`, turned and scaled: what the point stores of the queries. -/
theorem query_piece (z : FVec Ideal S512x768 .f32) (cs sn : FVec Ideal S512x128 .f32) (o : Nat) (h : Fin 6)
    (hs : S512x768.Slices ![0, o] S512x128) (x : S1x512x128.Idx) (y : S1x512x768.Idx) (ho : o = h.val * 128)
    (h1 : (y 1).val = 0 + 1 * (x 1).val) (h2 : (y 2).val = o + 1 * (x 2).val) :
    shapeCast S1x512x128 (truncf .bf16 (mulf (turned (extractStridedSlice S512x128 ![0, o] z hs) cs sn
          (k0_pay8 k0_pay6 k0_pay7)) (broadcast S512x128 (Named.named κ "log2e_8" 0x3E38AA3B#32))) bitsLt_bf16_f32)
        shapeCasts_S512x128_S1x512x128 x
      = turn (fun l => z (ix2 (y 1) ⟨(y 2).val / 128 * 128 + l.val, by
            have : (y 2).val < 768 := (y 2).isLt; omega⟩))
          (fun l => cs (ix2 (y 1) l)) (fun l => sn (ix2 (y 1) l)) ⟨(y 2).val % 128, Nat.mod_lt _ (by decide)⟩
        * Named.named (F := Ideal) (φ := .f32) κ "log2e_8" 0x3E38AA3B#32 := by
  obtain ⟨a, r, l, rfl⟩ : ∃ a r l, x = ix3 a r l := ⟨_, _, _, eq_ix3 x⟩
  obtain rfl : a = 0 := Subsingleton.elim _ _
  have e1 : (y 1 : Fin 512) = r := Fin.ext (by rw [h1]; show 0 + 1 * r.val = r.val; omega)
  have h2' : (y 2).val = h.val * 128 + l.val := by rw [h2, ho]; show _ + 1 * l.val = _; omega
  have e2 : (y 2).val / 128 = h.val := by have := l.isLt; omega
  have e3 : (⟨(y 2).val % 128, Nat.mod_lt _ (by decide)⟩ : Fin 128) = l := Fin.ext (by
    have := l.isLt; show (y 2).val % 128 = l.val; omega)
  rw [e1, e3]
  simp only [e2]
  subst ho
  pointwise [turned_apply]

/-- The columns of head `h` as they are: what the point stores of the values. -/
theorem value_piece (z : FVec Ideal S512x768 .f32) (o : Nat) (h : Fin 6)
    (hs : S512x768.Slices ![0, o] S512x128) (x : S1x1x512x128.Idx) (y : S1x6x512x128.Idx) (ho : o = h.val * 128)
    (h1 : (y 1).val = h.val + 1 * (x 1).val) (h2 : (y 2).val = 0 + 1 * (x 2).val)
    (h3 : (y 3).val = 0 + 1 * (x 3).val) :
    shapeCast S1x1x512x128 (extractStridedSlice S512x128 ![0, o] z hs) shapeCasts_S512x128_S1x1x512x128 x
      = z (ix2 (y 2) ⟨(y 1).val * 128 + (y 3).val, by
            have : (y 1).val < 6 := (y 1).isLt; have : (y 3).val < 128 := (y 3).isLt; omega⟩) := by
  have x1 : (x 1).val < 1 := (x 1).isLt
  obtain ⟨a, b, r, l, rfl⟩ : ∃ a b r l, x = ix4 a b r l := ⟨_, _, _, _, eq_ix4 x⟩
  obtain rfl : a = 0 := Subsingleton.elim _ _
  obtain rfl : b = 0 := Subsingleton.elim _ _
  have e2 : (y 2 : Fin 512) = r := Fin.ext (by rw [h2]; show 0 + 1 * r.val = r.val; omega)
  have e3 : (y 3).val = l.val := by rw [h3]; show 0 + 1 * l.val = l.val; omega
  have e1 : (y 1).val = h.val := by rw [h1]; show h.val + 1 * 0 = h.val; omega
  rw [e2]
  simp only [e1, e3]
  subst ho
  pointwise

/-- What a point leaves of the queries: row `r`, column `j` (head `j / 128`, lane `j mod 128`). -/
theorem query_apply (x0 : Vec Ideal S1x512x1024 .f32) (x1 : Vec Ideal S1x1024 .f32) (x2 : Vec Ideal S1024x2560 .bf16)
    (x3 x4 : Vec Ideal S512x128 .f32) (r : Fin 512) (j : Fin 768) :
    out0_5 (F := Ideal) x0 x1 x2 x3 x4 (ix3 0 r j)
      = turn (fun l => proj (fun k => x0 (ix3 0 r k)) (fun k => x1 (ix2 0 k))
            (fun k => x2 (ix2 k ⟨j.val / 128 * 128 + l.val, by omega⟩)))
          (fun l => x3 (ix2 r l)) (fun l => x4 (ix2 r l)) ⟨j.val % 128, Nat.mod_lt _ (by decide)⟩
        * Named.named (F := Ideal) (φ := .f32) κ "log2e_8" 0x3E38AA3B#32 := by
  unfold out0_5
  refine (View.canon_apply_of_pieces (fun y : S1x512x768.Idx =>
    turn (fun l => k0_pay67 (F := Ideal) x0 x1 x2 x3 x4 (ix2 (y 1) ⟨(y 2).val / 128 * 128 + l.val, by
            have : (y 2).val < 768 := (y 2).isLt; omega⟩))
          (fun l => k0_pay62 (F := Ideal) x0 x1 x2 x3 x4 (ix2 (y 1) l))
          (fun l => k0_pay63 (F := Ideal) x0 x1 x2 x3 x4 (ix2 (y 1) l)) ⟨(y 2).val % 128, Nat.mod_lt _ (by decide)⟩
        * Named.named (F := Ideal) (φ := .f32) κ "log2e_8" 0x3E38AA3B#32) _ ?_ _ (cover0_5 _ _ _ _ _ _ _)).trans ?_
  · intro pc hpc
    rcases List.mem_cons.mp hpc with rfl | hpc
    · exact fun x => query_piece (k0_pay67 (F := Ideal) x0 x1 x2 x3 x4) (k0_pay62 (F := Ideal) x0 x1 x2 x3 x4)
        (k0_pay63 (F := Ideal) x0 x1 x2 x3 x4) 640 5 slices_S512x768_o0_640_S512x128 x (r0_16.emb x) rfl rfl rfl
    rcases List.mem_cons.mp hpc with rfl | hpc
    · exact fun x => query_piece (k0_pay67 (F := Ideal) x0 x1 x2 x3 x4) (k0_pay62 (F := Ideal) x0 x1 x2 x3 x4)
        (k0_pay63 (F := Ideal) x0 x1 x2 x3 x4) 512 4 slices_S512x768_o0_512_S512x128 x (r0_14.emb x) rfl rfl rfl
    rcases List.mem_cons.mp hpc with rfl | hpc
    · exact fun x => query_piece (k0_pay67 (F := Ideal) x0 x1 x2 x3 x4) (k0_pay62 (F := Ideal) x0 x1 x2 x3 x4)
        (k0_pay63 (F := Ideal) x0 x1 x2 x3 x4) 384 3 slices_S512x768_o0_384_S512x128 x (r0_12.emb x) rfl rfl rfl
    rcases List.mem_cons.mp hpc with rfl | hpc
    · exact fun x => query_piece (k0_pay67 (F := Ideal) x0 x1 x2 x3 x4) (k0_pay62 (F := Ideal) x0 x1 x2 x3 x4)
        (k0_pay63 (F := Ideal) x0 x1 x2 x3 x4) 256 2 slices_S512x768_o0_256_S512x128 x (r0_10.emb x) rfl rfl rfl
    rcases List.mem_cons.mp hpc with rfl | hpc
    · exact fun x => query_piece (k0_pay67 (F := Ideal) x0 x1 x2 x3 x4) (k0_pay62 (F := Ideal) x0 x1 x2 x3 x4)
        (k0_pay63 (F := Ideal) x0 x1 x2 x3 x4) 128 1 slices_S512x768_o0_128_S512x128 x (r0_8.emb x) rfl rfl rfl
    rcases List.mem_cons.mp hpc with rfl | hpc
    · exact fun x => query_piece (k0_pay67 (F := Ideal) x0 x1 x2 x3 x4) (k0_pay62 (F := Ideal) x0 x1 x2 x3 x4)
        (k0_pay63 (F := Ideal) x0 x1 x2 x3 x4) 0 0 slices_S512x768_o0_0_S512x128 x (r0_6.emb x) rfl rfl rfl
    nomatch hpc
  · unfold k0_pay67 k0_pay61
    pointwise [pay9_apply, k0_pay62, k0_pay63, k0_pay4, k0_pay5]

/-- What a point leaves of the keys of head `h`: row `r`, lane `l`. -/
theorem key_apply (x0 : Vec Ideal S1x512x1024 .f32) (x1 : Vec Ideal S1x1024 .f32) (x2 : Vec Ideal S1024x2560 .bf16)
    (x3 x4 : Vec Ideal S512x128 .f32) (h : Fin 6) (r : Fin 512) (l : Fin 128) :
    out0_6 (F := Ideal) x0 x1 x2 x3 x4 (ix4 0 h r l)
      = turn (fun l => proj (fun k => x0 (ix3 0 r k)) (fun k => x1 (ix2 0 k))
            (fun k => x2 (ix2 k ⟨768 + (h.val * 128 + l.val), by omega⟩)))
          (fun l => x3 (ix2 r l)) (fun l => x4 (ix2 r l)) l := by
  unfold out0_6
  refine (View.canon_apply_of_pieces (fun y : S1x6x512x128.Idx =>
    turn (fun l => k0_pay68 (F := Ideal) x0 x1 x2 x3 x4 (ix2 (y 2) ⟨(y 1).val * 128 + l.val, by
            have : (y 1).val < 6 := (y 1).isLt; omega⟩))
          (fun l => k0_pay62 (F := Ideal) x0 x1 x2 x3 x4 (ix2 (y 2) l))
          (fun l => k0_pay63 (F := Ideal) x0 x1 x2 x3 x4 (ix2 (y 2) l)) (y 3)) _ ?_ _
      (cover0_6 _ _ _ _ _ _ _)).trans ?_
  · intro pc hpc
    rcases List.mem_cons.mp hpc with rfl | hpc
    · exact fun x => key_piece (k0_pay68 (F := Ideal) x0 x1 x2 x3 x4) (k0_pay62 (F := Ideal) x0 x1 x2 x3 x4)
        (k0_pay63 (F := Ideal) x0 x1 x2 x3 x4) 640 5 slices_S512x768_o0_640_S512x128 x (r0_17.emb x) rfl rfl rfl rfl
    rcases List.mem_cons.mp hpc with rfl | hpc
    · exact fun x => key_piece (k0_pay68 (F := Ideal) x0 x1 x2 x3 x4) (k0_pay62 (F := Ideal) x0 x1 x2 x3 x4)
        (k0_pay63 (F := Ideal) x0 x1 x2 x3 x4) 512 4 slices_S512x768_o0_512_S512x128 x (r0_15.emb x) rfl rfl rfl rfl
    rcases List.mem_cons.mp hpc with rfl | hpc
    · exact fun x => key_piece (k0_pay68 (F := Ideal) x0 x1 x2 x3 x4) (k0_pay62 (F := Ideal) x0 x1 x2 x3 x4)
        (k0_pay63 (F := Ideal) x0 x1 x2 x3 x4) 384 3 slices_S512x768_o0_384_S512x128 x (r0_13.emb x) rfl rfl rfl rfl
    rcases List.mem_cons.mp hpc with rfl | hpc
    · exact fun x => key_piece (k0_pay68 (F := Ideal) x0 x1 x2 x3 x4) (k0_pay62 (F := Ideal) x0 x1 x2 x3 x4)
        (k0_pay63 (F := Ideal) x0 x1 x2 x3 x4) 256 2 slices_S512x768_o0_256_S512x128 x (r0_11.emb x) rfl rfl rfl rfl
    rcases List.mem_cons.mp hpc with rfl | hpc
    · exact fun x => key_piece (k0_pay68 (F := Ideal) x0 x1 x2 x3 x4) (k0_pay62 (F := Ideal) x0 x1 x2 x3 x4)
        (k0_pay63 (F := Ideal) x0 x1 x2 x3 x4) 128 1 slices_S512x768_o0_128_S512x128 x (r0_9.emb x) rfl rfl rfl rfl
    rcases List.mem_cons.mp hpc with rfl | hpc
    · exact fun x => key_piece (k0_pay68 (F := Ideal) x0 x1 x2 x3 x4) (k0_pay62 (F := Ideal) x0 x1 x2 x3 x4)
        (k0_pay63 (F := Ideal) x0 x1 x2 x3 x4) 0 0 slices_S512x768_o0_0_S512x128 x (r0_7.emb x) rfl rfl rfl rfl
    nomatch hpc
  · unfold k0_pay68 k0_pay61
    pointwise [pay10_apply, k0_pay62, k0_pay63, k0_pay4, k0_pay5]

/-- What a point leaves of the values of head `h`: row `r`, lane `l`. -/
theorem value_apply (x0 : Vec Ideal S1x512x1024 .f32) (x1 : Vec Ideal S1x1024 .f32) (x2 : Vec Ideal S1024x2560 .bf16)
    (x3 x4 : Vec Ideal S512x128 .f32) (h : Fin 6) (r : Fin 512) (l : Fin 128) :
    out0_7 (F := Ideal) x0 x1 x2 x3 x4 (ix4 0 h r l)
      = proj (fun k => x0 (ix3 0 r k)) (fun k => x1 (ix2 0 k))
            (fun k => x2 (ix2 k ⟨1536 + (h.val * 128 + l.val), by omega⟩)) := by
  unfold out0_7
  refine (View.canon_apply_of_pieces (fun y : S1x6x512x128.Idx =>
    k0_pay69 (F := Ideal) x0 x1 x2 x3 x4 (ix2 (y 2) ⟨(y 1).val * 128 + (y 3).val, by
            have : (y 1).val < 6 := (y 1).isLt; have : (y 3).val < 128 := (y 3).isLt; omega⟩)) _ ?_ _
      (cover0_7 _ _ _ _ _ _ _)).trans ?_
  · intro pc hpc
    rcases List.mem_cons.mp hpc with rfl | hpc
    · exact fun x => value_piece (k0_pay69 (F := Ideal) x0 x1 x2 x3 x4) 640 5 slices_S512x768_o0_640_S512x128 x (r0_17.emb x) rfl rfl rfl rfl
    rcases List.mem_cons.mp hpc with rfl | hpc
    · exact fun x => value_piece (k0_pay69 (F := Ideal) x0 x1 x2 x3 x4) 512 4 slices_S512x768_o0_512_S512x128 x (r0_15.emb x) rfl rfl rfl rfl
    rcases List.mem_cons.mp hpc with rfl | hpc
    · exact fun x => value_piece (k0_pay69 (F := Ideal) x0 x1 x2 x3 x4) 384 3 slices_S512x768_o0_384_S512x128 x (r0_13.emb x) rfl rfl rfl rfl
    rcases List.mem_cons.mp hpc with rfl | hpc
    · exact fun x => value_piece (k0_pay69 (F := Ideal) x0 x1 x2 x3 x4) 256 2 slices_S512x768_o0_256_S512x128 x (r0_11.emb x) rfl rfl rfl rfl
    rcases List.mem_cons.mp hpc with rfl | hpc
    · exact fun x => value_piece (k0_pay69 (F := Ideal) x0 x1 x2 x3 x4) 128 1 slices_S512x768_o0_128_S512x128 x (r0_9.emb x) rfl rfl rfl rfl
    rcases List.mem_cons.mp hpc with rfl | hpc
    · exact fun x => value_piece (k0_pay69 (F := Ideal) x0 x1 x2 x3 x4) 0 0 slices_S512x768_o0_0_S512x128 x (r0_7.emb x) rfl rfl rfl rfl
    nomatch hpc
  · unfold k0_pay69 k0_pay61
    refine (pay11_apply _ _ _ _ _).trans ?_
    pointwise

/-- What a point leaves of the memory queries: row `r`, column `j`. -/
theorem memory_query_apply (x0 : Vec Ideal S1x512x1024 .f32) (x1 : Vec Ideal S1x1024 .f32)
    (x2 : Vec Ideal S1024x2560 .bf16) (x3 x4 : Vec Ideal S512x128 .f32) (r : Fin 512) (j : Fin 256) :
    out0_10 (F := Ideal) x0 x1 x2 x3 x4 (ix3 0 r j)
      = proj (fun k => x0 (ix3 0 r k)) (fun k => x1 (ix2 0 k)) (fun k => x2 (ix2 k ⟨2304 + j.val, by omega⟩))
          * Ideal.ofBits .f32 0x3E000000#32 := by
  have hz : (![0, 0, 0] : Fin 3 → Nat) = fun _ => 0 := funext fun a => by fin_cases a <;> rfl
  unfold out0_10
  rw [View.canon_unit_zero hz]
  unfold k0_pay61
  rw [pay2_apply]
  pointwise

end Cert.Rope

end
-- ==== Proof.Rope.Array.lean ====
/-
What the differential attention's projection leaves in its result arrays, over the extended reals.
-/
module

public import proofs.«01_k».proof.Proof.Gen.Kernel4Ideal.Value
public import proofs.«01_k».proof.Proof.Rope.Block
public import Idealize.ShloMosaic.Lib.StableHlo.Run

@[expose] public section

set_option maxRecDepth 16384

noncomputable section

namespace Cert.Rope

open Idealize.ShloMosaic Idealize.ShloMosaic.TcCoe Idealize.SL.Sem Cert.Kernel4Ideal Cert.Kernel4Ideal.Gen
open Idealize.ShloMosaic.Pipeline (Dat)

variable (m : (ℓ : Loc nD τ sig) → Buf (Elt Ideal) ℓ)

/-- The weights, as the call reads them. -/
theorem V_weights (c : Dev nD) : (V m c main_v28 : Vec Ideal S1024x2560 .bf16)
    = truncf (F := Ideal) .bf16 (m ((c : Thread nD τ).loc main_arg2) : Vec Ideal S1024x2560 .f32) bitsLt_bf16_f32 := by
  show StableHlo.after hostOps0 (fun b => m (c, b)) (Proc.devRef .tc main_v28) = _
  after_results_simp

/-- The gain, as a row. -/
theorem V_gain (c : Dev nD) : (V m c main_v27 : Vec Ideal S1x1024 .f32)
    = shapeCast S1x1024 (m ((c : Thread nD τ).loc main_arg1)) shapeCasts_S1024_S1x1024 := by
  show StableHlo.after hostOps0 (fun b => m (c, b)) (Proc.devRef .tc main_v27) = _
  after_results_simp
  rfl

/-- The frequencies, one per pair of lanes. -/
def freqs : FVec Ideal S32 .f32 :=
  Host.powf (broadcastInDim S32 ![] bcast_S_S32 (constant S_ .f32 0x461C4000#32))
    (Host.divf (Host.negf (addf (broadcastInDim S32 ![] bcast_S_S32 (constant S_ .f32 0x00000000#32))
        (mulf (broadcastInDim S32 ![] bcast_S_S32 (constant S_ .f32 0x40000000#32)) (sitofp .f32 (iotaInDim S32 32 0)))))
      (broadcastInDim S32 ![] bcast_S_S32 (constant S_ .f32 0x42800000#32)))

/-- The angles, position by frequency. -/
def angles : FVec Ideal S4096x32 .f32 :=
  mulf (broadcastInDim S4096x32 ![0, 1] bcast_S4096x1_S4096x32_0_1
      (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 freqs))

/-- The table of cosines, the 32 of a position four times over. -/
def cosines : FVec Ideal S4096x128 .f32 :=
  shapeCast S4096x128 (broadcastInDim S1x4096x4x32 ![0, 1, 2, 3] bcast_S1x4096x1x32_S1x4096x4x32_0_1_2_3
    (shapeCast S1x4096x1x32 (Host.cos angles) shapeCasts_S4096x32_S1x4096x1x32)) shapeCasts_S1x4096x4x32_S4096x128

/-- The table of signed sines, the 32 of a position four times over, negated the first and third time. -/
def sines : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x32, Host.negf (Host.sin angles)⟩, ⟨S4096x32, Host.sin angles⟩]
      concatenates_S4096x32_S4096x32_S4096x64_d1) shapeCasts_S4096x64_S1x4096x1x64)) shapeCasts_S1x4096x2x64_S4096x128

theorem V_cos (c : Dev nD) : (V m c main_v21 : Vec Ideal S4096x128 .f32) = cosines := by
  show StableHlo.after hostOps0 (fun b => m (c, b)) (Proc.devRef .tc main_v21) = _
  after_results_simp
  rfl

theorem V_sin (c : Dev nD) : (V m c main_v26 : Vec Ideal S4096x128 .f32) = sines := by
  show StableHlo.after hostOps0 (fun b => m (c, b)) (Proc.devRef .tc main_v26) = _
  after_results_simp
  rfl

theorem angles_apply (p : Fin 4096) (e : Fin 32) : angles (ix2 p e) = angle p e := by
  pointwise [angles, freqs]
  rfl

theorem cosines_apply (p : Fin 4096) (l : Fin 128) : cosines (ix2 p l) = cosAt p l := by
  pointwise [cosines]
  rw [angles_apply]
  rfl

theorem sines_apply (p : Fin 4096) (l : Fin 128) : sines (ix2 p l) = sinAt p l := by
  pointwise [sines]
  simp only [angles_apply]
  unfold sinAt
  split
  · congr 4
    show l.val % 64 = l.val % 32
    omega
  · congr 3
    show l.val % 64 - 32 = l.val % 32
    omega

/-- Where each window's block lies at a point: point `t` works on batch `t / 8` and rows `512 (t mod 8)` on. -/
theorem index_facts : ∀ t : Fin grid0.N,
    (win0_0.index t 0 = t.val / 8 ∧ win0_0.index t 1 = t.val % 8 ∧ win0_0.index t 2 = 0)
      ∧ (win0_1.index t 0 = 0 ∧ win0_1.index t 1 = 0)
      ∧ (win0_2.index t 0 = 0 ∧ win0_2.index t 1 = 0)
      ∧ (win0_3.index t 0 = t.val % 8 ∧ win0_3.index t 1 = 0)
      ∧ (win0_4.index t 0 = t.val % 8 ∧ win0_4.index t 1 = 0)
      ∧ (win0_5.index t 0 = t.val / 8 ∧ win0_5.index t 1 = t.val % 8 ∧ win0_5.index t 2 = 0)
      ∧ (win0_6.index t 0 = t.val / 8 ∧ win0_6.index t 1 = 0 ∧ win0_6.index t 2 = t.val % 8 ∧ win0_6.index t 3 = 0)
      ∧ (win0_7.index t 0 = t.val / 8 ∧ win0_7.index t 1 = 0 ∧ win0_7.index t 2 = t.val % 8 ∧ win0_7.index t 3 = 0)
      ∧ (win0_10.index t 0 = t.val / 8 ∧ win0_10.index t 1 = t.val % 8 ∧ win0_10.index t 2 = 0) := by
  decide +kernel

/-- The row of the projection at batch `b` and position `p`, through column `n`. -/
def entry (c : Dev nD) (b : Fin 4) (p : Fin 4096) (n : Fin 2560) : EReal :=
  proj (fun k => m ((c : Thread nD τ).loc main_arg0) (ix3 b p k))
    (fun k => m ((c : Thread nD τ).loc main_arg1) (ix1 k)) (fun k => m ((c : Thread nD τ).loc main_arg2) (ix2 k n))

/-- The queries, turned and scaled, at batch `b`, position `p` and column `j`. -/
def query (c : Dev nD) (b : Fin 4) (p : Fin 4096) (j : Fin 768) : EReal :=
  turn (fun l => entry m c b p ⟨j.val / 128 * 128 + l.val, by omega⟩) (cosAt p) (sinAt p)
      ⟨j.val % 128, Nat.mod_lt _ (by decide)⟩
    * Named.named (F := Ideal) (φ := .f32) κ "log2e_8" 0x3E38AA3B#32

/-- The keys, turned, at batch `b`, head `h`, position `p` and lane `l`. -/
def key (c : Dev nD) (b : Fin 4) (h : Fin 6) (p : Fin 4096) (l : Fin 128) : EReal :=
  turn (fun l => entry m c b p ⟨768 + (h.val * 128 + l.val), by omega⟩) (cosAt p) (sinAt p) l

/-- The values at batch `b`, head `h`, position `p` and lane `l`. -/
def value (c : Dev nD) (b : Fin 4) (h : Fin 6) (p : Fin 4096) (l : Fin 128) : EReal :=
  entry m c b p ⟨1536 + (h.val * 128 + l.val), by omega⟩

/-- The memory queries, scaled, at batch `b`, position `p` and column `j`. -/
def memoryQuery (c : Dev nD) (b : Fin 4) (p : Fin 4096) (j : Fin 256) : EReal :=
  entry m c b p ⟨2304 + j.val, by omega⟩ * Ideal.ofBits .f32 0x3E000000#32

def queries (c : Dev nD) : Buf (Elt Ideal) ((c : Thread nD τ).loc main_v29_0) := fun (i : S4x4096x768.Idx) =>
  query m c (i 0) (i 1) (i 2)

def keys (c : Dev nD) : Buf (Elt Ideal) ((c : Thread nD τ).loc main_v29_1) := fun (i : S4x6x4096x128.Idx) =>
  key m c (i 0) (i 1) (i 2) (i 3)

def values (c : Dev nD) : Buf (Elt Ideal) ((c : Thread nD τ).loc main_v29_2) := fun (i : S4x6x4096x128.Idx) =>
  value m c (i 0) (i 1) (i 2) (i 3)

def memoryQueries (c : Dev nD) : Buf (Elt Ideal) ((c : Thread nD τ).loc main_v29_5) := fun (i : S4x4096x256.Idx) =>
  memoryQuery m c (i 0) (i 1) (i 2)

/-- The batch a point works on. -/
def batch (t : Fin cfg0.N) : Fin 4 := ⟨t.val / 8, by have h : t.val < 32 := t.isLt; omega⟩

/-- The position of row `r` of a point's block. -/
def position (t : Fin cfg0.N) (r : Fin 512) : Fin 4096 := ⟨t.val % 8 * 512 + r.val, by omega⟩

theorem block_rows (c : Dev nD) (t : Fin cfg0.N) (r : Fin 512) (k : Fin 1024) :
    (iblk m c 0 t : Vec Ideal S1x512x1024 .f32) (ix3 0 r k)
      = m ((c : Thread nD τ).loc main_arg0) (ix3 (batch t) (position t r) k) := by
  obtain ⟨⟨h0, h1, h2⟩, -⟩ := index_facts t
  unfold iblk
  rw [View.read_apply]
  show V m c main_arg0 _ = _
  rw [V_main_arg0]
  congr 1
  funext a
  apply Fin.ext
  match a with
  | ⟨0, _⟩ => show win0_0.index t 0 * 1 + 1 * 0 = t.val / 8; omega
  | ⟨1, _⟩ => show win0_0.index t 1 * 512 + 1 * r.val = t.val % 8 * 512 + r.val; omega
  | ⟨2, _⟩ => show win0_0.index t 2 * 1024 + 1 * k.val = k.val; omega

theorem block_gain (c : Dev nD) (t : Fin cfg0.N) (k : Fin 1024) :
    (iblk m c 1 t : Vec Ideal S1x1024 .f32) (ix2 0 k) = m ((c : Thread nD τ).loc main_arg1) (ix1 k) := by
  obtain ⟨-, ⟨h0, h1⟩, -⟩ := index_facts t
  unfold iblk
  rw [View.read_apply]
  show V m c main_v27 _ = _
  rw [V_gain]
  have e : ∀ j : S1x1024.Idx, j = ix2 (0 : Fin 1) k →
      shapeCast S1x1024 (m ((c : Thread nD τ).loc main_arg1) : Vec Ideal S1024 .f32)
        shapeCasts_S1024_S1x1024 j = m ((c : Thread nD τ).loc main_arg1) (ix1 k) := by
    intro j hj; subst hj; pointwise
  rw [e]
  funext a
  apply Fin.ext
  match a with
  | ⟨0, _⟩ => show win0_1.index t 0 * 1 + 1 * 0 = 0; omega
  | ⟨1, _⟩ => show win0_1.index t 1 * 1024 + 1 * k.val = k.val; omega

theorem block_weights (c : Dev nD) (t : Fin cfg0.N) (k : Fin 1024) (n : Fin 2560) :
    (iblk m c 2 t : Vec Ideal S1024x2560 .bf16) (ix2 k n) = m ((c : Thread nD τ).loc main_arg2) (ix2 k n) := by
  obtain ⟨-, -, ⟨h0, h1⟩, -⟩ := index_facts t
  unfold iblk
  rw [View.read_apply]
  show V m c main_v28 _ = _
  rw [V_weights]
  show m ((c : Thread nD τ).loc main_arg2) _ = _
  congr 1
  funext a
  apply Fin.ext
  match a with
  | ⟨0, _⟩ => show win0_2.index t 0 * 1024 + 1 * k.val = k.val; omega
  | ⟨1, _⟩ => show win0_2.index t 1 * 2560 + 1 * n.val = n.val; omega

theorem block_cos (c : Dev nD) (t : Fin cfg0.N) (r : Fin 512) (l : Fin 128) :
    (iblk m c 3 t : Vec Ideal S512x128 .f32) (ix2 r l) = cosAt (position t r) l := by
  obtain ⟨-, -, -, ⟨h0, h1⟩, -⟩ := index_facts t
  unfold iblk
  rw [View.read_apply]
  show V m c main_v21 _ = _
  rw [V_cos, ← cosines_apply]
  congr 1
  funext a
  apply Fin.ext
  match a with
  | ⟨0, _⟩ => show win0_3.index t 0 * 512 + 1 * r.val = t.val % 8 * 512 + r.val; omega
  | ⟨1, _⟩ => show win0_3.index t 1 * 128 + 1 * l.val = l.val; omega

theorem block_sin (c : Dev nD) (t : Fin cfg0.N) (r : Fin 512) (l : Fin 128) :
    (iblk m c 4 t : Vec Ideal S512x128 .f32) (ix2 r l) = sinAt (position t r) l := by
  obtain ⟨-, -, -, -, ⟨h0, h1⟩, -⟩ := index_facts t
  unfold iblk
  rw [View.read_apply]
  show V m c main_v26 _ = _
  rw [V_sin, ← sines_apply]
  congr 1
  funext a
  apply Fin.ext
  match a with
  | ⟨0, _⟩ => show win0_4.index t 0 * 512 + 1 * r.val = t.val % 8 * 512 + r.val; omega
  | ⟨1, _⟩ => show win0_4.index t 1 * 128 + 1 * l.val = l.val; omega

/-- What a point writes back to the array of queries is that array read through its block. -/
theorem flushed_queries (c : Dev nD) (t : Fin cfg0.N) (_ : (cfg0.win 5).flush t = true) :
    (dats m 0 c).flushed 5 t = ((cfg0.win 5).blk t).view.read (Elt Ideal) (queries m c) := by
  have ⟨h0, h1, h2⟩ : win0_5.index t 0 = t.val / 8 ∧ win0_5.index t 1 = t.val % 8 ∧ win0_5.index t 2 = 0 := by
    have := index_facts t; tauto
  rw [Value.flushed5]
  refine funext fun (j : S1x512x768.Idx) => ?_
  obtain ⟨a, r, n, rfl⟩ : ∃ (a : Fin 1) (r : Fin 512) (n : Fin 768), j = ix3 a r n := ⟨_, _, _, eq_ix3 j⟩
  obtain rfl : a = 0 := Subsingleton.elim _ _
  rw [View.read_apply]
  have e : (((cfg0.win 5).blk t).view.emb (ix3 0 r n : S1x512x768.Idx) : S4x4096x768.Idx)
      = ix3 (batch t) (position t r) n := by
    funext a
    apply Fin.ext
    match a with
    | ⟨0, _⟩ => show win0_5.index t 0 * 1 + 1 * 0 = t.val / 8; omega
    | ⟨1, _⟩ => show win0_5.index t 1 * 512 + 1 * r.val = t.val % 8 * 512 + r.val; omega
    | ⟨2, _⟩ => show win0_5.index t 2 * 768 + 1 * n.val = n.val; omega
  show out0_5 _ _ _ _ _ (ix3 0 r n) = queries m c _
  rw [e, query_apply]
  simp only [block_rows, block_gain, block_weights, block_cos, block_sin]
  rfl

/-- So the array ends holding the queries. -/
theorem final_queries (c : Dev nD) : (dats m 0 c).arrAt 5 cfg0.N = queries m c :=
  (dats m 0 c).arrAt_eq_of_cover 5 (queries m c) (flushed_queries m c) fun (i : S4x4096x768.Idx) => by
    have e0 : (i 0).val < 4 := (i 0).isLt
    have e1 : (i 1).val < 4096 := (i 1).isLt
    have e2 : (i 2).val < 768 := (i 2).isLt
    have hN : cfg0.N = 32 := by decide
    let t : Fin cfg0.N := ⟨(i 0).val * 8 + (i 1).val / 512, by omega⟩
    have ⟨h0, h1, h2⟩ : win0_5.index t 0 = t.val / 8 ∧ win0_5.index t 1 = t.val % 8 ∧ win0_5.index t 2 = 0 := by
      have := index_facts t; tauto
    refine ⟨t, flush0_5 t, ?_⟩
    show i ∈ ((View.whole main_v29_0).slice (win0_5.rect t)).set
    rw [View.set_slice_whole, Rect.mem_set_unit]
    have ht : t.val = (i 0).val * 8 + (i 1).val / 512 := rfl
    intro a
    match a with
    | ⟨0, _⟩ => show win0_5.index t 0 * 1 ≤ (i 0).val ∧ (i 0).val < win0_5.index t 0 * 1 + 1; omega
    | ⟨1, _⟩ => show win0_5.index t 1 * 512 ≤ (i 1).val ∧ (i 1).val < win0_5.index t 1 * 512 + 512; omega
    | ⟨2, _⟩ => show win0_5.index t 2 * 768 ≤ (i 2).val ∧ (i 2).val < win0_5.index t 2 * 768 + 768; omega

/-- What a point writes back to the array of keys is that array read through its block. -/
theorem flushed_keys (c : Dev nD) (t : Fin cfg0.N) (_ : (cfg0.win 6).flush t = true) :
    (dats m 0 c).flushed 6 t = ((cfg0.win 6).blk t).view.read (Elt Ideal) (keys m c) := by
  have ⟨h0, h1, h2, h3⟩ : win0_6.index t 0 = t.val / 8 ∧ win0_6.index t 1 = 0 ∧ win0_6.index t 2 = t.val % 8
      ∧ win0_6.index t 3 = 0 := by
    have := index_facts t; tauto
  rw [Value.flushed6]
  refine funext fun (j : S1x6x512x128.Idx) => ?_
  obtain ⟨a, h, r, l, rfl⟩ : ∃ (a : Fin 1) (h : Fin 6) (r : Fin 512) (l : Fin 128), j = ix4 a h r l :=
    ⟨_, _, _, _, eq_ix4 j⟩
  obtain rfl : a = 0 := Subsingleton.elim _ _
  rw [View.read_apply]
  have e : (((cfg0.win 6).blk t).view.emb (ix4 0 h r l : S1x6x512x128.Idx) : S4x6x4096x128.Idx)
      = ix4 (batch t) h (position t r) l := by
    funext a
    apply Fin.ext
    match a with
    | ⟨0, _⟩ => show win0_6.index t 0 * 1 + 1 * 0 = t.val / 8; omega
    | ⟨1, _⟩ => show win0_6.index t 1 * 6 + 1 * h.val = h.val; omega
    | ⟨2, _⟩ => show win0_6.index t 2 * 512 + 1 * r.val = t.val % 8 * 512 + r.val; omega
    | ⟨3, _⟩ => show win0_6.index t 3 * 128 + 1 * l.val = l.val; omega
  show out0_6 _ _ _ _ _ (ix4 0 h r l) = keys m c _
  rw [e, key_apply]
  simp only [block_rows, block_gain, block_weights, block_cos, block_sin]
  rfl

/-- So the array ends holding the keys. -/
theorem final_keys (c : Dev nD) : (dats m 0 c).arrAt 6 cfg0.N = keys m c :=
  (dats m 0 c).arrAt_eq_of_cover 6 (keys m c) (flushed_keys m c) fun (i : S4x6x4096x128.Idx) => by
    have e0 : (i 0).val < 4 := (i 0).isLt
    have e1 : (i 1).val < 6 := (i 1).isLt
    have e2 : (i 2).val < 4096 := (i 2).isLt
    have e3 : (i 3).val < 128 := (i 3).isLt
    have hN : cfg0.N = 32 := by decide
    let t : Fin cfg0.N := ⟨(i 0).val * 8 + (i 2).val / 512, by omega⟩
    have ⟨h0, h1, h2, h3⟩ : win0_6.index t 0 = t.val / 8 ∧ win0_6.index t 1 = 0 ∧ win0_6.index t 2 = t.val % 8
      ∧ win0_6.index t 3 = 0 := by
      have := index_facts t; tauto
    refine ⟨t, flush0_6 t, ?_⟩
    show i ∈ ((View.whole main_v29_1).slice (win0_6.rect t)).set
    rw [View.set_slice_whole, Rect.mem_set_unit]
    have ht : t.val = (i 0).val * 8 + (i 2).val / 512 := rfl
    intro a
    match a with
    | ⟨0, _⟩ => show win0_6.index t 0 * 1 ≤ (i 0).val ∧ (i 0).val < win0_6.index t 0 * 1 + 1; omega
    | ⟨1, _⟩ => show win0_6.index t 1 * 6 ≤ (i 1).val ∧ (i 1).val < win0_6.index t 1 * 6 + 6; omega
    | ⟨2, _⟩ => show win0_6.index t 2 * 512 ≤ (i 2).val ∧ (i 2).val < win0_6.index t 2 * 512 + 512; omega
    | ⟨3, _⟩ => show win0_6.index t 3 * 128 ≤ (i 3).val ∧ (i 3).val < win0_6.index t 3 * 128 + 128; omega

/-- What a point writes back to the array of values is that array read through its block. -/
theorem flushed_values (c : Dev nD) (t : Fin cfg0.N) (_ : (cfg0.win 7).flush t = true) :
    (dats m 0 c).flushed 7 t = ((cfg0.win 7).blk t).view.read (Elt Ideal) (values m c) := by
  have ⟨h0, h1, h2, h3⟩ : win0_7.index t 0 = t.val / 8 ∧ win0_7.index t 1 = 0 ∧ win0_7.index t 2 = t.val % 8
      ∧ win0_7.index t 3 = 0 := by
    have := index_facts t; tauto
  rw [Value.flushed7]
  refine funext fun (j : S1x6x512x128.Idx) => ?_
  obtain ⟨a, h, r, l, rfl⟩ : ∃ (a : Fin 1) (h : Fin 6) (r : Fin 512) (l : Fin 128), j = ix4 a h r l :=
    ⟨_, _, _, _, eq_ix4 j⟩
  obtain rfl : a = 0 := Subsingleton.elim _ _
  rw [View.read_apply]
  have e : (((cfg0.win 7).blk t).view.emb (ix4 0 h r l : S1x6x512x128.Idx) : S4x6x4096x128.Idx)
      = ix4 (batch t) h (position t r) l := by
    funext a
    apply Fin.ext
    match a with
    | ⟨0, _⟩ => show win0_7.index t 0 * 1 + 1 * 0 = t.val / 8; omega
    | ⟨1, _⟩ => show win0_7.index t 1 * 6 + 1 * h.val = h.val; omega
    | ⟨2, _⟩ => show win0_7.index t 2 * 512 + 1 * r.val = t.val % 8 * 512 + r.val; omega
    | ⟨3, _⟩ => show win0_7.index t 3 * 128 + 1 * l.val = l.val; omega
  show out0_7 _ _ _ _ _ (ix4 0 h r l) = values m c _
  rw [e, value_apply]
  simp only [block_rows, block_gain, block_weights, block_cos, block_sin]
  rfl

/-- So the array ends holding the values. -/
theorem final_values (c : Dev nD) : (dats m 0 c).arrAt 7 cfg0.N = values m c :=
  (dats m 0 c).arrAt_eq_of_cover 7 (values m c) (flushed_values m c) fun (i : S4x6x4096x128.Idx) => by
    have e0 : (i 0).val < 4 := (i 0).isLt
    have e1 : (i 1).val < 6 := (i 1).isLt
    have e2 : (i 2).val < 4096 := (i 2).isLt
    have e3 : (i 3).val < 128 := (i 3).isLt
    have hN : cfg0.N = 32 := by decide
    let t : Fin cfg0.N := ⟨(i 0).val * 8 + (i 2).val / 512, by omega⟩
    have ⟨h0, h1, h2, h3⟩ : win0_7.index t 0 = t.val / 8 ∧ win0_7.index t 1 = 0 ∧ win0_7.index t 2 = t.val % 8
      ∧ win0_7.index t 3 = 0 := by
      have := index_facts t; tauto
    refine ⟨t, flush0_7 t, ?_⟩
    show i ∈ ((View.whole main_v29_2).slice (win0_7.rect t)).set
    rw [View.set_slice_whole, Rect.mem_set_unit]
    have ht : t.val = (i 0).val * 8 + (i 2).val / 512 := rfl
    intro a
    match a with
    | ⟨0, _⟩ => show win0_7.index t 0 * 1 ≤ (i 0).val ∧ (i 0).val < win0_7.index t 0 * 1 + 1; omega
    | ⟨1, _⟩ => show win0_7.index t 1 * 6 ≤ (i 1).val ∧ (i 1).val < win0_7.index t 1 * 6 + 6; omega
    | ⟨2, _⟩ => show win0_7.index t 2 * 512 ≤ (i 2).val ∧ (i 2).val < win0_7.index t 2 * 512 + 512; omega
    | ⟨3, _⟩ => show win0_7.index t 3 * 128 ≤ (i 3).val ∧ (i 3).val < win0_7.index t 3 * 128 + 128; omega

/-- What a point writes back to the array of memory queries is that array read through its block. -/
theorem flushed_memoryQueries (c : Dev nD) (t : Fin cfg0.N) (_ : (cfg0.win 10).flush t = true) :
    (dats m 0 c).flushed 10 t = ((cfg0.win 10).blk t).view.read (Elt Ideal) (memoryQueries m c) := by
  have ⟨h0, h1, h2⟩ : win0_10.index t 0 = t.val / 8 ∧ win0_10.index t 1 = t.val % 8 ∧ win0_10.index t 2 = 0 := by
    have := index_facts t; tauto
  rw [Value.flushed10]
  refine funext fun (j : S1x512x256.Idx) => ?_
  obtain ⟨a, r, n, rfl⟩ : ∃ (a : Fin 1) (r : Fin 512) (n : Fin 256), j = ix3 a r n := ⟨_, _, _, eq_ix3 j⟩
  obtain rfl : a = 0 := Subsingleton.elim _ _
  rw [View.read_apply]
  have e : (((cfg0.win 10).blk t).view.emb (ix3 0 r n : S1x512x256.Idx) : S4x4096x256.Idx)
      = ix3 (batch t) (position t r) n := by
    funext a
    apply Fin.ext
    match a with
    | ⟨0, _⟩ => show win0_10.index t 0 * 1 + 1 * 0 = t.val / 8; omega
    | ⟨1, _⟩ => show win0_10.index t 1 * 512 + 1 * r.val = t.val % 8 * 512 + r.val; omega
    | ⟨2, _⟩ => show win0_10.index t 2 * 256 + 1 * n.val = n.val; omega
  show out0_10 _ _ _ _ _ (ix3 0 r n) = memoryQueries m c _
  rw [e, memory_query_apply]
  simp only [block_rows, block_gain, block_weights, block_cos, block_sin]
  rfl

/-- So the array ends holding the memory queries. -/
theorem final_memoryQueries (c : Dev nD) : (dats m 0 c).arrAt 10 cfg0.N = memoryQueries m c :=
  (dats m 0 c).arrAt_eq_of_cover 10 (memoryQueries m c) (flushed_memoryQueries m c) fun (i : S4x4096x256.Idx) => by
    have e0 : (i 0).val < 4 := (i 0).isLt
    have e1 : (i 1).val < 4096 := (i 1).isLt
    have e2 : (i 2).val < 256 := (i 2).isLt
    have hN : cfg0.N = 32 := by decide
    let t : Fin cfg0.N := ⟨(i 0).val * 8 + (i 1).val / 512, by omega⟩
    have ⟨h0, h1, h2⟩ : win0_10.index t 0 = t.val / 8 ∧ win0_10.index t 1 = t.val % 8 ∧ win0_10.index t 2 = 0 := by
      have := index_facts t; tauto
    refine ⟨t, flush0_10 t, ?_⟩
    show i ∈ ((View.whole main_v29_5).slice (win0_10.rect t)).set
    rw [View.set_slice_whole, Rect.mem_set_unit]
    have ht : t.val = (i 0).val * 8 + (i 1).val / 512 := rfl
    intro a
    match a with
    | ⟨0, _⟩ => show win0_10.index t 0 * 1 ≤ (i 0).val ∧ (i 0).val < win0_10.index t 0 * 1 + 1; omega
    | ⟨1, _⟩ => show win0_10.index t 1 * 512 ≤ (i 1).val ∧ (i 1).val < win0_10.index t 1 * 512 + 512; omega
    | ⟨2, _⟩ => show win0_10.index t 2 * 256 ≤ (i 2).val ∧ (i 2).val < win0_10.index t 2 * 256 + 256; omega

end Cert.Rope

end
-- ==== Proof.Rope.Turned.lean ====
/-
The projection and the turned heads of the differential attention's reference, over the extended reals.
-/
module

public import proofs.«01_k».proof.Proof.Gen.Reference4Ideal.Read
public import proofs.«01_k».proof.Proof.Rope.Block

@[expose] public section

set_option maxRecDepth 16384

noncomputable section

namespace Cert.Rope

open Idealize.ShloMosaic Cert.Rows Cert.Reference4Ideal Cert.Reference4Ideal.Gen Cert.Reference4Ideal.Read

/-- The projection. -/
theorem v14_apply (x0 : Vec Ideal S4x4096x1024 .f32) (x1 : Vec Ideal S1024 .f32) (x2 : Vec Ideal S1024x2560 .f32)
    (b : Fin 4) (p : Fin 4096) (n : Fin 2560) : val_main_v14 (F := Ideal) x0 x1 x2 (ix3 b p n)
      = proj (fun k => x0 (ix3 b p k)) (fun k => x1 (ix1 k)) (fun k => x2 (ix2 k n)) := by
  pointwise [val_main_v1, val_main_v2, val_main_v3, val_main_v4, val_main_v5, val_main_v6, val_main_v7,
    val_main_v8, val_main_v9, val_main_v10, val_main_v11, val_main_v12, val_main_v13, val_main_v14,
    val_main_cst, val_main_cst_0, val_main_cst_1]
  rfl

/-- The angles of the queries. -/
theorem v32_apply (p : Fin 4096) (e : Fin 32) : val_main_v32 (F := Ideal) (ix2 p e) = angle p e := by
  pointwise [val_main_v0, val_main_v17, val_main_v18, val_main_v19, val_main_v20, val_main_v21, val_main_v22,
    val_main_v23, val_main_v24, val_main_v25, val_main_v26, val_main_v27, val_main_v28, val_main_v29, val_main_v30,
    val_main_v31, val_main_v32, val_main_cst_2, val_main_cst_3, val_main_cst_4, val_main_cst_5]
  rfl

/-- The angles of the keys. -/
theorem v71_apply (p : Fin 4096) (e : Fin 32) : val_main_v71 (F := Ideal) (ix2 p e) = angle p e := by
  pointwise [val_main_v0, val_main_v56, val_main_v57, val_main_v58, val_main_v59, val_main_v60, val_main_v61,
    val_main_v62, val_main_v63, val_main_v64, val_main_v65, val_main_v66, val_main_v67, val_main_v68, val_main_v69,
    val_main_v70, val_main_v71, val_main_cst_6, val_main_cst_7, val_main_cst_8, val_main_cst_9]
  rfl

/-- The queries, 64 lanes at a time. -/
theorem v16_apply (x0 : Vec Ideal S4x4096x1024 .f32) (x1 : Vec Ideal S1024 .f32) (x2 : Vec Ideal S1024x2560 .f32)
    (b : Fin 4) (p : Fin 4096) (g : Fin 12) (e : Fin 64) : val_main_v16 (F := Ideal) x0 x1 x2 (ix4 b p g e)
      = val_main_v14 (F := Ideal) x0 x1 x2 (ix3 b p ⟨(g.val * 64 + e.val), by omega⟩) := by
  pointwise [val_main_v15, val_main_v16]

/-- The first half of the turned queries. -/
theorem v45_apply (x0 : Vec Ideal S4x4096x1024 .f32) (x1 : Vec Ideal S1024 .f32) (x2 : Vec Ideal S1024x2560 .f32)
    (b : Fin 4) (p : Fin 4096) (g : Fin 12) (e : Fin 32) : val_main_v45 (F := Ideal) x0 x1 x2 (ix4 b p g e)
      = val_main_v16 (F := Ideal) x0 x1 x2 (ix4 b p g ⟨e.val, by omega⟩) * Ideal.cos (angle p e)
        - val_main_v16 (F := Ideal) x0 x1 x2 (ix4 b p g ⟨32 + e.val, by omega⟩) * Ideal.sin (angle p e) := by
  pointwise [val_main_v37, val_main_v38, val_main_v33, val_main_v34, val_main_v35, val_main_v36, val_main_v39, val_main_v40, val_main_v42, val_main_v43, val_main_v41, val_main_v44, val_main_v45]
  rw [v32_apply]

/-- The second half of the turned queries. -/
theorem v52_apply (x0 : Vec Ideal S4x4096x1024 .f32) (x1 : Vec Ideal S1024 .f32) (x2 : Vec Ideal S1024x2560 .f32)
    (b : Fin 4) (p : Fin 4096) (g : Fin 12) (e : Fin 32) : val_main_v52 (F := Ideal) x0 x1 x2 (ix4 b p g e)
      = val_main_v16 (F := Ideal) x0 x1 x2 (ix4 b p g ⟨e.val, by omega⟩) * Ideal.sin (angle p e)
        + val_main_v16 (F := Ideal) x0 x1 x2 (ix4 b p g ⟨32 + e.val, by omega⟩) * Ideal.cos (angle p e) := by
  pointwise [val_main_v37, val_main_v38, val_main_v33, val_main_v34, val_main_v35, val_main_v36, val_main_v49, val_main_v50, val_main_v46, val_main_v47, val_main_v48, val_main_v51, val_main_v52]
  rw [v32_apply]

/-- The turned queries: both halves. -/
theorem v53_apply (x0 : Vec Ideal S4x4096x1024 .f32) (x1 : Vec Ideal S1024 .f32) (x2 : Vec Ideal S1024x2560 .f32)
    (b : Fin 4) (p : Fin 4096) (h : Fin 6) (l : Fin 128) :
    val_main_v53 (F := Ideal) x0 x1 x2 (ix4 b p ⟨h.val * 2 + l.val / 64, by omega⟩ ⟨l.val % 64, by omega⟩)
      = turn (fun l => val_main_v14 (F := Ideal) x0 x1 x2 (ix3 b p ⟨(h.val * 128 + l.val), by omega⟩))
          (cosAt p) (sinAt p) l := by
  pointwise [val_main_v53]
  unfold turn cosAt sinAt partner
  by_cases hl : l.val % 64 < 32
  · have e1 : (h.val * 2 + l.val / 64) * 64 + l.val % 64 = h.val * 128 + l.val := by omega
    have e2 : (h.val * 2 + l.val / 64) * 64 + (32 + l.val % 64) = h.val * 128 + (l.val + 32) % 128 := by omega
    have e3 : l.val % 64 = l.val % 32 := by omega
    rw [e3] at e1 e2
    simp only [hl, if_true, dite_true]
    simp only [v45_apply, v16_apply, e3, e1, e2]
    rw [sub_eq_add_neg, mul_neg]
  · have e1 : (h.val * 2 + l.val / 64) * 64 + (32 + (l.val % 64 - 32)) = h.val * 128 + l.val := by omega
    have e2 : (h.val * 2 + l.val / 64) * 64 + (l.val % 64 - 32) = h.val * 128 + (l.val - 32) := by omega
    have e3 : l.val % 64 - 32 = l.val % 32 := by omega
    rw [e3] at e1 e2
    simp only [hl, if_false, dite_false, v52_apply, v16_apply, e3, e1, e2]
    exact add_comm _ _

/-- The keys, 64 lanes at a time. -/
theorem v55_apply (x0 : Vec Ideal S4x4096x1024 .f32) (x1 : Vec Ideal S1024 .f32) (x2 : Vec Ideal S1024x2560 .f32)
    (b : Fin 4) (p : Fin 4096) (g : Fin 12) (e : Fin 64) : val_main_v55 (F := Ideal) x0 x1 x2 (ix4 b p g e)
      = val_main_v14 (F := Ideal) x0 x1 x2 (ix3 b p ⟨768 + (g.val * 64 + e.val), by omega⟩) := by
  pointwise [val_main_v54, val_main_v55]

/-- The first half of the turned keys. -/
theorem v84_apply (x0 : Vec Ideal S4x4096x1024 .f32) (x1 : Vec Ideal S1024 .f32) (x2 : Vec Ideal S1024x2560 .f32)
    (b : Fin 4) (p : Fin 4096) (g : Fin 12) (e : Fin 32) : val_main_v84 (F := Ideal) x0 x1 x2 (ix4 b p g e)
      = val_main_v55 (F := Ideal) x0 x1 x2 (ix4 b p g ⟨e.val, by omega⟩) * Ideal.cos (angle p e)
        - val_main_v55 (F := Ideal) x0 x1 x2 (ix4 b p g ⟨32 + e.val, by omega⟩) * Ideal.sin (angle p e) := by
  pointwise [val_main_v76, val_main_v77, val_main_v72, val_main_v73, val_main_v74, val_main_v75, val_main_v78, val_main_v79, val_main_v81, val_main_v82, val_main_v80, val_main_v83, val_main_v84]
  rw [v71_apply]

/-- The second half of the turned keys. -/
theorem v91_apply (x0 : Vec Ideal S4x4096x1024 .f32) (x1 : Vec Ideal S1024 .f32) (x2 : Vec Ideal S1024x2560 .f32)
    (b : Fin 4) (p : Fin 4096) (g : Fin 12) (e : Fin 32) : val_main_v91 (F := Ideal) x0 x1 x2 (ix4 b p g e)
      = val_main_v55 (F := Ideal) x0 x1 x2 (ix4 b p g ⟨e.val, by omega⟩) * Ideal.sin (angle p e)
        + val_main_v55 (F := Ideal) x0 x1 x2 (ix4 b p g ⟨32 + e.val, by omega⟩) * Ideal.cos (angle p e) := by
  pointwise [val_main_v76, val_main_v77, val_main_v72, val_main_v73, val_main_v74, val_main_v75, val_main_v88, val_main_v89, val_main_v85, val_main_v86, val_main_v87, val_main_v90, val_main_v91]
  rw [v71_apply]

/-- The turned keys: both halves. -/
theorem v92_apply (x0 : Vec Ideal S4x4096x1024 .f32) (x1 : Vec Ideal S1024 .f32) (x2 : Vec Ideal S1024x2560 .f32)
    (b : Fin 4) (p : Fin 4096) (h : Fin 6) (l : Fin 128) :
    val_main_v92 (F := Ideal) x0 x1 x2 (ix4 b p ⟨h.val * 2 + l.val / 64, by omega⟩ ⟨l.val % 64, by omega⟩)
      = turn (fun l => val_main_v14 (F := Ideal) x0 x1 x2 (ix3 b p ⟨768 + (h.val * 128 + l.val), by omega⟩))
          (cosAt p) (sinAt p) l := by
  pointwise [val_main_v92]
  unfold turn cosAt sinAt partner
  by_cases hl : l.val % 64 < 32
  · have e1 : (h.val * 2 + l.val / 64) * 64 + l.val % 64 = h.val * 128 + l.val := by omega
    have e2 : (h.val * 2 + l.val / 64) * 64 + (32 + l.val % 64) = h.val * 128 + (l.val + 32) % 128 := by omega
    have e3 : l.val % 64 = l.val % 32 := by omega
    rw [e3] at e1 e2
    simp only [hl, if_true, dite_true]
    simp only [v84_apply, v55_apply, e3, e1, e2]
    rw [sub_eq_add_neg, mul_neg]
  · have e1 : (h.val * 2 + l.val / 64) * 64 + (32 + (l.val % 64 - 32)) = h.val * 128 + l.val := by omega
    have e2 : (h.val * 2 + l.val / 64) * 64 + (l.val % 64 - 32) = h.val * 128 + (l.val - 32) := by omega
    have e3 : l.val % 64 - 32 = l.val % 32 := by omega
    rw [e3] at e1 e2
    simp only [hl, if_false, dite_false, v91_apply, v55_apply, e3, e1, e2]
    exact add_comm _ _

/-- The factor of the queries: the scale in powers of two. -/
theorem scale_eq : Ideal.div (Ideal.ofBits .f32 0x3E000000#32) (Ideal.log (Ideal.ofBits .f32 0x40000000#32))
    = (((8 * (Real.log 2))⁻¹ : ℝ) : EReal) := by
  have h2 : Ideal.ofBits .f32 0x40000000#32 = ((2 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  have hl : Real.log 2 ≠ 0 := (Real.log_pos (by norm_num)).ne'
  rw [h2, h8, Ideal.log_coe, if_neg (by norm_num), Ideal.div_coe hl, ← EReal.coe_mul]
  congr 1
  field_simp

end Cert.Rope

end
-- ==== Proof.Rope.Reference.lean ====
/-
What the reference of the differential attention's projection computes, over the extended reals.
-/
module

public import proofs.«01_k».proof.Proof.Rope.Turned

@[expose] public section

set_option maxRecDepth 16384

noncomputable section

namespace Cert.Rope

open Idealize.ShloMosaic Cert.Rows Cert.Reference4Ideal Cert.Reference4Ideal.Gen Cert.Reference4Ideal.Read

/-- The queries' heads laid side by side. -/
theorem v96_apply (x0 : Vec Ideal S4x4096x1024 .f32) (x1 : Vec Ideal S1024 .f32) (x2 : Vec Ideal S1024x2560 .f32)
    (b : Fin 4) (p : Fin 4096) (j : Fin 768) : val_main_v96 (F := Ideal) x0 x1 x2 (ix3 b p j)
      = val_main_v53 (F := Ideal) x0 x1 x2 (ix4 b p ⟨j.val / 128 * 2 + j.val % 128 / 64, by omega⟩
          ⟨j.val % 128 % 64, by omega⟩) := by
  rw [val_main_v96_apply]
  congr 1
  funext a
  apply Fin.ext
  have hb := b.isLt
  have hp := p.isLt
  have hj := j.isLt
  match a with
  | ⟨0, _⟩ => show ((b.val * 4096 + p.val) * 768 + j.val) / 3145728 = b.val; omega
  | ⟨1, _⟩ => show ((b.val * 4096 + p.val) * 768 + j.val) / 768 % 4096 = p.val; omega
  | ⟨2, _⟩ => show ((b.val * 4096 + p.val) * 768 + j.val) / 64 % 12 = j.val / 128 * 2 + j.val % 128 / 64; omega
  | ⟨3, _⟩ => show ((b.val * 4096 + p.val) * 768 + j.val) % 64 = j.val % 128 % 64; omega

/-- The keys, two groups of 64 lanes a head. -/
theorem v93_apply (x0 : Vec Ideal S4x4096x1024 .f32) (x1 : Vec Ideal S1024 .f32) (x2 : Vec Ideal S1024x2560 .f32)
    (b : Fin 4) (p : Fin 4096) (h : Fin 6) (l : Fin 128) : val_main_v93 (F := Ideal) x0 x1 x2 (ix4 b p h l)
      = val_main_v92 (F := Ideal) x0 x1 x2 (ix4 b p ⟨h.val * 2 + l.val / 64, by omega⟩ ⟨l.val % 64, by omega⟩) := by
  rw [val_main_v93_apply]
  congr 1
  funext a
  apply Fin.ext
  have hb := b.isLt
  have hp := p.isLt
  have hh := h.isLt
  have hl := l.isLt
  match a with
  | ⟨0, _⟩ => show (((b.val * 4096 + p.val) * 6 + h.val) * 128 + l.val) / 3145728 = b.val; omega
  | ⟨1, _⟩ => show (((b.val * 4096 + p.val) * 6 + h.val) * 128 + l.val) / 768 % 4096 = p.val; omega
  | ⟨2, _⟩ => show (((b.val * 4096 + p.val) * 6 + h.val) * 128 + l.val) / 64 % 12 = h.val * 2 + l.val / 64; omega
  | ⟨3, _⟩ => show (((b.val * 4096 + p.val) * 6 + h.val) * 128 + l.val) % 64 = l.val % 64; omega

/-- The factor of the queries, at every entry. -/
theorem v100_apply (i : S4x4096x768.Idx) :
    val_main_v100 (F := Ideal) i = (((8 * (Real.log 2))⁻¹ : ℝ) : EReal) := by
  rw [val_main_v100_apply, val_main_v99_apply, val_main_v98_apply, val_main_v97_apply]
  exact scale_eq

/-- The product of the queries and their factor. -/
theorem v102_apply (x0 : Vec Ideal S4x4096x1024 .f32) (x1 : Vec Ideal S1024 .f32) (x2 : Vec Ideal S1024x2560 .f32) (i : S4x4096x768.Idx) : val_main_v102 (F := Ideal) x0 x1 x2 i
      = val_main_v96 (F := Ideal) x0 x1 x2 i * val_main_v100 (F := Ideal) i := by
  rw [val_main_v102_apply, val_main_v101_apply]
  rfl

/-- A turned head of the queries, from the projection. -/
theorem head_query (x0 : Vec Ideal S4x4096x1024 .f32) (x1 : Vec Ideal S1024 .f32) (x2 : Vec Ideal S1024x2560 .f32)
    (b : Fin 4) (p : Fin 4096) (h : Fin 6) (l : Fin 128) :
    val_main_v53 (F := Ideal) x0 x1 x2 (ix4 b p ⟨h.val * 2 + l.val / 64, by omega⟩ ⟨l.val % 64, by omega⟩)
      = turn (fun l => proj (fun k => x0 (ix3 b p k)) (fun k => x1 (ix1 k))
          (fun k => x2 (ix2 k ⟨(h.val * 128 + l.val), by omega⟩))) (cosAt p) (sinAt p) l := by
  refine (v53_apply x0 x1 x2 b p h l).trans ?_
  refine congrArg (fun z => turn z (cosAt p) (sinAt p) l) (funext fun l => ?_)
  exact v14_apply x0 x1 x2 b p _

/-- A turned head of the keys, from the projection. -/
theorem head_key (x0 : Vec Ideal S4x4096x1024 .f32) (x1 : Vec Ideal S1024 .f32) (x2 : Vec Ideal S1024x2560 .f32)
    (b : Fin 4) (p : Fin 4096) (h : Fin 6) (l : Fin 128) :
    val_main_v92 (F := Ideal) x0 x1 x2 (ix4 b p ⟨h.val * 2 + l.val / 64, by omega⟩ ⟨l.val % 64, by omega⟩)
      = turn (fun l => proj (fun k => x0 (ix3 b p k)) (fun k => x1 (ix1 k))
          (fun k => x2 (ix2 k ⟨768 + (h.val * 128 + l.val), by omega⟩))) (cosAt p) (sinAt p) l := by
  refine (v92_apply x0 x1 x2 b p h l).trans ?_
  refine congrArg (fun z => turn z (cosAt p) (sinAt p) l) (funext fun l => ?_)
  exact v14_apply x0 x1 x2 b p _

/-- The keys with the heads before the positions. -/
theorem v103_apply (x0 : Vec Ideal S4x4096x1024 .f32) (x1 : Vec Ideal S1024 .f32) (x2 : Vec Ideal S1024x2560 .f32)
    (b : Fin 4) (h : Fin 6) (p : Fin 4096) (l : Fin 128) : val_main_v103 (F := Ideal) x0 x1 x2 (ix4 b h p l)
      = val_main_v93 (F := Ideal) x0 x1 x2 (ix4 b p h l) := by
  refine (val_main_v103_apply x0 x1 x2 _).trans (congrArg (val_main_v93 (F := Ideal) x0 x1 x2) ?_)
  funext a
  match a with
  | ⟨0, _⟩ => rfl
  | ⟨1, _⟩ => rfl
  | ⟨2, _⟩ => rfl
  | ⟨3, _⟩ => rfl

/-- The queries: turned and scaled. -/
theorem queries_eq (x0 : Vec Ideal S4x4096x1024 .f32) (x1 : Vec Ideal S1024 .f32) (x2 : Vec Ideal S1024x2560 .f32)
    (b : Fin 4) (p : Fin 4096) (j : Fin 768) :
    val_main_v102 (F := Ideal) x0 x1 x2 (ix3 b p j)
      = turn (fun l => proj (fun k => x0 (ix3 b p k)) (fun k => x1 (ix1 k))
          (fun k => x2 (ix2 k ⟨j.val / 128 * 128 + l.val, by omega⟩))) (cosAt p) (sinAt p)
            ⟨j.val % 128, Nat.mod_lt _ (by decide)⟩ * (((8 * (Real.log 2))⁻¹ : ℝ) : EReal) :=
  (v102_apply x0 x1 x2 _).trans (congrArg₂ (· * ·)
    ((v96_apply x0 x1 x2 b p j).trans
      (head_query x0 x1 x2 b p ⟨j.val / 128, by omega⟩ ⟨j.val % 128, Nat.mod_lt _ (by decide)⟩))
    (v100_apply _))

/-- The keys: turned. -/
theorem keys_eq (x0 : Vec Ideal S4x4096x1024 .f32) (x1 : Vec Ideal S1024 .f32) (x2 : Vec Ideal S1024x2560 .f32)
    (b : Fin 4) (h : Fin 6) (p : Fin 4096) (l : Fin 128) :
    val_main_v103 (F := Ideal) x0 x1 x2 (ix4 b h p l)
      = turn (fun l => proj (fun k => x0 (ix3 b p k)) (fun k => x1 (ix1 k))
          (fun k => x2 (ix2 k ⟨768 + (h.val * 128 + l.val), by omega⟩))) (cosAt p) (sinAt p) l :=
  (v103_apply x0 x1 x2 b h p l).trans ((v93_apply x0 x1 x2 b p h l).trans (head_key x0 x1 x2 b p h l))

/-- The values. -/
theorem values_eq (x0 : Vec Ideal S4x4096x1024 .f32) (x1 : Vec Ideal S1024 .f32) (x2 : Vec Ideal S1024x2560 .f32)
    (b : Fin 4) (h : Fin 6) (p : Fin 4096) (l : Fin 128) :
    val_main_v104 (F := Ideal) x0 x1 x2 (ix4 b h p l)
      = proj (fun k => x0 (ix3 b p k)) (fun k => x1 (ix1 k))
          (fun k => x2 (ix2 k ⟨1536 + (h.val * 128 + l.val), by omega⟩)) := by
  pointwise [val_main_v94, val_main_v95, val_main_v104]
  rw [v14_apply]

/-- The memory queries: scaled. -/
theorem memory_queries_eq (x0 : Vec Ideal S4x4096x1024 .f32) (x1 : Vec Ideal S1024 .f32) (x2 : Vec Ideal S1024x2560 .f32)
    (b : Fin 4) (p : Fin 4096) (j : Fin 256) :
    val_main_v108 (F := Ideal) x0 x1 x2 (ix3 b p j)
      = proj (fun k => x0 (ix3 b p k)) (fun k => x1 (ix1 k)) (fun k => x2 (ix2 k ⟨2304 + j.val, by omega⟩))
        * Ideal.ofBits .f32 0x3E000000#32 := by
  pointwise [val_main_v105, val_main_cst_12, val_main_v106, val_main_v107, val_main_v108]
  rw [v14_apply]

end Cert.Rope

end
-- ==== Proof.Rope.Claims.lean ====
/-
The projection of the differential attention and its reference: each ends with its arguments unchanged, and over the
extended reals both end with the same four arrays.
-/
module

public import proofs.«01_k».proof.Proof.Rope.Array
public import proofs.«01_k».proof.Proof.Rope.Reference
public import proofs.«01_k».proof.Proof.Gen.Kernel4.Frame
public import proofs.«01_k».proof.Defs
public import Idealize.ShloMosaic.Lib.Quiescent

@[expose] public section

noncomputable section

namespace Cert.Rope

open Idealize.ShloMosaic Idealize.ShloMosaic.TcCoe

/-- The reference ends with its arguments unchanged. -/
theorem reference_framed : Cert.quiescent_Reference4Ideal := fun m ρ _ =>
  (θ_run Cert.Reference4Ideal.defs _ _).mono
    (fun r h => ⟨fun c => (h c).2.2.2.2, sem_eq_zero_of_no_sems (by decide) r.2⟩)
    (Cert.Reference4Ideal.Value.run (F := Ideal) m ρ)

/-- Naming the scale of the queries keeps the kernel's meaning. -/
theorem preserved : Cert.preserves_Kernel4_Kernel4Ideal :=
  IdealRules.named_const.statement Cert.Kernel4Ideal.κ "log2e_8" .f32 0x3E38AA3B#32 _ rfl

/-- The named scale of the queries. -/
theorem scale_named : Named.named (F := Ideal) (φ := .f32) Cert.Kernel4Ideal.κ "log2e_8" 0x3E38AA3B#32
    = (((8 * (Real.log 2))⁻¹ : ℝ) : EReal) :=
  IdealRules.named_const.ideal_named_scalar _ _ _ _ rfl

section

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)
  (c : Dev Cert.Kernel4Ideal.nD)
  (h0 : m' ((c.tc : Thread Cert.Reference4Ideal.nD Cert.Reference4Ideal.τ).loc Cert.Reference4Ideal.main_arg0)
    = m ((c.tc : Thread Cert.Kernel4Ideal.nD Cert.Kernel4Ideal.τ).loc Cert.Kernel4Ideal.main_arg0))
  (h1 : m' ((c.tc : Thread Cert.Reference4Ideal.nD Cert.Reference4Ideal.τ).loc Cert.Reference4Ideal.main_arg1)
    = m ((c.tc : Thread Cert.Kernel4Ideal.nD Cert.Kernel4Ideal.τ).loc Cert.Kernel4Ideal.main_arg1))
  (h2 : m' ((c.tc : Thread Cert.Reference4Ideal.nD Cert.Reference4Ideal.τ).loc Cert.Reference4Ideal.main_arg2)
    = m ((c.tc : Thread Cert.Kernel4Ideal.nD Cert.Kernel4Ideal.τ).loc Cert.Kernel4Ideal.main_arg2))

include h0 h1 h2

/-- The reference's queries are the kernel's. -/
theorem same_queries : Cert.Reference4Ideal.Read.val_main_v102 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
      = queries m c := by
  rw [h0, h1, h2]
  refine funext fun (j : Cert.Reference4Ideal.S4x4096x768.Idx) => ?_
  rw [eq_ix3 j]
  refine (queries_eq _ _ _ _ _ _).trans ?_
  rw [← scale_named]
  rfl

/-- The reference's keys are the kernel's. -/
theorem same_keys : Cert.Reference4Ideal.Read.val_main_v103 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
      = keys m c := by
  rw [h0, h1, h2]
  refine funext fun (j : Cert.Reference4Ideal.S4x6x4096x128.Idx) => ?_
  rw [eq_ix4 j]
  exact (keys_eq _ _ _ _ _ _ _).trans rfl

/-- The reference's values are the kernel's. -/
theorem same_values : Cert.Reference4Ideal.Read.val_main_v104 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
      = values m c := by
  rw [h0, h1, h2]
  refine funext fun (j : Cert.Reference4Ideal.S4x6x4096x128.Idx) => ?_
  rw [eq_ix4 j]
  exact (values_eq _ _ _ _ _ _ _).trans rfl

/-- The reference's memory queries are the kernel's. -/
theorem same_memory_queries : Cert.Reference4Ideal.Read.val_main_v108 (F := Ideal)
        (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
      = memoryQueries m c := by
  rw [h0, h1, h2]
  refine funext fun (j : Cert.Reference4Ideal.S4x4096x256.Idx) => ?_
  rw [eq_ix3 j]
  exact (memory_queries_eq _ _ _ _ _ _).trans rfl

end

/-- Kernel and reference end with the same arrays. -/
theorem equal : Cert.algebraic_Kernel4Ideal_Reference4Ideal := by
  intro m ρ m' ρ' _ hagree
  refine ⟨fun c => queries m c, fun c => keys m c, fun c => values m c, fun c => memoryQueries m c, ?_, ?_⟩
  · exact (θ_run Cert.Kernel4Ideal.defs _ _).mono
      (fun _ h c => ⟨(h c).1.trans (final_queries m c), (h c).2.1.trans (final_keys m c),
        (h c).2.2.1.trans (final_values m c), (h c).2.2.2.2.2.1.trans (final_memoryQueries m c), (h c).2.2.2.2.2.2⟩)
      (Cert.Kernel4Ideal.Value.run_blocks (F := Ideal) m ρ)
  · exact (θ_run Cert.Reference4Ideal.defs _ _).mono
      (fun _ h c => ⟨(h c).1.trans ((Cert.Reference4Ideal.Read.val_main_v102_eq _ _).trans
          (same_queries m m' c (hagree c).1 (hagree c).2.1 (hagree c).2.2)),
        (h c).2.1.trans ((Cert.Reference4Ideal.Read.val_main_v103_eq _ _).trans
          (same_keys m m' c (hagree c).1 (hagree c).2.1 (hagree c).2.2)),
        (h c).2.2.1.trans ((Cert.Reference4Ideal.Read.val_main_v104_eq _ _ _).trans
          (same_values m m' c (hagree c).1 (hagree c).2.1 (hagree c).2.2)),
        (h c).2.2.2.1.trans ((Cert.Reference4Ideal.Read.val_main_v108_eq _ _ _).trans
          (same_memory_queries m m' c (hagree c).1 (hagree c).2.1 (hagree c).2.2)), (h c).2.2.2.2⟩)
      (Cert.Reference4Ideal.Value.run (F := Ideal) m' ρ')

end Cert.Rope

end
-- ==== Proof.Gates.Run.lean ====
/-
What one grid point of the forgetting attention's projection stores, over the extended reals, in each of its two cases: at
the first point of a batch, where the running gate sums start at zero, and at the others, where they are carried. The arrays
claimed here are stored alike in both.
-/
module

public import proofs.«01_k».proof.Proof.Gen.Kernel5Ideal.Frame
public import proofs.«01_k».proof.Proof.Rows
public import Idealize.ShloMosaic.Lib.WholeRead

@[expose] public section

set_option maxRecDepth 16384

noncomputable section

namespace Cert.Gates

open Idealize.ShloMosaic Cert.Rows Cert.Kernel5Ideal Cert.Kernel5Ideal.Gen

/-- A whole block, loaded through its rectangle. -/
def seen {s : Shape} {e : EltTy} {a : Memref sig .tc .vmem s e} (h : a.IsWhole) (x : Vec Ideal s e)
    {off : Fin s.rank → Nat} (inb : ∀ k, off k + s.size k ≤ s.size k) : Vec Ideal s e :=
  View.readAt (Elt Ideal) a.view (Rect.unit off s.size inb).toLoadRect (h.unread x)

/-- It is the block. -/
theorem seen_eq {s : Shape} {e : EltTy} {a : Memref sig .tc .vmem s e} (h : a.IsWhole) (x : Vec Ideal s e)
    {off : Fin s.rank → Nat} (hz : off = fun _ => 0) (inb : ∀ k, off k + s.size k ≤ s.size k) : seen h x inb = x := by
  have e1 : seen h x inb = View.ld x (Rect.unit off s.size inb) :=
    funext fun y => (h.readAt_unread x (Rect.unit off s.size inb).toLoadRect y).trans rfl
  rw [e1]
  exact View.ld_unit_zero hz inb x

theorem zeros2 : (![0, 0] : Fin 2 → Nat) = fun _ => 0 := funext fun a => by fin_cases a <;> rfl

theorem zeros3 : (![0, 0, 0] : Fin 3 → Nat) = fun _ => 0 := funext fun a => by fin_cases a <;> rfl

/-- The rows of head `h` of the transposed queries: what the point stores of them. -/
theorem query_piece (z : FVec Ideal S768x512 .f32) (o : Nat) (h : Fin 6)
    (hs : S768x512.Slices ![o, 0] S128x512) (x : S1x1x128x512.Idx) (y : S1x6x128x512.Idx) (ho : o = h.val * 128)
    (h1 : (y 1).val = h.val + 1 * (x 1).val) (h2 : (y 2).val = 0 + 1 * (x 2).val)
    (h3 : (y 3).val = 0 + 1 * (x 3).val) :
    shapeCast S1x1x128x512 (truncf (F := Ideal) .bf16 (extractStridedSlice S128x512 ![o, 0] z hs) bitsLt_bf16_f32)
        shapeCasts_S128x512_S1x1x128x512 x
      = z (ix2 ⟨(y 1).val * 128 + (y 2).val, by
            have : (y 1).val < 6 := (y 1).isLt; have : (y 2).val < 128 := (y 2).isLt; omega⟩ (y 3)) := by
  have x1 : (x 1).val < 1 := (x 1).isLt
  obtain ⟨a, b, l, r, rfl⟩ : ∃ a b l r, x = ix4 a b l r := ⟨_, _, _, _, eq_ix4 x⟩
  obtain rfl : a = 0 := Subsingleton.elim _ _
  obtain rfl : b = 0 := Subsingleton.elim _ _
  have e3 : (y 3 : Fin 512) = r := Fin.ext (by rw [h3]; show 0 + 1 * r.val = r.val; omega)
  have e2 : (y 2).val = l.val := by rw [h2]; show 0 + 1 * l.val = l.val; omega
  have e1 : (y 1).val = h.val := by rw [h1]; show h.val + 1 * 0 = h.val; omega
  rw [e3]
  simp only [e1, e2]
  subst ho
  pointwise

/-- What the point leaves of the keys, at the first point of a batch. -/
theorem keys_A
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) :
    out0_A_10 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7
      = k0_pay6 (k0_pay4 x0 x1 x4) := by
  unfold out0_A_10
  refine (View.read_writes_junk_eq_canon _ _).trans ((View.canon_unit_zero zeros3 _ _).trans ?_)
  show k0_pay6 (F := Ideal) (k0_pay4 (seen harg2 x0 inb_S1x512x1024_S1x512x1024_0_0_0) (seen harg3 x1 inb_S1x1024_S1x1024_0_0)
      (seen harg6 x4 inb_S784x1024_S784x1024_0_0)) = _
  rw [seen_eq harg2 x0 zeros3, seen_eq harg3 x1 zeros2, seen_eq harg6 x4 zeros2]

/-- What the point leaves of the values, at the first point of a batch. -/
theorem values_A
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) :
    out0_A_11 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7
      = k0_pay7 (k0_pay1 x0 x1) x5 := by
  unfold out0_A_11
  refine (View.read_writes_junk_eq_canon _ _).trans ((View.canon_unit_zero zeros3 _ _).trans ?_)
  show k0_pay7 (F := Ideal) (k0_pay1 (seen harg2 x0 inb_S1x512x1024_S1x512x1024_0_0_0) (seen harg3 x1 inb_S1x1024_S1x1024_0_0))
      (seen harg7 x5 inb_S768x1024_S768x1024_0_0) = _
  rw [seen_eq harg2 x0 zeros3, seen_eq harg3 x1 zeros2, seen_eq harg7 x5 zeros2]

/-- What the point leaves of the memory queries, at the first point of a batch. -/
theorem memory_queries_A
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) :
    out0_A_13 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7
      = k0_pay2 x0 x1 x6 := by
  unfold out0_A_13
  refine (View.read_writes_junk_eq_canon _ _).trans ((View.canon_unit_zero zeros3 _ _).trans ?_)
  show k0_pay2 (F := Ideal) (seen harg2 x0 inb_S1x512x1024_S1x512x1024_0_0_0) (seen harg3 x1 inb_S1x1024_S1x1024_0_0)
      (seen harg8 x6 inb_S1024x256_S1024x256_0_0) = _
  rw [seen_eq harg2 x0 zeros3, seen_eq harg3 x1 zeros2, seen_eq harg8 x6 zeros2]

/-- What the point leaves of the log forget gates, at the first point of a batch. -/
theorem gates_A
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) :
    out0_A_14 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7
      = k0_pay23 (k0_pay4 x0 x1 x4) x7 := by
  unfold out0_A_14
  refine (View.read_writes_junk_eq_canon _ _).trans ((View.canon_unit_zero zeros3 _ _).trans ?_)
  show k0_pay23 (F := Ideal) (k0_pay4 (seen harg2 x0 inb_S1x512x1024_S1x512x1024_0_0_0) (seen harg3 x1 inb_S1x1024_S1x1024_0_0)
      (seen harg6 x4 inb_S784x1024_S784x1024_0_0)) (seen harg9 x7 inb_S16x1_S16x1_0_0) = _
  rw [seen_eq harg2 x0 zeros3, seen_eq harg3 x1 zeros2, seen_eq harg6 x4 zeros2, seen_eq harg9 x7 zeros2]

/-- What the point leaves of the queries, at the first point of a batch: head `h`, lane `l`, row `r`. -/
theorem queries_A
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32)
    (h : Fin 6) (l : Fin 128) (r : Fin 512) :
    out0_A_8 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7 (ix4 0 h l r)
      = k0_pay3 (F := Ideal) x0 x1 x2 (ix2 ⟨h.val * 128 + l.val, by omega⟩ r) := by
  unfold out0_A_8
  refine (congrFun (View.read_writes_junk_eq_canon _ _) _).trans ((View.canon_apply_of_pieces (fun y : S1x6x128x512.Idx =>
    (k0_pay3 (F := Ideal) (seen harg2 x0 inb_S1x512x1024_S1x512x1024_0_0_0)
      (seen harg3 x1 inb_S1x1024_S1x1024_0_0) (seen harg4 x2 inb_S768x1024_S768x1024_0_0)) (ix2 ⟨(y 1).val * 128 + (y 2).val, by
        have : (y 1).val < 6 := (y 1).isLt; have : (y 2).val < 128 := (y 2).isLt; omega⟩ (y 3))) _ ?_ _
      (cover0_A_8
        c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 hc0
        x0 x1 x2 x3 x4 x5 x6 x7 _)).trans ?_)
  · intro pc hpc
    rcases List.mem_cons.mp hpc with rfl | hpc
    · exact fun x => query_piece _ 640 5 slices_S768x512_o640_0_S128x512 x
        ((Rect.unit (s := S1x6x128x512) ![0, 5, 0, 0] S1x1x128x512.size
          inb_S1x6x128x512_S1x1x128x512_0_5_0_0).emb x) rfl rfl rfl rfl
    rcases List.mem_cons.mp hpc with rfl | hpc
    · exact fun x => query_piece _ 512 4 slices_S768x512_o512_0_S128x512 x
        ((Rect.unit (s := S1x6x128x512) ![0, 4, 0, 0] S1x1x128x512.size
          inb_S1x6x128x512_S1x1x128x512_0_4_0_0).emb x) rfl rfl rfl rfl
    rcases List.mem_cons.mp hpc with rfl | hpc
    · exact fun x => query_piece _ 384 3 slices_S768x512_o384_0_S128x512 x
        ((Rect.unit (s := S1x6x128x512) ![0, 3, 0, 0] S1x1x128x512.size
          inb_S1x6x128x512_S1x1x128x512_0_3_0_0).emb x) rfl rfl rfl rfl
    rcases List.mem_cons.mp hpc with rfl | hpc
    · exact fun x => query_piece _ 256 2 slices_S768x512_o256_0_S128x512 x
        ((Rect.unit (s := S1x6x128x512) ![0, 2, 0, 0] S1x1x128x512.size
          inb_S1x6x128x512_S1x1x128x512_0_2_0_0).emb x) rfl rfl rfl rfl
    rcases List.mem_cons.mp hpc with rfl | hpc
    · exact fun x => query_piece _ 128 1 slices_S768x512_o128_0_S128x512 x
        ((Rect.unit (s := S1x6x128x512) ![0, 1, 0, 0] S1x1x128x512.size
          inb_S1x6x128x512_S1x1x128x512_0_1_0_0).emb x) rfl rfl rfl rfl
    rcases List.mem_cons.mp hpc with rfl | hpc
    · exact fun x => query_piece _ 0 0 slices_S768x512_o0_0_S128x512 x
        ((Rect.unit (s := S1x6x128x512) ![0, 0, 0, 0] S1x1x128x512.size
          inb_S1x6x128x512_S1x1x128x512_0_0_0_0).emb x) rfl rfl rfl rfl
    nomatch hpc
  · rw [seen_eq harg2 x0 zeros3, seen_eq harg3 x1 zeros2, seen_eq harg4 x2 zeros2]
    rfl

/-- What the point leaves of the keys, at a later point of a batch. -/
theorem keys_B
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : ¬cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) (xs0 : Vec Ideal S16x128 .f32) :
    out0_B_10 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7 xs0
      = k0_pay6 (k0_pay4 x0 x1 x4) := by
  unfold out0_B_10
  refine (View.read_writes_junk_eq_canon _ _).trans ((View.canon_unit_zero zeros3 _ _).trans ?_)
  show k0_pay6 (F := Ideal) (k0_pay4 (seen harg2 x0 inb_S1x512x1024_S1x512x1024_0_0_0) (seen harg3 x1 inb_S1x1024_S1x1024_0_0)
      (seen harg6 x4 inb_S784x1024_S784x1024_0_0)) = _
  rw [seen_eq harg2 x0 zeros3, seen_eq harg3 x1 zeros2, seen_eq harg6 x4 zeros2]

/-- What the point leaves of the values, at a later point of a batch. -/
theorem values_B
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : ¬cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) (xs0 : Vec Ideal S16x128 .f32) :
    out0_B_11 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7 xs0
      = k0_pay7 (k0_pay1 x0 x1) x5 := by
  unfold out0_B_11
  refine (View.read_writes_junk_eq_canon _ _).trans ((View.canon_unit_zero zeros3 _ _).trans ?_)
  show k0_pay7 (F := Ideal) (k0_pay1 (seen harg2 x0 inb_S1x512x1024_S1x512x1024_0_0_0) (seen harg3 x1 inb_S1x1024_S1x1024_0_0))
      (seen harg7 x5 inb_S768x1024_S768x1024_0_0) = _
  rw [seen_eq harg2 x0 zeros3, seen_eq harg3 x1 zeros2, seen_eq harg7 x5 zeros2]

/-- What the point leaves of the memory queries, at a later point of a batch. -/
theorem memory_queries_B
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : ¬cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) (xs0 : Vec Ideal S16x128 .f32) :
    out0_B_13 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7 xs0
      = k0_pay2 x0 x1 x6 := by
  unfold out0_B_13
  refine (View.read_writes_junk_eq_canon _ _).trans ((View.canon_unit_zero zeros3 _ _).trans ?_)
  show k0_pay2 (F := Ideal) (seen harg2 x0 inb_S1x512x1024_S1x512x1024_0_0_0) (seen harg3 x1 inb_S1x1024_S1x1024_0_0)
      (seen harg8 x6 inb_S1024x256_S1024x256_0_0) = _
  rw [seen_eq harg2 x0 zeros3, seen_eq harg3 x1 zeros2, seen_eq harg8 x6 zeros2]

/-- What the point leaves of the log forget gates, at a later point of a batch. -/
theorem gates_B
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : ¬cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) (xs0 : Vec Ideal S16x128 .f32) :
    out0_B_14 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7 xs0
      = k0_pay23 (k0_pay4 x0 x1 x4) x7 := by
  unfold out0_B_14
  refine (View.read_writes_junk_eq_canon _ _).trans ((View.canon_unit_zero zeros3 _ _).trans ?_)
  show k0_pay23 (F := Ideal) (k0_pay4 (seen harg2 x0 inb_S1x512x1024_S1x512x1024_0_0_0) (seen harg3 x1 inb_S1x1024_S1x1024_0_0)
      (seen harg6 x4 inb_S784x1024_S784x1024_0_0)) (seen harg9 x7 inb_S16x1_S16x1_0_0) = _
  rw [seen_eq harg2 x0 zeros3, seen_eq harg3 x1 zeros2, seen_eq harg6 x4 zeros2, seen_eq harg9 x7 zeros2]

/-- What the point leaves of the queries, at a later point of a batch: head `h`, lane `l`, row `r`. -/
theorem queries_B
    (c : Dev nD) (i : grid0.Coords) (arg2 : Memref sig .tc .vmem S1x512x1024 .f32) (harg2 : arg2.IsWhole) (arg3 :
    Memref sig .tc .vmem S1x1024 .f32) (harg3 : arg3.IsWhole) (arg4 : Memref sig .tc .vmem S768x1024 .bf16) (harg4
    : arg4.IsWhole) (arg5 : Memref sig .tc .vmem S1024x768 .bf16) (harg5 : arg5.IsWhole) (arg6 : Memref sig .tc
    .vmem S784x1024 .bf16) (harg6 : arg6.IsWhole) (arg7 : Memref sig .tc .vmem S768x1024 .bf16) (harg7 :
    arg7.IsWhole) (arg8 : Memref sig .tc .vmem S1024x256 .bf16) (harg8 : arg8.IsWhole) (arg9 : Memref sig .tc
    .vmem S16x1 .f32) (harg9 : arg9.IsWhole) (arg10 : Memref sig .tc .vmem S1x6x128x512 .bf16) (harg10 :
    arg10.IsWhole) (arg11 : Memref sig .tc .vmem S1x6x512x256 .bf16) (harg11 : arg11.IsWhole) (arg12 : Memref sig
    .tc .vmem S1x768x512 .f32) (harg12 : arg12.IsWhole) (arg13 : Memref sig .tc .vmem S1x768x512 .f32) (harg13 :
    arg13.IsWhole) (arg14 : Memref sig .tc .vmem S1x6x1x128x512 .bf16) (harg14 : arg14.IsWhole) (arg15 : Memref
    sig .tc .vmem S1x512x256 .bf16) (harg15 : arg15.IsWhole) (arg16 : Memref sig .tc .vmem S1x16x512 .f32) (harg16
    : arg16.IsWhole) (arg17 : Memref sig .tc .vmem S16x128 .f32) (harg17 : arg17.IsWhole) (hc0 : ¬cond0_0 i) (x0 :
    Vec Ideal S1x512x1024 .f32) (x1 : Vec Ideal S1x1024 .f32) (x2 : Vec Ideal S768x1024 .bf16) (x3 : Vec Ideal
    S1024x768 .bf16) (x4 : Vec Ideal S784x1024 .bf16) (x5 : Vec Ideal S768x1024 .bf16) (x6 : Vec Ideal S1024x256
    .bf16) (x7 : Vec Ideal S16x1 .f32) (xs0 : Vec Ideal S16x128 .f32)
    (h : Fin 6) (l : Fin 128) (r : Fin 512) :
    out0_B_8 (F := Ideal)
      c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 hc0 x0 x1 x2 x3
      x4 x5 x6 x7 xs0 (ix4 0 h l r)
      = k0_pay3 (F := Ideal) x0 x1 x2 (ix2 ⟨h.val * 128 + l.val, by omega⟩ r) := by
  unfold out0_B_8
  refine (congrFun (View.read_writes_junk_eq_canon _ _) _).trans ((View.canon_apply_of_pieces (fun y : S1x6x128x512.Idx =>
    (k0_pay3 (F := Ideal) (seen harg2 x0 inb_S1x512x1024_S1x512x1024_0_0_0)
      (seen harg3 x1 inb_S1x1024_S1x1024_0_0) (seen harg4 x2 inb_S768x1024_S768x1024_0_0)) (ix2 ⟨(y 1).val * 128 + (y 2).val, by
        have : (y 1).val < 6 := (y 1).isLt; have : (y 2).val < 128 := (y 2).isLt; omega⟩ (y 3))) _ ?_ _
      (cover0_B_8
        c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 hc0
        x0 x1 x2 x3 x4 x5 x6 x7 xs0 _)).trans ?_)
  · intro pc hpc
    rcases List.mem_cons.mp hpc with rfl | hpc
    · exact fun x => query_piece _ 640 5 slices_S768x512_o640_0_S128x512 x
        ((Rect.unit (s := S1x6x128x512) ![0, 5, 0, 0] S1x1x128x512.size
          inb_S1x6x128x512_S1x1x128x512_0_5_0_0).emb x) rfl rfl rfl rfl
    rcases List.mem_cons.mp hpc with rfl | hpc
    · exact fun x => query_piece _ 512 4 slices_S768x512_o512_0_S128x512 x
        ((Rect.unit (s := S1x6x128x512) ![0, 4, 0, 0] S1x1x128x512.size
          inb_S1x6x128x512_S1x1x128x512_0_4_0_0).emb x) rfl rfl rfl rfl
    rcases List.mem_cons.mp hpc with rfl | hpc
    · exact fun x => query_piece _ 384 3 slices_S768x512_o384_0_S128x512 x
        ((Rect.unit (s := S1x6x128x512) ![0, 3, 0, 0] S1x1x128x512.size
          inb_S1x6x128x512_S1x1x128x512_0_3_0_0).emb x) rfl rfl rfl rfl
    rcases List.mem_cons.mp hpc with rfl | hpc
    · exact fun x => query_piece _ 256 2 slices_S768x512_o256_0_S128x512 x
        ((Rect.unit (s := S1x6x128x512) ![0, 2, 0, 0] S1x1x128x512.size
          inb_S1x6x128x512_S1x1x128x512_0_2_0_0).emb x) rfl rfl rfl rfl
    rcases List.mem_cons.mp hpc with rfl | hpc
    · exact fun x => query_piece _ 128 1 slices_S768x512_o128_0_S128x512 x
        ((Rect.unit (s := S1x6x128x512) ![0, 1, 0, 0] S1x1x128x512.size
          inb_S1x6x128x512_S1x1x128x512_0_1_0_0).emb x) rfl rfl rfl rfl
    rcases List.mem_cons.mp hpc with rfl | hpc
    · exact fun x => query_piece _ 0 0 slices_S768x512_o0_0_S128x512 x
        ((Rect.unit (s := S1x6x128x512) ![0, 0, 0, 0] S1x1x128x512.size
          inb_S1x6x128x512_S1x1x128x512_0_0_0_0).emb x) rfl rfl rfl rfl
    nomatch hpc
  · rw [seen_eq harg2 x0 zeros3, seen_eq harg3 x1 zeros2, seen_eq harg4 x2 zeros2]
    rfl

end Cert.Gates

end
-- ==== Proof.Gates.Block.lean ====
/-
What one grid point of the forgetting attention's projection computes, at an index: each row of its block of the residual
stream is normalised and put through the rows of the transposed weights; the queries are scaled, and the gate rows, with
their biases, go through the logarithm of the logistic function.
-/
module

public import proofs.«01_k».proof.Proof.Gen.Kernel5Ideal.Skeleton
public import proofs.«01_k».proof.Proof.Rows

@[expose] public section

set_option maxRecDepth 16384

noncomputable section

namespace Cert.Gates

open Idealize.ShloMosaic Cert.Rows Cert.Kernel5Ideal Cert.Kernel5Ideal.Gen

/-- A row of the projection: the normalised row through one column. -/
def proj (x g w : Fin 1024 → EReal) : EReal := ∑ k, rms x g k * w k

/-- The logarithm of the logistic function, as the body computes it. -/
def logSigmoid (z : EReal) : EReal :=
  min z 0 - Ideal.log1p (Ideal.exp (0 - max z (-z)))

/-- The normalised row the projections read. -/
theorem pay1_apply (v0 : Vec Ideal S1x512x1024 .f32) (v2 : Vec Ideal S1x1024 .f32) (r : Fin 512) (l : Fin 1024) :
    k0_pay1 (F := Ideal) v0 v2 (ix2 r l) = rms (fun k => v0 (ix3 0 r k)) (fun k => v2 (ix2 0 k)) l := by
  pointwise [k0_pay1]
  rfl

/-- The memory queries, scaled. -/
theorem pay2_apply (v0 : Vec Ideal S1x512x1024 .f32) (v2 : Vec Ideal S1x1024 .f32) (w : Vec Ideal S1024x256 .bf16)
    (r : Fin 512) (n : Fin 256) : k0_pay2 (F := Ideal) v0 v2 w (ix3 0 r n)
      = proj (fun k => v0 (ix3 0 r k)) (fun k => v2 (ix2 0 k)) (fun k => w (ix2 k n))
          * Ideal.ofBits .f32 0x3E000000#32 := by
  pointwise [k0_pay2]
  simp only [pay1_apply]
  rfl

/-- The transposed queries, scaled. -/
theorem pay3_apply (v0 : Vec Ideal S1x512x1024 .f32) (v2 : Vec Ideal S1x1024 .f32) (w : Vec Ideal S768x1024 .bf16)
    (n : Fin 768) (r : Fin 512) : k0_pay3 (F := Ideal) v0 v2 w (ix2 n r)
      = proj (fun k => v0 (ix3 0 r k)) (fun k => v2 (ix2 0 k)) (fun k => w (ix2 n k))
          * Named.named (F := Ideal) (φ := .f32) κ "log2e_8" 0x3E38AA3B#32 := by
  pointwise [k0_pay3]
  simp only [pay1_apply, mul_comm (w _)]
  rfl

/-- The transposed keys and gates. -/
theorem pay4_apply (v0 : Vec Ideal S1x512x1024 .f32) (v2 : Vec Ideal S1x1024 .f32) (w : Vec Ideal S784x1024 .bf16)
    (n : Fin 784) (r : Fin 512) : k0_pay4 (F := Ideal) v0 v2 w (ix2 n r)
      = proj (fun k => v0 (ix3 0 r k)) (fun k => v2 (ix2 0 k)) (fun k => w (ix2 n k)) := by
  pointwise [k0_pay4]
  simp only [pay1_apply, mul_comm (w _)]
  rfl

/-- The keys are its first 768 rows. -/
theorem keys_apply (v0 : Vec Ideal S1x512x1024 .f32) (v2 : Vec Ideal S1x1024 .f32) (w : Vec Ideal S784x1024 .bf16)
    (n : Fin 768) (r : Fin 512) : k0_pay6 (F := Ideal) (k0_pay4 v0 v2 w) (ix3 0 n r)
      = proj (fun k => v0 (ix3 0 r k)) (fun k => v2 (ix2 0 k)) (fun k => w (ix2 ⟨n.val, by omega⟩ k)) := by
  pointwise [k0_pay6]
  rw [pay4_apply]

/-- The transposed values. -/
theorem values_apply (v0 : Vec Ideal S1x512x1024 .f32) (v2 : Vec Ideal S1x1024 .f32) (w : Vec Ideal S768x1024 .bf16)
    (n : Fin 768) (r : Fin 512) : k0_pay7 (F := Ideal) (k0_pay1 v0 v2) w (ix3 0 n r)
      = proj (fun k => v0 (ix3 0 r k)) (fun k => v2 (ix2 0 k)) (fun k => w (ix2 n k)) := by
  pointwise [k0_pay7, k0_pay5]
  simp only [pay1_apply, mul_comm (w _)]
  rfl

/-- The rows of the gates that hold a head. -/
theorem head_rows : ∀ n : Fin 16,
    IntOp.cmpi .slt (BitVec.ofNat 32 n.val) 12#32 = if n.val < 12 then 1#1 else 0#1 := by decide

/-- The gates: in a head's row the logarithm of the logistic function, zero in the others. -/
theorem gates_apply (v0 : Vec Ideal S1x512x1024 .f32) (v2 : Vec Ideal S1x1024 .f32) (w : Vec Ideal S784x1024 .bf16)
    (bias : Vec Ideal S16x1 .f32) (n : Fin 16) (r : Fin 512) :
    k0_pay23 (F := Ideal) (k0_pay4 v0 v2 w) bias (ix3 0 n r)
      = if n.val < 12 then logSigmoid (proj (fun k => v0 (ix3 0 r k)) (fun k => v2 (ix2 0 k))
            (fun k => w (ix2 ⟨768 + n.val, by omega⟩ k)) + bias (ix2 n 0))
        else 0 := by
  pointwise [k0_pay23, k0_pay22]
  rw [pay4_apply, head_rows]
  by_cases h : n.val < 12
  · simp only [h, if_true]
    rfl
  · simp only [h, if_false]
    rfl

end Cert.Gates

end
-- ==== Proof.Gates.Host.lean ====
/-
The arrays the host hands the forgetting attention's projection: parts of the weights, transposed, the gate rows and
biases filled up with zeros to sixteen.
-/
module

public import proofs.«01_k».proof.Proof.Gen.Kernel5Ideal.Value
public import proofs.«01_k».proof.Proof.Rows
public import Idealize.ShloMosaic.Lib.Routing.OpsOne
public import Idealize.ShloMosaic.Lib.StableHlo.Run

@[expose] public section

set_option maxRecDepth 65536

noncomputable section

namespace Cert.Gates

open Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ)

/-- The transposed weights from row `o` on, as the call reads them. -/
def rowsFrom (w : Vec Ideal S1024x2572 .f32) (o : Nat) (hs : S2572x1024.Slices ![o, 0] S768x1024) :
    FVec Ideal S768x1024 .bf16 :=
  truncf (F := Ideal) .bf16 (extractStridedSlice S768x1024 ![o, 0]
    (transpose S2572x1024 [1, 0] w transposes_S1024x2572_S2572x1024_1_0) hs) bitsLt_bf16_f32

/-- The twelve gate rows of the transposed weights, and four rows of zeros. -/
def gateRows (w : Vec Ideal S1024x2572 .f32) : FVec Ideal S16x1024 .f32 :=
  Host.scatter scatter_S16x1024_S1_S12x1024_01_n_0_0 (fun _ b => b)
    (broadcastInDim S16x1024 ![] bcast_S_S16x1024 (constant S_ .f32 0x00000000#32))
    (broadcastInDim S1 ![] bcast_S_S1 (constantI S_ 32 0#32))
    (extractStridedSlice S12x1024 ![2304, 0] (transpose S2572x1024 [1, 0] w transposes_S1024x2572_S2572x1024_1_0)
      slices_S2572x1024_S12x1024_2304_0)

/-- The biases of the gates as a column, and four zeros. -/
def biases (b : Vec Ideal S12 .f32) : FVec Ideal S16x1 .f32 :=
  Host.scatter scatter_S16x1_S2_S12_0_1_01_0 (fun _ b => b)
    (broadcastInDim S16x1 ![] bcast_S_S16x1 (constant S_ .f32 0x00000000#32))
    (concatenate S2 0 [⟨S1, broadcastInDim S1 ![] bcast_S_S1 (constantI S_ 32 0#32)⟩,
      ⟨S1, broadcastInDim S1 ![] bcast_S_S1 (constantI S_ 32 0#32)⟩] concatenates_S1_S1_S2_d0) b

/-- The rows of keys and of gates. -/
def keyGateRows (w : Vec Ideal S1024x2572 .f32) : FVec Ideal S784x1024 .bf16 :=
  concatenate S784x1024 0 [⟨S768x1024, rowsFrom w 768 slices_S2572x1024_S768x1024_768_0⟩,
    ⟨S16x1024, truncf (F := Ideal) .bf16 (gateRows w) bitsLt_bf16_f32⟩] concatenates_S768x1024_S16x1024_S784x1024_d0

/-- The columns of the memory queries. -/
def memoryColumns (w : Vec Ideal S1024x2572 .f32) : FVec Ideal S1024x256 .bf16 :=
  extractStridedSlice S1024x256 ![0, 2304] (truncf (F := Ideal) .bf16 (concatenate S1024x2560 1
    [⟨S1024x2304, extractStridedSlice S1024x2304 ![0, 0] w slices_S1024x2572_S1024x2304_0_0⟩,
      ⟨S1024x256, extractStridedSlice S1024x256 ![0, 2316] w slices_S1024x2572_S1024x256_0_2316⟩]
    concatenates_S1024x2304_S1024x256_S1024x2560_d1) bitsLt_bf16_f32) slices_S1024x2560_S1024x256_0_2304

/-- The gain, as the call reads it. -/
theorem V_gain (c : Dev nD) : (V m c main_v18 : Vec Ideal S1x1024 .f32)
    = shapeCast S1x1024 (m ((c : Thread nD τ).loc main_arg1)) shapeCasts_S1024_S1x1024 := by
  show StableHlo.after hostOps0 (fun b => m (c, b)) (Proc.devRef .tc main_v18) = _
  after_results_simp
  rfl

/-- The queries' part of the weights, as the call reads it. -/
theorem V_query (c : Dev nD) : (V m c main_v20 : Vec Ideal S768x1024 .bf16)
    = rowsFrom (m ((c : Thread nD τ).loc main_arg2)) 0 slices_S2572x1024_S768x1024_0_0 := by
  show StableHlo.after hostOps0 (fun b => m (c, b)) (Proc.devRef .tc main_v20) = _
  after_results_simp
  rfl

/-- The keys' and gates' part of the weights, as the call reads it. -/
theorem V_key (c : Dev nD) : (V m c main_v17 : Vec Ideal S784x1024 .bf16)
    = keyGateRows (m ((c : Thread nD τ).loc main_arg2)) := by
  show StableHlo.after hostOps0 (fun b => m (c, b)) (Proc.devRef .tc main_v17) = _
  after_results_simp
  refine congrArg₂ (fun (a : FVec Ideal S768x1024 .bf16) (b : FVec Ideal S16x1024 .bf16) =>
    concatenate S784x1024 0 [⟨S768x1024, a⟩, ⟨S16x1024, b⟩] concatenates_S768x1024_S16x1024_S784x1024_d0) ?_ ?_
  · after_results_simp
    rfl
  · after_results_simp
    rfl

/-- The values' part of the weights, as the call reads it. -/
theorem V_value (c : Dev nD) : (V m c main_v23 : Vec Ideal S768x1024 .bf16)
    = rowsFrom (m ((c : Thread nD τ).loc main_arg2)) 1536 slices_S2572x1024_S768x1024_1536_0 := by
  show StableHlo.after hostOps0 (fun b => m (c, b)) (Proc.devRef .tc main_v23) = _
  after_results_simp
  rfl

/-- The memory queries' part of the weights, as the call reads it. -/
theorem V_memory (c : Dev nD) : (V m c main_v24 : Vec Ideal S1024x256 .bf16)
    = memoryColumns (m ((c : Thread nD τ).loc main_arg2)) := by
  show StableHlo.after hostOps0 (fun b => m (c, b)) (Proc.devRef .tc main_v24) = _
  after_results_simp
  rfl

/-- The biases' column, as the call reads it. -/
theorem V_bias (c : Dev nD) : (V m c main_v10 : Vec Ideal S16x1 .f32)
    = biases (m ((c : Thread nD τ).loc main_arg3)) := by
  show StableHlo.after hostOps0 (fun b => m (c, b)) (Proc.devRef .tc main_v10) = _
  after_results_simp
  rfl

theorem rowsFrom_apply (w : Vec Ideal S1024x2572 .f32) (o : Nat) (hs : S2572x1024.Slices ![o, 0] S768x1024)
    (ho : o + 768 ≤ 2572) (n : Fin 768) (k : Fin 1024) :
    rowsFrom w o hs (ix2 n k) = w (ix2 k ⟨o + n.val, by omega⟩) := by
  pointwise [rowsFrom]

theorem memoryColumns_apply (w : Vec Ideal S1024x2572 .f32) (k : Fin 1024) (n : Fin 256) :
    memoryColumns w (ix2 k n) = w (ix2 k ⟨2316 + n.val, by omega⟩) := by
  pointwise [memoryColumns]

theorem gateRows_apply (w : Vec Ideal S1024x2572 .f32) (n : Fin 16) (hn : n.val < 12) (k : Fin 1024) :
    gateRows w (ix2 n k) = w (ix2 k ⟨2304 + n.val, by omega⟩) := by
  have lands : ∀ (a : Fin 12) (b : Fin 1024), (scatter_S16x1024_S1_S12x1024_01_n_0_0).resultIdx? (ix2 a b)
      (broadcastInDim S1 ![] bcast_S_S1 (constantI S_ 32 0#32)) = some (ix2 n k) ↔ a.val = n.val ∧ b.val = k.val := by
    intro a b
    refine (Routing.resultIdx?_eq_some _ _ _ _).trans (Fin.forall_fin_two.trans ?_)
    show ((0 : Int) + (a.val : Int) = n.val ∧ (0 : Int) + (b.val : Int) = k.val) ↔ _
    omega
  unfold gateRows
  refine (Routing.scatter_set_hit _ _ _ _ _ (w (ix2 k ⟨2304 + n.val, by omega⟩)) (fun j hj => ?_) (ix2 ⟨n.val, hn⟩ k)
    ((lands _ _).2 ⟨rfl, rfl⟩))
  obtain ⟨a, b, rfl⟩ : ∃ (a : Fin 12) (b : Fin 1024), j = ix2 a b := ⟨_, _, eq_ix2 j⟩
  obtain ⟨h1, h2⟩ := (lands a b).1 hj
  obtain rfl : b = k := Fin.ext h2
  pointwise
  simp only [h1]

theorem biases_apply (b : Vec Ideal S12 .f32) (n : Fin 16) (hn : n.val < 12) :
    biases b (ix2 n 0) = b (ix1 ⟨n.val, hn⟩) := by
  unfold biases
  refine (Routing.scatter_column_signed scatter_S16x1_S2_S12_0_1_01_0 (by decide) rfl rfl rfl _ _ _ _).trans ?_
  rw [if_pos]
  · congr 2
    apply Fin.ext
    show ((n.val : Int) - 0).toNat % 12 = n.val
    omega
  · show (0 : Int) = 0 ∧ (0 : Int) ≤ n.val ∧ (n.val : Int) < 0 + 12
    omega

theorem keyRows_apply (w : Vec Ideal S1024x2572 .f32) (n : Fin 768) (k : Fin 1024) :
    keyGateRows w (ix2 ⟨n.val, by omega⟩ k) = w (ix2 k ⟨768 + n.val, by omega⟩) := by
  pointwise [keyGateRows]
  exact rowsFrom_apply w 768 _ (by decide) n k

theorem keyGateRows_apply (w : Vec Ideal S1024x2572 .f32) (n : Fin 16) (hn : n.val < 12) (k : Fin 1024) :
    keyGateRows w (ix2 ⟨768 + n.val, by omega⟩ k) = w (ix2 k ⟨2304 + n.val, by omega⟩) := by
  rw [← gateRows_apply w n hn k]
  pointwise [keyGateRows]

end Cert.Gates

end
-- ==== Proof.Gates.Array.lean ====
/-
What the forgetting attention's projection leaves in its result arrays, over the extended reals.
-/
module

public import proofs.«01_k».proof.Proof.Gen.Kernel5Ideal.Value
public import proofs.«01_k».proof.Proof.Gates.Run
public import proofs.«01_k».proof.Proof.Gates.Block
public import proofs.«01_k».proof.Proof.Gates.Host

@[expose] public section

set_option maxRecDepth 16384

noncomputable section

namespace Cert.Gates

open Idealize.ShloMosaic Idealize.ShloMosaic.TcCoe Idealize.SL.Sem Cert.Kernel5Ideal Cert.Kernel5Ideal.Gen
open Idealize.ShloMosaic.Pipeline (Dat)

variable (m : (ℓ : Loc nD τ sig) → Buf (Elt Ideal) ℓ)

/-- Where each window's block lies at a point: point `t` works on batch `t / 8` and rows `512 (t mod 8)` on. -/
theorem index_facts : ∀ t : Fin grid0.N,
    (win0_0.index t 0 = t.val / 8 ∧ win0_0.index t 1 = t.val % 8 ∧ win0_0.index t 2 = 0)
      ∧ (win0_1.index t 0 = 0 ∧ win0_1.index t 1 = 0)
      ∧ (win0_2.index t 0 = 0 ∧ win0_2.index t 1 = 0)
      ∧ (win0_4.index t 0 = 0 ∧ win0_4.index t 1 = 0)
      ∧ (win0_5.index t 0 = 0 ∧ win0_5.index t 1 = 0)
      ∧ (win0_6.index t 0 = 0 ∧ win0_6.index t 1 = 0)
      ∧ (win0_7.index t 0 = 0 ∧ win0_7.index t 1 = 0)
      ∧ (win0_8.index t 0 = t.val / 8 ∧ win0_8.index t 1 = 0 ∧ win0_8.index t 2 = 0 ∧ win0_8.index t 3 = t.val % 8)
      ∧ (win0_10.index t 0 = t.val / 8 ∧ win0_10.index t 1 = 0 ∧ win0_10.index t 2 = t.val % 8)
      ∧ (win0_11.index t 0 = t.val / 8 ∧ win0_11.index t 1 = 0 ∧ win0_11.index t 2 = t.val % 8)
      ∧ (win0_13.index t 0 = t.val / 8 ∧ win0_13.index t 1 = t.val % 8 ∧ win0_13.index t 2 = 0)
      ∧ (win0_14.index t 0 = t.val / 8 ∧ win0_14.index t 1 = 0 ∧ win0_14.index t 2 = t.val % 8) := by
  decide +kernel

/-- The row of the projection at batch `b` and position `p`, through column `n`. -/
def entry (c : Dev nD) (b : Fin 4) (p : Fin 4096) (n : Fin 2572) : EReal :=
  proj (fun k => m ((c : Thread nD τ).loc main_arg0) (ix3 b p k))
    (fun k => m ((c : Thread nD τ).loc main_arg1) (ix1 k)) (fun k => m ((c : Thread nD τ).loc main_arg2) (ix2 k n))

/-- The queries, scaled, at batch `b`, head `h`, lane `l` and position `p`. -/
def query (c : Dev nD) (b : Fin 4) (h : Fin 6) (l : Fin 128) (p : Fin 4096) : EReal :=
  entry m c b p ⟨0 + (h.val * 128 + l.val), by omega⟩ * Named.named (F := Ideal) (φ := .f32) κ "log2e_8" 0x3E38AA3B#32

/-- The logarithm of the forget gate of row `n`, at batch `b` and position `p`: zero in the rows without a head. -/
def gate (c : Dev nD) (b : Fin 4) (n : Fin 16) (p : Fin 4096) : EReal :=
  if h : n.val < 12 then logSigmoid (entry m c b p ⟨2304 + n.val, by omega⟩
    + (m ((c : Thread nD τ).loc main_arg3) : Vec Ideal S12 .f32) (ix1 ⟨n.val, h⟩)) else 0

def queries (c : Dev nD) : Buf (Elt Ideal) ((c : Thread nD τ).loc main_v25_0) := fun (i : S4x6x128x4096.Idx) =>
  query m c (i 0) (i 1) (i 2) (i 3)

def keys (c : Dev nD) : Buf (Elt Ideal) ((c : Thread nD τ).loc main_v25_2) := fun (i : S4x768x4096.Idx) =>
  entry m c (i 0) (i 2) ⟨768 + (i 1).val, by have : (i 1).val < 768 := (i 1).isLt; omega⟩

def values (c : Dev nD) : Buf (Elt Ideal) ((c : Thread nD τ).loc main_v25_3) := fun (i : S4x768x4096.Idx) =>
  entry m c (i 0) (i 2) ⟨1536 + (i 1).val, by have : (i 1).val < 768 := (i 1).isLt; omega⟩

def memoryQueries (c : Dev nD) : Buf (Elt Ideal) ((c : Thread nD τ).loc main_v25_5) := fun (i : S4x4096x256.Idx) =>
  entry m c (i 0) (i 1) ⟨2316 + (i 2).val, by have : (i 2).val < 256 := (i 2).isLt; omega⟩
    * Ideal.ofBits .f32 0x3E000000#32

def gates (c : Dev nD) : Buf (Elt Ideal) ((c : Thread nD τ).loc main_v25_6) := fun (i : S4x16x4096.Idx) =>
  gate m c (i 0) (i 1) (i 2)

/-- The batch a point works on. -/
def batch (t : Fin cfg0.N) : Fin 4 := ⟨t.val / 8, by have h : t.val < 32 := t.isLt; omega⟩

/-- The position of row `r` of a point's block. -/
def position (t : Fin cfg0.N) (r : Fin 512) : Fin 4096 := ⟨t.val % 8 * 512 + r.val, by omega⟩

theorem block_rows (c : Dev nD) (t : Fin cfg0.N) (r : Fin 512) (k : Fin 1024) :
    (iblk m c 0 t : Vec Ideal S1x512x1024 .f32) (ix3 0 r k)
      = m ((c : Thread nD τ).loc main_arg0) (ix3 (batch t) (position t r) k) := by
  obtain ⟨⟨h0, h1, h2⟩, -⟩ := index_facts t
  unfold iblk
  rw [View.read_apply]
  show V m c main_arg0 _ = _
  rw [V_main_arg0]
  congr 1
  funext a
  apply Fin.ext
  match a with
  | ⟨0, _⟩ => show win0_0.index t 0 * 1 + 1 * 0 = t.val / 8; omega
  | ⟨1, _⟩ => show win0_0.index t 1 * 512 + 1 * r.val = t.val % 8 * 512 + r.val; omega
  | ⟨2, _⟩ => show win0_0.index t 2 * 1024 + 1 * k.val = k.val; omega

theorem block_gain (c : Dev nD) (t : Fin cfg0.N) (k : Fin 1024) :
    (iblk m c 1 t : Vec Ideal S1x1024 .f32) (ix2 0 k) = m ((c : Thread nD τ).loc main_arg1) (ix1 k) := by
  obtain ⟨-, ⟨h0, h1⟩, -⟩ := index_facts t
  unfold iblk
  rw [View.read_apply]
  show V m c main_v18 _ = _
  rw [V_gain]
  have e : ∀ j : S1x1024.Idx, j = ix2 (0 : Fin 1) k →
      shapeCast S1x1024 (m ((c : Thread nD τ).loc main_arg1) : Vec Ideal S1024 .f32)
        shapeCasts_S1024_S1x1024 j = m ((c : Thread nD τ).loc main_arg1) (ix1 k) := by
    intro j hj; subst hj; pointwise
  rw [e]
  funext a
  apply Fin.ext
  match a with
  | ⟨0, _⟩ => show win0_1.index t 0 * 1 + 1 * 0 = 0; omega
  | ⟨1, _⟩ => show win0_1.index t 1 * 1024 + 1 * k.val = k.val; omega

theorem block_query (c : Dev nD) (t : Fin cfg0.N) (n : Fin 768) (k : Fin 1024) :
    (iblk m c 2 t : Vec Ideal S768x1024 .bf16) (ix2 n k)
      = m ((c : Thread nD τ).loc main_arg2) (ix2 k ⟨0 + n.val, by omega⟩) := by
  obtain ⟨-, -, ⟨h0, h1⟩, -⟩ := index_facts t
  unfold iblk
  rw [View.read_apply]
  show V m c main_v20 _ = _
  rw [V_query]
  refine Eq.trans (congrArg (rowsFrom (m ((c : Thread nD τ).loc main_arg2)) 0 slices_S2572x1024_S768x1024_0_0) (?_ : _ = (ix2 n k : S768x1024.Idx)))
    (rowsFrom_apply _ 0 _ (by decide) n k)
  funext a
  apply Fin.ext
  match a with
  | ⟨0, _⟩ => show win0_2.index t 0 * 768 + 1 * n.val = n.val; omega
  | ⟨1, _⟩ => show win0_2.index t 1 * 1024 + 1 * k.val = k.val; omega

theorem block_key (c : Dev nD) (t : Fin cfg0.N) (n : Fin 768) (k : Fin 1024) :
    (iblk m c 4 t : Vec Ideal S784x1024 .bf16) (ix2 ⟨n.val, by omega⟩ k)
      = m ((c : Thread nD τ).loc main_arg2) (ix2 k ⟨768 + n.val, by omega⟩) := by
  obtain ⟨-, -, -, ⟨h0, h1⟩, -⟩ := index_facts t
  unfold iblk
  rw [View.read_apply]
  show V m c main_v17 _ = _
  rw [V_key]
  refine Eq.trans (congrArg (keyGateRows (m ((c : Thread nD τ).loc main_arg2))) (?_ : _ = (ix2 ⟨n.val, by omega⟩ k : S784x1024.Idx)))
    (keyRows_apply _ n k)
  funext a
  apply Fin.ext
  match a with
  | ⟨0, _⟩ => show win0_4.index t 0 * 784 + 1 * n.val = n.val; omega
  | ⟨1, _⟩ => show win0_4.index t 1 * 1024 + 1 * k.val = k.val; omega

theorem block_gate (c : Dev nD) (t : Fin cfg0.N) (n : Fin 16) (hn : n.val < 12) (k : Fin 1024) :
    (iblk m c 4 t : Vec Ideal S784x1024 .bf16) (ix2 ⟨768 + n.val, by omega⟩ k)
      = m ((c : Thread nD τ).loc main_arg2) (ix2 k ⟨2304 + n.val, by omega⟩) := by
  obtain ⟨-, -, -, ⟨h0, h1⟩, -⟩ := index_facts t
  unfold iblk
  rw [View.read_apply]
  show V m c main_v17 _ = _
  rw [V_key]
  refine Eq.trans (congrArg (keyGateRows (m ((c : Thread nD τ).loc main_arg2))) (?_ : _ = (ix2 ⟨768 + n.val, by omega⟩ k : S784x1024.Idx)))
    (keyGateRows_apply _ n hn k)
  funext a
  apply Fin.ext
  match a with
  | ⟨0, _⟩ => show win0_4.index t 0 * 784 + 1 * (768 + n.val) = (768 + n.val); omega
  | ⟨1, _⟩ => show win0_4.index t 1 * 1024 + 1 * k.val = k.val; omega

theorem block_value (c : Dev nD) (t : Fin cfg0.N) (n : Fin 768) (k : Fin 1024) :
    (iblk m c 5 t : Vec Ideal S768x1024 .bf16) (ix2 n k)
      = m ((c : Thread nD τ).loc main_arg2) (ix2 k ⟨1536 + n.val, by omega⟩) := by
  obtain ⟨-, -, -, -, ⟨h0, h1⟩, -⟩ := index_facts t
  unfold iblk
  rw [View.read_apply]
  show V m c main_v23 _ = _
  rw [V_value]
  refine Eq.trans (congrArg (rowsFrom (m ((c : Thread nD τ).loc main_arg2)) 1536 slices_S2572x1024_S768x1024_1536_0) (?_ : _ = (ix2 n k : S768x1024.Idx)))
    (rowsFrom_apply _ 1536 _ (by decide) n k)
  funext a
  apply Fin.ext
  match a with
  | ⟨0, _⟩ => show win0_5.index t 0 * 768 + 1 * n.val = n.val; omega
  | ⟨1, _⟩ => show win0_5.index t 1 * 1024 + 1 * k.val = k.val; omega

theorem block_memory (c : Dev nD) (t : Fin cfg0.N) (k : Fin 1024) (n : Fin 256) :
    (iblk m c 6 t : Vec Ideal S1024x256 .bf16) (ix2 k n)
      = m ((c : Thread nD τ).loc main_arg2) (ix2 k ⟨2316 + n.val, by omega⟩) := by
  obtain ⟨-, -, -, -, -, ⟨h0, h1⟩, -⟩ := index_facts t
  unfold iblk
  rw [View.read_apply]
  show V m c main_v24 _ = _
  rw [V_memory]
  refine Eq.trans (congrArg (memoryColumns (m ((c : Thread nD τ).loc main_arg2))) (?_ : _ = (ix2 k n : S1024x256.Idx)))
    (memoryColumns_apply _ k n)
  funext a
  apply Fin.ext
  match a with
  | ⟨0, _⟩ => show win0_6.index t 0 * 1024 + 1 * k.val = k.val; omega
  | ⟨1, _⟩ => show win0_6.index t 1 * 256 + 1 * n.val = n.val; omega

theorem block_bias (c : Dev nD) (t : Fin cfg0.N) (n : Fin 16) (hn : n.val < 12) :
    (iblk m c 7 t : Vec Ideal S16x1 .f32) (ix2 n 0)
      = (m ((c : Thread nD τ).loc main_arg3) : Vec Ideal S12 .f32) (ix1 ⟨n.val, hn⟩) := by
  obtain ⟨-, -, -, -, -, -, ⟨h0, h1⟩, -⟩ := index_facts t
  unfold iblk
  rw [View.read_apply]
  show V m c main_v10 _ = _
  rw [V_bias]
  refine Eq.trans (congrArg (biases (m ((c : Thread nD τ).loc main_arg3))) (?_ : _ = (ix2 n 0 : S16x1.Idx)))
    (biases_apply _ n hn)
  funext a
  apply Fin.ext
  match a with
  | ⟨0, _⟩ => show win0_7.index t 0 * 16 + 1 * n.val = n.val; omega
  | ⟨1, _⟩ => show win0_7.index t 1 * 1 + 1 * 0 = 0; omega

/-- What a point writes back to the array of keys, in either case. -/
theorem point_keys (c : Dev nD) (t : Fin cfg0.N) : (dats m 0 c).flushed 10 t
    = (cfg0.win 10).cut (grid0.coords t) (k0_pay6 (F := Ideal) (k0_pay4 (iblk m c 0 t) (iblk m c 1 t) (iblk m c 4 t))) := by
  by_cases h0 : t.val % 8 = 0
  · exact (Value.flushed10_A m c t h0).trans (congrArg _ (keys_A ..))
  · exact (Value.flushed10_B m c t h0).trans (congrArg _ (keys_B ..))

/-- What a point writes back to the array of values, in either case. -/
theorem point_values (c : Dev nD) (t : Fin cfg0.N) : (dats m 0 c).flushed 11 t
    = (cfg0.win 11).cut (grid0.coords t) (k0_pay7 (F := Ideal) (k0_pay1 (iblk m c 0 t) (iblk m c 1 t)) (iblk m c 5 t)) := by
  by_cases h0 : t.val % 8 = 0
  · exact (Value.flushed11_A m c t h0).trans (congrArg _ (values_A ..))
  · exact (Value.flushed11_B m c t h0).trans (congrArg _ (values_B ..))

/-- What a point writes back to the array of memory queries, in either case. -/
theorem point_memory_queries (c : Dev nD) (t : Fin cfg0.N) : (dats m 0 c).flushed 13 t
    = (cfg0.win 13).cut (grid0.coords t) (k0_pay2 (F := Ideal) (iblk m c 0 t) (iblk m c 1 t) (iblk m c 6 t)) := by
  by_cases h0 : t.val % 8 = 0
  · exact (Value.flushed13_A m c t h0).trans (congrArg _ (memory_queries_A ..))
  · exact (Value.flushed13_B m c t h0).trans (congrArg _ (memory_queries_B ..))

/-- What a point writes back to the array of log forget gates, in either case. -/
theorem point_gates (c : Dev nD) (t : Fin cfg0.N) : (dats m 0 c).flushed 14 t
    = (cfg0.win 14).cut (grid0.coords t) (k0_pay23 (F := Ideal) (k0_pay4 (iblk m c 0 t) (iblk m c 1 t) (iblk m c 4 t)) (iblk m c 7 t)) := by
  by_cases h0 : t.val % 8 = 0
  · exact (Value.flushed14_A m c t h0).trans (congrArg _ (gates_A ..))
  · exact (Value.flushed14_B m c t h0).trans (congrArg _ (gates_B ..))

/-- What a point writes back to the array of queries is that array read through its block. -/
theorem flushed_queries (c : Dev nD) (t : Fin cfg0.N) (_ : (cfg0.win 8).flush t = true) :
    (dats m 0 c).flushed 8 t = ((cfg0.win 8).blk t).view.read (Elt Ideal) (queries m c) := by
  have ⟨h0, h1, h2, h3⟩ : win0_8.index t 0 = t.val / 8 ∧ win0_8.index t 1 = 0
      ∧ win0_8.index t 2 = 0 ∧ win0_8.index t 3 = t.val % 8 := by
    have := index_facts t; tauto
  refine funext fun (j : S1x6x128x512.Idx) => ?_
  obtain ⟨a, n1, n2, r, rfl⟩ : ∃ (a : Fin 1) (n1 : Fin 6) (n2 : Fin 128) (r : Fin 512), j = ix4 a n1 n2 r :=
    ⟨_, _, _, _, eq_ix4 j⟩
  obtain rfl : a = 0 := Subsingleton.elim _ _
  have e : (((cfg0.win 8).blk t).view.emb (ix4 0 n1 n2 r : S1x6x128x512.Idx) : S4x6x128x4096.Idx)
      = ix4 (batch t) n1 n2 (position t r) := by
    funext a
    apply Fin.ext
    match a with
    | ⟨0, _⟩ => show win0_8.index t 0 * 1 + 1 * 0 = t.val / 8; omega
    | ⟨1, _⟩ => show win0_8.index t 1 * 6 + 1 * n1.val = n1.val; omega
    | ⟨2, _⟩ => show win0_8.index t 2 * 128 + 1 * n2.val = n2.val; omega
    | ⟨3, _⟩ => show win0_8.index t 3 * 512 + 1 * r.val = t.val % 8 * 512 + r.val; omega
  have key : (dats m 0 c).flushed 8 t (ix4 0 n1 n2 r : S1x6x128x512.Idx)
      = k0_pay3 (F := Ideal) (iblk m c 0 t) (iblk m c 1 t) (iblk m c 2 t) (ix2 ⟨n1.val * 128 + n2.val, by omega⟩ r) := by
    by_cases h0 : t.val % 8 = 0
    · rw [Value.flushed8_A m c t h0]
      exact queries_A ..
    · rw [Value.flushed8_B m c t h0]
      exact queries_B ..
  rw [View.read_apply, e]
  refine key.trans ?_
  rw [pay3_apply]
  simp only [block_rows, block_gain, block_query]
  rfl

/-- So the array ends holding the queries. -/
theorem final_queries (c : Dev nD) : (dats m 0 c).arrAt 8 cfg0.N = queries m c :=
  (dats m 0 c).arrAt_eq_of_cover 8 (queries m c) (flushed_queries m c) fun (i : S4x6x128x4096.Idx) => by
    have e0 : (i 0).val < 4 := (i 0).isLt
    have e1 : (i 1).val < 6 := (i 1).isLt
    have e2 : (i 2).val < 128 := (i 2).isLt
    have e3 : (i 3).val < 4096 := (i 3).isLt
    have hN : cfg0.N = 32 := by decide
    let t : Fin cfg0.N := ⟨(i 0).val * 8 + (i 3).val / 512, by omega⟩
    have ⟨h0, h1, h2, h3⟩ : win0_8.index t 0 = t.val / 8 ∧ win0_8.index t 1 = 0
      ∧ win0_8.index t 2 = 0 ∧ win0_8.index t 3 = t.val % 8 := by
      have := index_facts t; tauto
    refine ⟨t, flush0_8 t, ?_⟩
    show i ∈ ((View.whole main_v25_0).slice (win0_8.rect t)).set
    rw [View.set_slice_whole, Rect.mem_set_unit]
    have ht : t.val = (i 0).val * 8 + (i 3).val / 512 := rfl
    intro a
    match a with
    | ⟨0, _⟩ => show win0_8.index t 0 * 1 ≤ (i 0).val ∧ (i 0).val < win0_8.index t 0 * 1 + 1; omega
    | ⟨1, _⟩ => show win0_8.index t 1 * 6 ≤ (i 1).val ∧ (i 1).val < win0_8.index t 1 * 6 + 6; omega
    | ⟨2, _⟩ => show win0_8.index t 2 * 128 ≤ (i 2).val ∧ (i 2).val < win0_8.index t 2 * 128 + 128; omega
    | ⟨3, _⟩ => show win0_8.index t 3 * 512 ≤ (i 3).val ∧ (i 3).val < win0_8.index t 3 * 512 + 512; omega

/-- What a point writes back to the array of keys is that array read through its block. -/
theorem flushed_keys (c : Dev nD) (t : Fin cfg0.N) (_ : (cfg0.win 10).flush t = true) :
    (dats m 0 c).flushed 10 t = ((cfg0.win 10).blk t).view.read (Elt Ideal) (keys m c) := by
  have ⟨h0, h1, h2⟩ : win0_10.index t 0 = t.val / 8 ∧ win0_10.index t 1 = 0 ∧ win0_10.index t 2 = t.val % 8 := by
    have := index_facts t; tauto
  rw [point_keys]
  refine funext fun (j : S1x768x512.Idx) => ?_
  obtain ⟨a, n1, r, rfl⟩ : ∃ (a : Fin 1) (n1 : Fin 768) (r : Fin 512), j = ix3 a n1 r :=
    ⟨_, _, _, eq_ix3 j⟩
  obtain rfl : a = 0 := Subsingleton.elim _ _
  have e : (((cfg0.win 10).blk t).view.emb (ix3 0 n1 r : S1x768x512.Idx) : S4x768x4096.Idx)
      = ix3 (batch t) n1 (position t r) := by
    funext a
    apply Fin.ext
    match a with
    | ⟨0, _⟩ => show win0_10.index t 0 * 1 + 1 * 0 = t.val / 8; omega
    | ⟨1, _⟩ => show win0_10.index t 1 * 768 + 1 * n1.val = n1.val; omega
    | ⟨2, _⟩ => show win0_10.index t 2 * 512 + 1 * r.val = t.val % 8 * 512 + r.val; omega
  rw [View.read_apply]
  show k0_pay6 (F := Ideal) _ (ix3 0 n1 r) = keys m c _
  rw [e, keys_apply]
  simp only [block_rows, block_gain, block_key]
  rfl

/-- So the array ends holding the keys. -/
theorem final_keys (c : Dev nD) : (dats m 0 c).arrAt 10 cfg0.N = keys m c :=
  (dats m 0 c).arrAt_eq_of_cover 10 (keys m c) (flushed_keys m c) fun (i : S4x768x4096.Idx) => by
    have e0 : (i 0).val < 4 := (i 0).isLt
    have e1 : (i 1).val < 768 := (i 1).isLt
    have e2 : (i 2).val < 4096 := (i 2).isLt
    have hN : cfg0.N = 32 := by decide
    let t : Fin cfg0.N := ⟨(i 0).val * 8 + (i 2).val / 512, by omega⟩
    have ⟨h0, h1, h2⟩ : win0_10.index t 0 = t.val / 8 ∧ win0_10.index t 1 = 0 ∧ win0_10.index t 2 = t.val % 8 := by
      have := index_facts t; tauto
    refine ⟨t, flush0_10 t, ?_⟩
    show i ∈ ((View.whole main_v25_2).slice (win0_10.rect t)).set
    rw [View.set_slice_whole, Rect.mem_set_unit]
    have ht : t.val = (i 0).val * 8 + (i 2).val / 512 := rfl
    intro a
    match a with
    | ⟨0, _⟩ => show win0_10.index t 0 * 1 ≤ (i 0).val ∧ (i 0).val < win0_10.index t 0 * 1 + 1; omega
    | ⟨1, _⟩ => show win0_10.index t 1 * 768 ≤ (i 1).val ∧ (i 1).val < win0_10.index t 1 * 768 + 768; omega
    | ⟨2, _⟩ => show win0_10.index t 2 * 512 ≤ (i 2).val ∧ (i 2).val < win0_10.index t 2 * 512 + 512; omega

/-- What a point writes back to the array of values is that array read through its block. -/
theorem flushed_values (c : Dev nD) (t : Fin cfg0.N) (_ : (cfg0.win 11).flush t = true) :
    (dats m 0 c).flushed 11 t = ((cfg0.win 11).blk t).view.read (Elt Ideal) (values m c) := by
  have ⟨h0, h1, h2⟩ : win0_11.index t 0 = t.val / 8 ∧ win0_11.index t 1 = 0 ∧ win0_11.index t 2 = t.val % 8 := by
    have := index_facts t; tauto
  rw [point_values]
  refine funext fun (j : S1x768x512.Idx) => ?_
  obtain ⟨a, n1, r, rfl⟩ : ∃ (a : Fin 1) (n1 : Fin 768) (r : Fin 512), j = ix3 a n1 r :=
    ⟨_, _, _, eq_ix3 j⟩
  obtain rfl : a = 0 := Subsingleton.elim _ _
  have e : (((cfg0.win 11).blk t).view.emb (ix3 0 n1 r : S1x768x512.Idx) : S4x768x4096.Idx)
      = ix3 (batch t) n1 (position t r) := by
    funext a
    apply Fin.ext
    match a with
    | ⟨0, _⟩ => show win0_11.index t 0 * 1 + 1 * 0 = t.val / 8; omega
    | ⟨1, _⟩ => show win0_11.index t 1 * 768 + 1 * n1.val = n1.val; omega
    | ⟨2, _⟩ => show win0_11.index t 2 * 512 + 1 * r.val = t.val % 8 * 512 + r.val; omega
  rw [View.read_apply]
  show k0_pay7 (F := Ideal) _ _ (ix3 0 n1 r) = values m c _
  rw [e, values_apply]
  simp only [block_rows, block_gain, block_value]
  rfl

/-- So the array ends holding the values. -/
theorem final_values (c : Dev nD) : (dats m 0 c).arrAt 11 cfg0.N = values m c :=
  (dats m 0 c).arrAt_eq_of_cover 11 (values m c) (flushed_values m c) fun (i : S4x768x4096.Idx) => by
    have e0 : (i 0).val < 4 := (i 0).isLt
    have e1 : (i 1).val < 768 := (i 1).isLt
    have e2 : (i 2).val < 4096 := (i 2).isLt
    have hN : cfg0.N = 32 := by decide
    let t : Fin cfg0.N := ⟨(i 0).val * 8 + (i 2).val / 512, by omega⟩
    have ⟨h0, h1, h2⟩ : win0_11.index t 0 = t.val / 8 ∧ win0_11.index t 1 = 0 ∧ win0_11.index t 2 = t.val % 8 := by
      have := index_facts t; tauto
    refine ⟨t, flush0_11 t, ?_⟩
    show i ∈ ((View.whole main_v25_3).slice (win0_11.rect t)).set
    rw [View.set_slice_whole, Rect.mem_set_unit]
    have ht : t.val = (i 0).val * 8 + (i 2).val / 512 := rfl
    intro a
    match a with
    | ⟨0, _⟩ => show win0_11.index t 0 * 1 ≤ (i 0).val ∧ (i 0).val < win0_11.index t 0 * 1 + 1; omega
    | ⟨1, _⟩ => show win0_11.index t 1 * 768 ≤ (i 1).val ∧ (i 1).val < win0_11.index t 1 * 768 + 768; omega
    | ⟨2, _⟩ => show win0_11.index t 2 * 512 ≤ (i 2).val ∧ (i 2).val < win0_11.index t 2 * 512 + 512; omega

/-- What a point writes back to the array of memory queries is that array read through its block. -/
theorem flushed_memoryQueries (c : Dev nD) (t : Fin cfg0.N) (_ : (cfg0.win 13).flush t = true) :
    (dats m 0 c).flushed 13 t = ((cfg0.win 13).blk t).view.read (Elt Ideal) (memoryQueries m c) := by
  have ⟨h0, h1, h2⟩ : win0_13.index t 0 = t.val / 8 ∧ win0_13.index t 1 = t.val % 8 ∧ win0_13.index t 2 = 0 := by
    have := index_facts t; tauto
  rw [point_memory_queries]
  refine funext fun (j : S1x512x256.Idx) => ?_
  obtain ⟨a, r, n2, rfl⟩ : ∃ (a : Fin 1) (r : Fin 512) (n2 : Fin 256), j = ix3 a r n2 :=
    ⟨_, _, _, eq_ix3 j⟩
  obtain rfl : a = 0 := Subsingleton.elim _ _
  have e : (((cfg0.win 13).blk t).view.emb (ix3 0 r n2 : S1x512x256.Idx) : S4x4096x256.Idx)
      = ix3 (batch t) (position t r) n2 := by
    funext a
    apply Fin.ext
    match a with
    | ⟨0, _⟩ => show win0_13.index t 0 * 1 + 1 * 0 = t.val / 8; omega
    | ⟨1, _⟩ => show win0_13.index t 1 * 512 + 1 * r.val = t.val % 8 * 512 + r.val; omega
    | ⟨2, _⟩ => show win0_13.index t 2 * 256 + 1 * n2.val = n2.val; omega
  rw [View.read_apply]
  show k0_pay2 (F := Ideal) _ _ _ (ix3 0 r n2) = memoryQueries m c _
  rw [e, pay2_apply]
  simp only [block_rows, block_gain, block_memory]
  rfl

/-- So the array ends holding the memory queries. -/
theorem final_memoryQueries (c : Dev nD) : (dats m 0 c).arrAt 13 cfg0.N = memoryQueries m c :=
  (dats m 0 c).arrAt_eq_of_cover 13 (memoryQueries m c) (flushed_memoryQueries m c) fun (i : S4x4096x256.Idx) => by
    have e0 : (i 0).val < 4 := (i 0).isLt
    have e1 : (i 1).val < 4096 := (i 1).isLt
    have e2 : (i 2).val < 256 := (i 2).isLt
    have hN : cfg0.N = 32 := by decide
    let t : Fin cfg0.N := ⟨(i 0).val * 8 + (i 1).val / 512, by omega⟩
    have ⟨h0, h1, h2⟩ : win0_13.index t 0 = t.val / 8 ∧ win0_13.index t 1 = t.val % 8 ∧ win0_13.index t 2 = 0 := by
      have := index_facts t; tauto
    refine ⟨t, flush0_13 t, ?_⟩
    show i ∈ ((View.whole main_v25_5).slice (win0_13.rect t)).set
    rw [View.set_slice_whole, Rect.mem_set_unit]
    have ht : t.val = (i 0).val * 8 + (i 1).val / 512 := rfl
    intro a
    match a with
    | ⟨0, _⟩ => show win0_13.index t 0 * 1 ≤ (i 0).val ∧ (i 0).val < win0_13.index t 0 * 1 + 1; omega
    | ⟨1, _⟩ => show win0_13.index t 1 * 512 ≤ (i 1).val ∧ (i 1).val < win0_13.index t 1 * 512 + 512; omega
    | ⟨2, _⟩ => show win0_13.index t 2 * 256 ≤ (i 2).val ∧ (i 2).val < win0_13.index t 2 * 256 + 256; omega

/-- What a point writes back to the array of log forget gates is that array read through its block. -/
theorem flushed_gates (c : Dev nD) (t : Fin cfg0.N) (_ : (cfg0.win 14).flush t = true) :
    (dats m 0 c).flushed 14 t = ((cfg0.win 14).blk t).view.read (Elt Ideal) (gates m c) := by
  have ⟨h0, h1, h2⟩ : win0_14.index t 0 = t.val / 8 ∧ win0_14.index t 1 = 0 ∧ win0_14.index t 2 = t.val % 8 := by
    have := index_facts t; tauto
  rw [point_gates]
  refine funext fun (j : S1x16x512.Idx) => ?_
  obtain ⟨a, n1, r, rfl⟩ : ∃ (a : Fin 1) (n1 : Fin 16) (r : Fin 512), j = ix3 a n1 r :=
    ⟨_, _, _, eq_ix3 j⟩
  obtain rfl : a = 0 := Subsingleton.elim _ _
  have e : (((cfg0.win 14).blk t).view.emb (ix3 0 n1 r : S1x16x512.Idx) : S4x16x4096.Idx)
      = ix3 (batch t) n1 (position t r) := by
    funext a
    apply Fin.ext
    match a with
    | ⟨0, _⟩ => show win0_14.index t 0 * 1 + 1 * 0 = t.val / 8; omega
    | ⟨1, _⟩ => show win0_14.index t 1 * 16 + 1 * n1.val = n1.val; omega
    | ⟨2, _⟩ => show win0_14.index t 2 * 512 + 1 * r.val = t.val % 8 * 512 + r.val; omega
  rw [View.read_apply]
  show k0_pay23 (F := Ideal) _ _ (ix3 0 n1 r) = gates m c _
  rw [e, gates_apply]
  show _ = gate m c (batch t) n1 (position t r)
  unfold gate
  by_cases hn : n1.val < 12
  · simp only [hn, if_true, dite_true, block_rows, block_gain, block_gate m c t n1 hn, block_bias m c t n1 hn]
    rfl
  · simp only [hn, if_false, dite_false]

/-- So the array ends holding the log forget gates. -/
theorem final_gates (c : Dev nD) : (dats m 0 c).arrAt 14 cfg0.N = gates m c :=
  (dats m 0 c).arrAt_eq_of_cover 14 (gates m c) (flushed_gates m c) fun (i : S4x16x4096.Idx) => by
    have e0 : (i 0).val < 4 := (i 0).isLt
    have e1 : (i 1).val < 16 := (i 1).isLt
    have e2 : (i 2).val < 4096 := (i 2).isLt
    have hN : cfg0.N = 32 := by decide
    let t : Fin cfg0.N := ⟨(i 0).val * 8 + (i 2).val / 512, by omega⟩
    have ⟨h0, h1, h2⟩ : win0_14.index t 0 = t.val / 8 ∧ win0_14.index t 1 = 0 ∧ win0_14.index t 2 = t.val % 8 := by
      have := index_facts t; tauto
    refine ⟨t, flush0_14 t, ?_⟩
    show i ∈ ((View.whole main_v25_6).slice (win0_14.rect t)).set
    rw [View.set_slice_whole, Rect.mem_set_unit]
    have ht : t.val = (i 0).val * 8 + (i 2).val / 512 := rfl
    intro a
    match a with
    | ⟨0, _⟩ => show win0_14.index t 0 * 1 ≤ (i 0).val ∧ (i 0).val < win0_14.index t 0 * 1 + 1; omega
    | ⟨1, _⟩ => show win0_14.index t 1 * 16 ≤ (i 1).val ∧ (i 1).val < win0_14.index t 1 * 16 + 16; omega
    | ⟨2, _⟩ => show win0_14.index t 2 * 512 ≤ (i 2).val ∧ (i 2).val < win0_14.index t 2 * 512 + 512; omega

end Cert.Gates

end
-- ==== Proof.Gates.Reference.lean ====
/-
What the reference of the forgetting attention's projection computes, over the extended reals.
-/
module

public import proofs.«01_k».proof.Proof.Gen.Reference5Ideal.Read
public import proofs.«01_k».proof.Proof.Gates.Block
public import proofs.«01_k».proof.Proof.Rope.Turned

@[expose] public section

set_option maxRecDepth 16384

noncomputable section

namespace Cert.Gates

open Idealize.ShloMosaic Cert.Rows Cert.Reference5Ideal Cert.Reference5Ideal.Gen Cert.Reference5Ideal.Read

/-- The projection. -/
theorem v13_apply (x0 : Vec Ideal S4x4096x1024 .f32) (x1 : Vec Ideal S1024 .f32) (x2 : Vec Ideal S1024x2572 .f32)
    (b : Fin 4) (p : Fin 4096) (n : Fin 2572) : val_main_v13 (F := Ideal) x0 x1 x2 (ix3 b p n)
      = proj (fun k => x0 (ix3 b p k)) (fun k => x1 (ix1 k)) (fun k => x2 (ix2 k n)) := by
  pointwise [val_main_v0, val_main_v1, val_main_v2, val_main_v3, val_main_v4, val_main_v5, val_main_v6, val_main_v7,
    val_main_v8, val_main_v9, val_main_v10, val_main_v11, val_main_v12, val_main_v13,
    val_main_cst, val_main_cst_0, val_main_cst_1]
  rfl

/-- The factor of the queries, at every entry. -/
theorem v18_apply (i : S4x4096x768.Idx) :
    val_main_v18 (F := Ideal) i = (((8 * (Real.log 2))⁻¹ : ℝ) : EReal) := by
  rw [val_main_v18_apply, val_main_v17_apply, val_main_v16_apply, val_main_v15_apply]
  exact Cert.Rope.scale_eq

/-- The queries, scaled, channels before tokens. -/
theorem v32_apply (x0 : Vec Ideal S4x4096x1024 .f32) (x1 : Vec Ideal S1024 .f32) (x2 : Vec Ideal S1024x2572 .f32)
    (b : Fin 4) (n : Fin 768) (p : Fin 4096) : val_main_v32 (F := Ideal) x0 x1 x2 (ix3 b n p)
      = proj (fun k => x0 (ix3 b p k)) (fun k => x1 (ix1 k)) (fun k => x2 (ix2 k ⟨0 + n.val, by omega⟩))
        * (((8 * (Real.log 2))⁻¹ : ℝ) : EReal) := by
  pointwise [val_main_v14, val_main_v19, val_main_v32]
  rw [v13_apply, v18_apply]

/-- The queries, a head at a time. -/
theorem queries_eq (x0 : Vec Ideal S4x4096x1024 .f32) (x1 : Vec Ideal S1024 .f32) (x2 : Vec Ideal S1024x2572 .f32)
    (b : Fin 4) (h : Fin 6) (l : Fin 128) (p : Fin 4096) : val_main_v34 (F := Ideal) x0 x1 x2 (ix4 b h l p)
      = proj (fun k => x0 (ix3 b p k)) (fun k => x1 (ix1 k))
          (fun k => x2 (ix2 k ⟨0 + (h.val * 128 + l.val), by omega⟩)) * (((8 * (Real.log 2))⁻¹ : ℝ) : EReal) := by
  refine Eq.trans ?_ (v32_apply x0 x1 x2 b ⟨h.val * 128 + l.val, by omega⟩ p)
  refine (val_main_v34_apply x0 x1 x2 _).trans ((val_main_v33_apply x0 x1 x2 _).trans
    (congrArg (val_main_v32 (F := Ideal) x0 x1 x2) ?_))
  funext a
  apply Fin.ext
  have hb := b.isLt
  have hp := p.isLt
  have hh := h.isLt
  have hl := l.isLt
  match a with
  | ⟨0, _⟩ => show (((b.val * 6 + h.val) * 128 + l.val) * 4096 + p.val) / 3145728 = b.val; omega
  | ⟨1, _⟩ => show (((b.val * 6 + h.val) * 128 + l.val) * 4096 + p.val) / 4096 % 768 = h.val * 128 + l.val; omega
  | ⟨2, _⟩ => show (((b.val * 6 + h.val) * 128 + l.val) * 4096 + p.val) % 4096 = p.val; omega

/-- The keys. -/
theorem keys_eq (x0 : Vec Ideal S4x4096x1024 .f32) (x1 : Vec Ideal S1024 .f32) (x2 : Vec Ideal S1024x2572 .f32)
    (b : Fin 4) (n : Fin 768) (p : Fin 4096) : val_main_v35 (F := Ideal) x0 x1 x2 (ix3 b n p)
      = proj (fun k => x0 (ix3 b p k)) (fun k => x1 (ix1 k)) (fun k => x2 (ix2 k ⟨768 + n.val, by omega⟩)) := by
  pointwise [val_main_v20, val_main_v35]
  rw [v13_apply]

/-- The values. -/
theorem values_eq (x0 : Vec Ideal S4x4096x1024 .f32) (x1 : Vec Ideal S1024 .f32) (x2 : Vec Ideal S1024x2572 .f32)
    (b : Fin 4) (n : Fin 768) (p : Fin 4096) : val_main_v36 (F := Ideal) x0 x1 x2 (ix3 b n p)
      = proj (fun k => x0 (ix3 b p k)) (fun k => x1 (ix1 k)) (fun k => x2 (ix2 k ⟨1536 + n.val, by omega⟩)) := by
  pointwise [val_main_v21, val_main_v36]
  rw [v13_apply]

/-- The memory queries, scaled. -/
theorem memory_queries_eq (x0 : Vec Ideal S4x4096x1024 .f32) (x1 : Vec Ideal S1024 .f32)
    (x2 : Vec Ideal S1024x2572 .f32) (b : Fin 4) (p : Fin 4096) (j : Fin 256) :
    val_main_v37 (F := Ideal) x0 x1 x2 (ix3 b p j)
      = proj (fun k => x0 (ix3 b p k)) (fun k => x1 (ix1 k)) (fun k => x2 (ix2 k ⟨2316 + j.val, by omega⟩))
        * Ideal.ofBits .f32 0x3E000000#32 := by
  pointwise [val_main_v29, val_main_cst_5, val_main_v30, val_main_v31, val_main_v37]
  rw [v13_apply]

/-- The logarithm of one plus an exponential is not negative infinity. -/
theorem log1p_exp_ne_bot (x : EReal) : Ideal.log1p (Ideal.exp x) ≠ ⊥ := by
  unfold Ideal.log1p
  induction x with
  | bot =>
    rw [Ideal.exp_bot, add_zero, ← EReal.coe_one, Ideal.log_coe, if_neg (by norm_num)]
    exact EReal.coe_ne_bot _
  | coe r =>
    have h := Real.exp_pos r
    rw [Ideal.exp_coe, ← EReal.coe_one, ← EReal.coe_add, Ideal.log_coe, if_neg (by linarith)]
    exact EReal.coe_ne_bot _
  | top =>
    rw [Ideal.exp_top, ← EReal.coe_one, EReal.coe_add_top, Ideal.log_top]
    exact top_ne_bot

/-- The reference's logarithm of the logistic function, minus the softplus of the negated argument, is the body's. -/
theorem logSigmoid_eq (z : EReal) :
    -(max (-z) 0 + Ideal.log1p (Ideal.exp (-(max (-z) (-(-z)))))) = logSigmoid z := by
  have h0 : max (-z) 0 ≠ ⊥ := fun h => absurd (h ▸ le_max_right (-z) (0 : EReal)) (by simp)
  have hm : -(max (-z) 0) = min z 0 := by
    rcases le_total z 0 with h | h
    · rw [min_eq_left h, max_eq_left (EReal.neg_nonneg.mpr h), neg_neg]
    · rw [min_eq_right h, max_eq_right (EReal.neg_le_zero.mpr h), neg_zero]
  unfold logSigmoid
  rw [EReal.neg_add (Or.inl h0) (Or.inr (log1p_exp_ne_bot _)), hm, neg_neg, max_comm (-z) z, zero_sub]

/-- The logarithms of the gates. -/
theorem gates_eq (x0 : Vec Ideal S4x4096x1024 .f32) (x1 : Vec Ideal S1024 .f32) (x2 : Vec Ideal S1024x2572 .f32)
    (x3 : Vec Ideal S12 .f32) (b : Fin 4) (n : Fin 16) (p : Fin 4096) :
    val_main_v38 (F := Ideal) x0 x1 x2 x3 (ix3 b n p)
      = if h : n.val < 12 then logSigmoid (proj (fun k => x0 (ix3 b p k)) (fun k => x1 (ix1 k))
          (fun k => x2 (ix2 k ⟨2304 + n.val, by omega⟩)) + x3 (ix1 ⟨n.val, h⟩)) else 0 := by
  by_cases h : n.val < 12
  · pointwise [val_main_v38, val_main_v28, val_main_v27, val_main_v26, val_main_call0_v1, val_main_call0_v0,
      val_main_call0_call0_cst, val_main_call0_call0_v0, val_main_call0_call0_v1, val_main_call0_call0_v2,
      val_main_call0_call0_v3, val_main_call0_call0_v4, val_main_call0_call0_v5, val_main_call0_call0_v6,
      val_main_call0_call0_v7, val_main_call0_call0_v8, val_main_call0_call0_v9, val_main_call0_call0_v10,
      val_main_call0_call0_v11, val_main_v25, val_main_v24, val_main_v23, val_main_v22]
    simp only [h, dite_true, v13_apply]
    simp only [ne_eq, not_true_eq_false, if_false]
    exact logSigmoid_eq _
  · pointwise [val_main_v38, val_main_v28, val_main_v27, val_main_cst_4]
    simp only [h, dite_false]

end Cert.Gates

end
-- ==== Proof.Gates.Claims.lean ====
/-
The projection of the forgetting attention and its reference: each ends with its arguments unchanged, and over the
extended reals both end with the same five arrays.
-/
module

public import proofs.«01_k».proof.Proof.Gates.Array
public import proofs.«01_k».proof.Proof.Gates.Reference
public import proofs.«01_k».proof.Proof.Gen.Kernel5.Frame
public import proofs.«01_k».proof.Defs
public import Idealize.ShloMosaic.Lib.Quiescent

@[expose] public section

noncomputable section

namespace Cert.Gates

open Idealize.ShloMosaic Idealize.ShloMosaic.TcCoe

/-- The reference ends with its arguments unchanged. -/
theorem reference_framed : Cert.quiescent_Reference5Ideal := fun m ρ _ =>
  (θ_run Cert.Reference5Ideal.defs _ _).mono
    (fun r h => ⟨fun c => (h c).2.2.2.2.2, sem_eq_zero_of_no_sems (by decide) r.2⟩)
    (Cert.Reference5Ideal.Value.run (F := Ideal) m ρ)

/-- Naming the scale of the queries keeps the kernel's meaning. -/
theorem preserved : Cert.preserves_Kernel5_Kernel5Ideal :=
  IdealRules.named_const.statement Cert.Kernel5Ideal.κ "log2e_8" .f32 0x3E38AA3B#32 _ rfl

/-- The named scale of the queries. -/
theorem scale_named : Named.named (F := Ideal) (φ := .f32) Cert.Kernel5Ideal.κ "log2e_8" 0x3E38AA3B#32
    = (((8 * (Real.log 2))⁻¹ : ℝ) : EReal) :=
  IdealRules.named_const.ideal_named_scalar _ _ _ _ rfl

section

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)
  (c : Dev Cert.Kernel5Ideal.nD)
  (h0 : m' ((c.tc : Thread Cert.Reference5Ideal.nD Cert.Reference5Ideal.τ).loc Cert.Reference5Ideal.main_arg0)
    = m ((c.tc : Thread Cert.Kernel5Ideal.nD Cert.Kernel5Ideal.τ).loc Cert.Kernel5Ideal.main_arg0))
  (h1 : m' ((c.tc : Thread Cert.Reference5Ideal.nD Cert.Reference5Ideal.τ).loc Cert.Reference5Ideal.main_arg1)
    = m ((c.tc : Thread Cert.Kernel5Ideal.nD Cert.Kernel5Ideal.τ).loc Cert.Kernel5Ideal.main_arg1))
  (h2 : m' ((c.tc : Thread Cert.Reference5Ideal.nD Cert.Reference5Ideal.τ).loc Cert.Reference5Ideal.main_arg2)
    = m ((c.tc : Thread Cert.Kernel5Ideal.nD Cert.Kernel5Ideal.τ).loc Cert.Kernel5Ideal.main_arg2))

include h0 h1 h2

/-- The reference's queries are the kernel's. -/
theorem same_queries : Cert.Reference5Ideal.Read.val_main_v34 (F := Ideal)
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
      = queries m c := by
  rw [h0, h1, h2]
  refine funext fun (j : Cert.Reference5Ideal.S4x6x128x4096.Idx) => ?_
  rw [eq_ix4 j]
  refine (queries_eq _ _ _ _ _ _ _).trans ?_
  rw [← scale_named]
  rfl

/-- The reference's keys are the kernel's. -/
theorem same_keys : Cert.Reference5Ideal.Read.val_main_v35 (F := Ideal)
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
      = keys m c := by
  rw [h0, h1, h2]
  refine funext fun (j : Cert.Reference5Ideal.S4x768x4096.Idx) => ?_
  rw [eq_ix3 j]
  exact (keys_eq _ _ _ _ _ _).trans rfl

/-- The reference's values are the kernel's. -/
theorem same_values : Cert.Reference5Ideal.Read.val_main_v36 (F := Ideal)
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
      = values m c := by
  rw [h0, h1, h2]
  refine funext fun (j : Cert.Reference5Ideal.S4x768x4096.Idx) => ?_
  rw [eq_ix3 j]
  exact (values_eq _ _ _ _ _ _).trans rfl

/-- The reference's memory queries are the kernel's. -/
theorem same_memory_queries : Cert.Reference5Ideal.Read.val_main_v37 (F := Ideal)
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
      = memoryQueries m c := by
  rw [h0, h1, h2]
  refine funext fun (j : Cert.Reference5Ideal.S4x4096x256.Idx) => ?_
  rw [eq_ix3 j]
  exact (memory_queries_eq _ _ _ _ _ _).trans rfl

/-- The reference's logarithms of the gates are the kernel's. -/
theorem same_gates
    (h3 : m' ((c.tc : Thread Cert.Reference5Ideal.nD Cert.Reference5Ideal.τ).loc Cert.Reference5Ideal.main_arg3)
    = m ((c.tc : Thread Cert.Kernel5Ideal.nD Cert.Kernel5Ideal.τ).loc Cert.Kernel5Ideal.main_arg3))
    : Cert.Reference5Ideal.Read.val_main_v38 (F := Ideal)
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3))
      = gates m c := by
  rw [h0, h1, h2, h3]
  refine funext fun (j : Cert.Reference5Ideal.S4x16x4096.Idx) => ?_
  rw [eq_ix3 j]
  exact (gates_eq _ _ _ _ _ _ _).trans rfl

end

/-- Kernel and reference end with the same arrays. -/
theorem equal : Cert.algebraic_Kernel5Ideal_Reference5Ideal := by
  intro m ρ m' ρ' _ hagree
  refine ⟨fun c => queries m c, fun c => keys m c, fun c => values m c, fun c => memoryQueries m c,
    fun c => gates m c, ?_, ?_⟩
  · exact (θ_run Cert.Kernel5Ideal.defs _ _).mono
      (fun _ h c => ⟨(h c).1.trans (final_queries m c), (h c).2.2.1.trans (final_keys m c),
        (h c).2.2.2.1.trans (final_values m c), (h c).2.2.2.2.2.1.trans (final_memoryQueries m c),
        (h c).2.2.2.2.2.2.1.trans (final_gates m c), (h c).2.2.2.2.2.2.2⟩)
      (Cert.Kernel5Ideal.Value.run_blocks (F := Ideal) m ρ)
  · exact (θ_run Cert.Reference5Ideal.defs _ _).mono
      (fun _ h c => ⟨(h c).1.trans ((Cert.Reference5Ideal.Read.val_main_v34_eq _ _ _).trans
          (same_queries m m' c (hagree c).1 (hagree c).2.1 (hagree c).2.2.1)),
        (h c).2.1.trans ((Cert.Reference5Ideal.Read.val_main_v35_eq _ _ _).trans
          (same_keys m m' c (hagree c).1 (hagree c).2.1 (hagree c).2.2.1)),
        (h c).2.2.1.trans ((Cert.Reference5Ideal.Read.val_main_v36_eq _ _ _).trans
          (same_values m m' c (hagree c).1 (hagree c).2.1 (hagree c).2.2.1)),
        (h c).2.2.2.1.trans ((Cert.Reference5Ideal.Read.val_main_v37_eq _ _ _).trans
          (same_memory_queries m m' c (hagree c).1 (hagree c).2.1 (hagree c).2.2.1)),
        (h c).2.2.2.2.1.trans ((Cert.Reference5Ideal.Read.val_main_v38_eq _ _).trans
          (same_gates m m' c (hagree c).1 (hagree c).2.1 (hagree c).2.2.1 (hagree c).2.2.2)),
        (h c).2.2.2.2.2⟩)
      (Cert.Reference5Ideal.Value.run (F := Ideal) m' ρ')

end Cert.Gates

end
-- ==== Proof.lean ====
/-
The claims about the attention call, the feed-forward call, the keys and values of the memory and the two
attentions' projections, assembled: the programs' own frames, the named constants and, over the extended reals, their
equality with the references.
-/
module

public import proofs.«01_k».proof.Defs
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Pre_in_pool
public import proofs.«01_k».proof.Proof.Gen.Pre_finite_in_pool
public import proofs.«01_k».proof.Proof.Attn.Claims
public import proofs.«01_k».proof.Proof.Ffn.Claims
public import proofs.«01_k».proof.Proof.MemKv.Claims
public import proofs.«01_k».proof.Proof.Rope.Claims
public import proofs.«01_k».proof.Proof.Gates.Claims

@[expose] public section

noncomputable section

namespace Cert.Proof

open Idealize.ShloMosaic Idealize.SL.Sem

/-- Every claim. -/
theorem claim : Cert.Claim :=
  haveI := Cert.Pre_in_pool.Gen.facts
  haveI := Cert.Pre_finite_in_pool.Gen.facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_in_pool.Gen.facts, Cert.Pre_finite_in_pool.Gen.facts,
    Cert.Attn.kernel_framed, Cert.Attn.ideal_framed, Cert.Attn.ideal_framed_finite,
    Cert.Attn.reference_framed, Cert.Attn.reference_framed_finite,
    fun m ρ _ => Cert.Kernel2.Gen.frame m ρ, fun m ρ _ => Cert.Kernel2Ideal.Gen.frame m ρ, Cert.Ffn.reference_framed,
    fun m ρ _ => Cert.Kernel3.Gen.frame m ρ, fun m ρ _ => Cert.Kernel3Ideal.Gen.frame m ρ, Cert.MemKv.reference_framed,
    fun m ρ _ => Cert.Kernel4.Gen.frame m ρ, fun m ρ _ => Cert.Kernel4Ideal.Gen.frame m ρ, Cert.Rope.reference_framed,
    fun m ρ _ => Cert.Kernel5.Gen.frame m ρ, fun m ρ _ => Cert.Kernel5Ideal.Gen.frame m ρ, Cert.Gates.reference_framed,
    Cert.Attn.preserved, Cert.Attn.equal, trivial, Cert.Ffn.equal, trivial, Cert.MemKv.equal,
    Cert.Rope.preserved, Cert.Rope.equal, Cert.Gates.preserved, Cert.Gates.equal⟩

end Cert.Proof

end
